-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_values_5) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_v30) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S64x4x100000 : Shape := ⟨3, ![64, 4, 100000]⟩
abbrev S64x4 : Shape := ⟨2, ![64, 4]⟩
abbrev S256x8 : Shape := ⟨2, ![256, 8]⟩
abbrev S64x4x1 : Shape := ⟨3, ![64, 4, 1]⟩
abbrev S64x400000 : Shape := ⟨2, ![64, 400000]⟩
abbrev S64x5 : Shape := ⟨2, ![64, 5]⟩
abbrev S_ : Shape := ⟨0, ![]⟩
abbrev S64x1 : Shape := ⟨2, ![64, 1]⟩
abbrev S64 : Shape := ⟨1, ![64]⟩

class Facts : Prop where
  bcast_S64x4_S64x4x1_0_1 : S64x4.BroadcastsInDim S64x4x1 (![0, 1] : Fin 2 → Fin S64x4x1.rank)
  bcast_S64x4x1_S64x4x100000_0_1_2 : S64x4x1.BroadcastsInDim S64x4x100000 (![0, 1, 2] : Fin 3 → Fin S64x4x100000.rank)
  shapeCasts_S64x4x100000_S64x400000 : S64x4x100000.ShapeCasts S64x400000
  sliceFits_S64x400000_S64x5 : S64x400000.Slices (fun _ => 0) S64x5
  slices_S64x5_S64x4_0_0 : S64x5.Slices ![0, 0] S64x4
  bcast_S_S64x4 : S_.BroadcastsInDim S64x4 (![] : Fin 0 → Fin S64x4.rank)
  slices_S64x4_S64x1_0_3 : S64x4.Slices ![0, 3] S64x1
  shapeCasts_S64x1_S64 : S64x1.ShapeCasts S64
  slices_S64x5_S64x1_0_4 : S64x5.Slices ![0, 4] S64x1
  reducesTo_S64_S_d0 : S64.ReducesTo [0] S_
  h_S_ : 0 < S_.numel
  reducesTo_S64x4_S_d0_1 : S64x4.ReducesTo [0, 1] S_

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S64x4 32) (arg1 : IVec S_ 32) : IVec S64x4 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S64x4 32 := broadcastInDim S64x4 ![] bcast_S_S64x4 v2
  let v4 : IVec S64x4 32 := Host.remsi arg0 v3
  let c_1 : IVec S_ 32 := constantI S_ 32 0#32
  let v5 : IVec S64x4 32 := broadcastInDim S64x4 ![] bcast_S_S64x4 c_1
  let v6 : IVec S64x4 1 := cmpi .ne v4 v5
  let c_2 : IVec S_ 32 := constantI S_ 32 0#32
  let v7 : IVec S64x4 32 := broadcastInDim S64x4 ![] bcast_S_S64x4 c_2
  let v8 : IVec S64x4 1 := cmpi .slt v4 v7
  let c_3 : IVec S_ 32 := constantI S_ 32 0#32
  let v9 : IVec S_ 1 := cmpi .slt v2 c_3
  let v10 : IVec S64x4 1 := broadcastInDim S64x4 ![] bcast_S_S64x4 v9
  let v11 : IVec S64x4 1 := cmpi .ne v8 v10
  let v12 : IVec S64x4 1 := andi v11 v6
  let v13 : IVec S64x4 32 := broadcastInDim S64x4 ![] bcast_S_S64x4 v2
  let v14 : IVec S64x4 32 := addi v4 v13
  let v15 : IVec S64x4 32 := select v12 v14 v4
  v15

def fn_part1 {F : FTy → Type} [FloatOps F] (main_v12 : FVec F S64x4 .f32) (main_v17 : IVec S64 1) (main_c_1 : IVec S_ 1) : IVec S_ 1 :=
  let main_v18 : IVec S_ 1 := (fun x v => Host.reduce IntOp.andi x v reducesTo_S64_S_d0 h_S_) main_v17 main_c_1
  let main_cst_2 : FVec F S_ .f32 := constant S_ .f32 0xE0AD78EC#32
  let main_v19 : FVec F S64x4 .f32 := broadcastInDim S64x4 ![] bcast_S_S64x4 main_cst_2
  let main_v20 : IVec S64x4 1 := cmpf .ogt main_v12 main_v19
  let main_c_3 : IVec S_ 1 := constantI S_ 1 1#1
  let main_v21 : IVec S_ 1 := (fun x v => Host.reduce IntOp.andi x v reducesTo_S64x4_S_d0_1 h_S_) main_v20 main_c_3
  let main_v22 : IVec S_ 1 := andi main_v18 main_v21
  main_v22

def fn {F : FTy → Type} [FloatOps F] (main_arg0 : FVec F S64x4x100000 .f32) (main_arg1 : FVec F S64x4 .f32) (main_arg2 : IVec S256x8 32) : IVec S_ 1 :=
  let main_v0 : FVec F S64x4x1 .f32 := broadcastInDim S64x4x1 ![0, 1] bcast_S64x4_S64x4x1_0_1 main_arg1
  let main_v1 : FVec F S64x4x100000 .f32 := broadcastInDim S64x4x100000 ![0, 1, 2] bcast_S64x4x1_S64x4x100000_0_1_2 main_v0
  let main_v2 : FVec F S64x4x100000 .f32 := addf main_v1 main_arg0
  let main_v3 : FVec F S64x400000 .f32 := shapeCast S64x400000 main_v2 shapeCasts_S64x4x100000_S64x400000
  let main_values : FVec F S64x5 .f32 := (fun x => (Host.topK S64x5 1 (FloatOps.cmpfTotal .gt) x sliceFits_S64x400000_S64x5).1) main_v3
  let main_indices : IVec S64x5 32 := (fun x => (Host.topK S64x5 1 (FloatOps.cmpfTotal .gt) x sliceFits_S64x400000_S64x5).2) main_v3
  let main_v4 : FVec F S64x4 .f32 := (extractStridedSlice S64x4 ![0, 0] · slices_S64x5_S64x4_0_0) main_values
  let main_v5 : IVec S64x4 32 := (extractStridedSlice S64x4 ![0, 0] · slices_S64x5_S64x4_0_0) main_indices
  let main_c : IVec S_ 32 := constantI S_ 32 100000#32
  let main_v6 : IVec S64x4 32 := fn_remainder (F := F) main_v5 main_c
  let main_c_0 : IVec S_ 32 := constantI S_ 32 2#32
  let main_v7 : IVec S64x4 32 := broadcastInDim S64x4 ![] bcast_S_S64x4 main_c_0
  let main_v8 : IVec S64x4 1 := cmpi .eq main_v6 main_v7
  let main_v9 : FVec F S64x4 .f32 := uitofp .f32 main_v8
  let main_cst : FVec F S_ .f32 := constant S_ .f32 0xE0AD78EC#32
  let main_v10 : FVec F S64x4 .f32 := broadcastInDim S64x4 ![] bcast_S_S64x4 main_cst
  let main_v11 : FVec F S64x4 .f32 := mulf main_v9 main_v10
  let main_v12 : FVec F S64x4 .f32 := addf main_v4 main_v11
  let main_v13 : FVec F S64x1 .f32 := (extractStridedSlice S64x1 ![0, 3] · slices_S64x4_S64x1_0_3) main_v4
  let main_v14 : FVec F S64 .f32 := shapeCast S64 main_v13 shapeCasts_S64x1_S64
  let main_v15 : FVec F S64x1 .f32 := (extractStridedSlice S64x1 ![0, 4] · slices_S64x5_S64x1_0_4) main_values
  let main_v16 : FVec F S64 .f32 := shapeCast S64 main_v15 shapeCasts_S64x1_S64
  let main_v17 : IVec S64 1 := cmpf .ogt main_v14 main_v16
  let main_c_1 : IVec S_ 1 := constantI S_ 1 1#1
  fn_part1 (F := F) main_v12 main_v17 main_c_1
-- ==== Kernel.lean ====
abbrev S64x4x100000 : Shape := ⟨3, ![64, 4, 100000]⟩
abbrev S64x4 : Shape := ⟨2, ![64, 4]⟩
abbrev S256x8 : Shape := ⟨2, ![256, 8]⟩
abbrev S64x1x4 : Shape := ⟨3, ![64, 1, 4]⟩
abbrev S4x4x100000 : Shape := ⟨3, ![4, 4, 100000]⟩
abbrev S4x1x4 : Shape := ⟨3, ![4, 1, 4]⟩
abbrev S1x64 : Shape := ⟨2, ![1, 64]⟩
abbrev S4x2048 : Shape := ⟨2, ![4, 2048]⟩
abbrev S4x1696 : Shape := ⟨2, ![4, 1696]⟩
abbrev S4x6272 : Shape := ⟨2, ![4, 6272]⟩
abbrev S4x1 : Shape := ⟨2, ![4, 1]⟩
abbrev S1x1 : Shape := ⟨2, ![1, 1]⟩
abbrev S1x4x128 : Shape := ⟨3, ![1, 4, 128]⟩
abbrev S4x128 : Shape := ⟨2, ![4, 128]⟩
abbrev S1x4x6272 : Shape := ⟨3, ![1, 4, 6272]⟩
abbrev S1 : Shape := ⟨1, ![1]⟩
abbrev S1x1x1 : Shape := ⟨3, ![1, 1, 1]⟩
abbrev S1x4x1696 : Shape := ⟨3, ![1, 4, 1696]⟩
abbrev S1x4x2048 : Shape := ⟨3, ![1, 4, 2048]⟩
abbrev S1x1x64 : Shape := ⟨3, ![1, 1, 64]⟩
abbrev S64x32 : Shape := ⟨2, ![64, 32]⟩
abbrev S64x36 : Shape := ⟨2, ![64, 36]⟩
abbrev S64x1 : Shape := ⟨2, ![64, 1]⟩
abbrev S64x8 : Shape := ⟨2, ![64, 8]⟩
abbrev S64 : Shape := ⟨1, ![64]⟩
abbrev S64x9 : Shape := ⟨2, ![64, 9]⟩
abbrev S256x9 : Shape := ⟨2, ![256, 9]⟩

abbrev nBuf : Space → Nat
  | .hbm => 12
  | .vmem => 10
  | .smem => 5
  | _ => 0

abbrev bufTy : (tb : Table) → Fin (tcTables nBuf tb) → BufTy
  | .hbm, ⟨0, _⟩ => ⟨S64x4x100000, .f32⟩
  | .hbm, ⟨1, _⟩ => ⟨S64x4, .f32⟩
  | .hbm, ⟨2, _⟩ => ⟨S256x8, .i32⟩
  | .hbm, ⟨3, _⟩ => ⟨S64x1x4, .f32⟩
  | .hbm, ⟨4, _⟩ => ⟨S64x1x4, .i32⟩
  | .hbm, ⟨5, _⟩ => ⟨S64x32, .i32⟩
  | .hbm, ⟨6, _⟩ => ⟨S64x4, .f32⟩
  | .hbm, ⟨7, _⟩ => ⟨S64x4, .f32⟩
  | .hbm, ⟨8, _⟩ => ⟨S64x4, .f32⟩
  | .hbm, ⟨9, _⟩ => ⟨S64x4, .i32⟩
  | .hbm, ⟨10, _⟩ => ⟨S64x36, .i32⟩
  | .hbm, ⟨11, _⟩ => ⟨S256x9, .i32⟩
  | .local _ .vmem, ⟨0, _⟩ => ⟨S4x4x100000, .f32⟩
  | .local _ .vmem, ⟨1, _⟩ => ⟨S4x4x100000, .f32⟩
  | .local _ .vmem, ⟨2, _⟩ => ⟨S64x1x4, .f32⟩
  | .local _ .vmem, ⟨3, _⟩ => ⟨S64x1x4, .i32⟩
  | .local _ .vmem, ⟨4, _⟩ => ⟨S64x32, .i32⟩
  | .local _ .vmem, ⟨5, _⟩ => ⟨S64x4, .f32⟩
  | .local _ .vmem, ⟨6, _⟩ => ⟨S64x4, .f32⟩
  | .local _ .vmem, ⟨7, _⟩ => ⟨S64x4, .f32⟩
  | .local _ .vmem, ⟨8, _⟩ => ⟨S64x4, .i32⟩
  | .local _ .vmem, ⟨9, _⟩ => ⟨S64x36, .i32⟩
  | .local _ .smem, ⟨0, _⟩ => ⟨S64x4, .f32⟩
  | .local _ .smem, ⟨1, _⟩ => ⟨S4x1x4, .f32⟩
  | .local _ .smem, ⟨2, _⟩ => ⟨S4x1x4, .f32⟩
  | .local _ .smem, ⟨3, _⟩ => ⟨S4x1x4, .i32⟩
  | .local _ .smem, ⟨4, _⟩ => ⟨S4x1x4, .i32⟩
  | _, _ => ⟨S64x4x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc0_stg1_0 : Ref sig .tc := ⟨.smem, 0, rfl⟩
abbrev cc0_stg2_0 : Ref sig .tc := ⟨.smem, 1, rfl⟩
abbrev cc0_stg2_1 : Ref sig .tc := ⟨.smem, 2, rfl⟩
abbrev cc0_stg3_0 : Ref sig .tc := ⟨.smem, 3, rfl⟩
abbrev cc0_stg3_1 : Ref sig .tc := ⟨.smem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14

abbrev nD : Nat := 1
abbrev τ : Topo := Topo.v7x

variable {F : FTy → Type} [FloatOps F]

abbrev grid0 : Pipeline.Grid := ⟨1, ![16], ![false]⟩

def k0_off1 (i : grid0.Coords) (c0_i32_5 : BitVec 32) : Fin 2 → Nat :=
  let arg0 : BitVec 32 := BitVec.ofNat 32 (i 0).val
  let c4_i32 : BitVec 32 := 4#32
  let v0 : BitVec 32 := Scalar.muli arg0 c4_i32
  let v38 : BitVec 32 := Scalar.addi v0 c0_i32_5
  let v39 : Index := Scalar.indexCast v38
  let c0 : Index := 0#32
  ![v39.toNat, 0]
def k0_off2 (i : grid0.Coords) (c0_i32_6 : BitVec 32) : Fin 2 → Nat :=
  let arg0 : BitVec 32 := BitVec.ofNat 32 (i 0).val
  let c4_i32 : BitVec 32 := 4#32
  let v0 : BitVec 32 := Scalar.muli arg0 c4_i32
  let v41 : BitVec 32 := Scalar.addi v0 c0_i32_6
  let v42 : Index := Scalar.indexCast v41
  let c1 : Index := 1#32
  ![v42.toNat, 1]
def k0_off3 (i : grid0.Coords) (c0_i32_7 : BitVec 32) : Fin 2 → Nat :=
  let arg0 : BitVec 32 := BitVec.ofNat 32 (i 0).val
  let c4_i32 : BitVec 32 := 4#32
  let v0 : BitVec 32 := Scalar.muli arg0 c4_i32
  let v44 : BitVec 32 := Scalar.addi v0 c0_i32_7
  let v45 : Index := Scalar.indexCast v44
  let c2 : Index := 2#32
  ![v45.toNat, 2]
def k0_off4 (i : grid0.Coords) (c0_i32_8 : BitVec 32) : Fin 2 → Nat :=
  let arg0 : BitVec 32 := BitVec.ofNat 32 (i 0).val
  let c4_i32 : BitVec 32 := 4#32
  let v0 : BitVec 32 := Scalar.muli arg0 c4_i32
  let v47 : BitVec 32 := Scalar.addi v0 c0_i32_8
  let v48 : Index := Scalar.indexCast v47
  let c3 : Index := 3#32
  ![v48.toNat, 3]
@[reducible] def k0_t1_loop : Scf.Loop 32 :=
  let c0_i32_8698 : BitVec 32 := 0#32
  let c6_i32 : BitVec 32 := 6#32
  let v9476 : BitVec 32 := Scalar.addi c0_i32_8698 c6_i32
  let c1_i32_8699 : BitVec 32 := 1#32
  ⟨c0_i32_8698, v9476, c1_i32_8699⟩
@[reducible] def k0_t2_loop : Scf.Loop 32 :=
  let c0_i32_8885 : BitVec 32 := 0#32
  let c6_i32_8886 : BitVec 32 := 6#32
  let v9795 : BitVec 32 := Scalar.addi c0_i32_8885 c6_i32_8886
  let c1_i32_8887 : BitVec 32 := 1#32
  ⟨c0_i32_8885, v9795, c1_i32_8887⟩
def k0_mult1 (v9777 : BitVec 32) : BitVec 32 :=
  let c47_i32 : BitVec 32 := 47#32
  let v9786 : BitVec 32 := Scalar.minsi v9777 c47_i32
  let c2048_i32 : BitVec 32 := 2048#32
  let v9787 : BitVec 32 := Scalar.muli v9786 c2048_i32
  v9787
def k0_cond1 (v9766 : BitVec 1) : BitVec 1 :=
  let v9767 : BitVec 32 := Scalar.extui v9766
  let c0_i32_8878 : BitVec 32 := 0#32
  let v9768 : BitVec 1 := Scalar.cmpi .ne v9767 c0_i32_8878
  v9768

def k0_cond2 (v9777 : BitVec 32) : BitVec 1 :=
  let c48_i32 : BitVec 32 := 48#32
  let v9782 : BitVec 1 := Scalar.cmpi .eq v9777 c48_i32
  let v9783 : BitVec 32 := Scalar.extui v9782
  let c0_i32_8881 : BitVec 32 := 0#32
  let v9784 : BitVec 1 := Scalar.cmpi .ne v9783 c0_i32_8881
  v9784

def k0_off5 (v9777 : BitVec 32) : Fin 3 → Nat :=
  let c0_8882 : Index := 0#32
  let c0_8883 : Index := 0#32
  let c47_i32 : BitVec 32 := 47#32
  let v9786 : BitVec 32 := Scalar.minsi v9777 c47_i32
  let c2048_i32 : BitVec 32 := 2048#32
  let v9787 : BitVec 32 := Scalar.muli v9786 c2048_i32
  let v9788 : BitVec 32 := v9787
  let v9789 : Index := Scalar.indexCast v9788
  ![0, 0, v9789.toNat]

def k0_chk1 (v9766 : BitVec 1) (v9777 : BitVec 32) : Prop :=
  (∀ (k0_h1 : k0_cond1 v9766 = 1#1), ∀ (k0_h2 : ¬(k0_cond2 v9777 = 1#1)), 2048 ∣ (k0_mult1 v9777).toNat) ∧
  (∀ (k0_h1 : k0_cond1 v9766 = 1#1), ∀ (k0_h2 : ¬(k0_cond2 v9777 = 1#1)), ∀ a, (k0_off5 v9777) a + S1x4x2048.size a ≤ S4x4x100000.size a)
theorem k0_mult1_dvd : ∀ (v9766 : BitVec 1) (v9777 : BitVec 32) (k0_hw1 : k0_chk1 v9766 v9777), ∀ (k0_h1 : k0_cond1 v9766 = 1#1), ∀ (k0_h2 : ¬(k0_cond2 v9777 = 1#1)), 2048 ∣ (k0_mult1 v9777).toNat := fun v9766 v9777 k0_hw1 k0_h1 k0_h2 => k0_hw1.1 k0_h1 k0_h2
theorem k0_off5_inb : ∀ (v9766 : BitVec 1) (v9777 : BitVec 32) (k0_hw1 : k0_chk1 v9766 v9777), ∀ (k0_h1 : k0_cond1 v9766 = 1#1), ∀ (k0_h2 : ¬(k0_cond2 v9777 = 1#1)), ∀ a, (k0_off5 v9777) a + S1x4x2048.size a ≤ S4x4x100000.size a := fun v9766 v9777 k0_hw1 k0_h1 k0_h2 => k0_hw1.2 k0_h1 k0_h2

@[reducible] def k0_t3_loop : Scf.Loop 32 :=
  let c0_i32_8885 : BitVec 32 := 0#32
  let c6_i32_8886 : BitVec 32 := 6#32
  let v9801 : BitVec 32 := Scalar.addi c0_i32_8885 c6_i32_8886
  let c1_i32_8887 : BitVec 32 := 1#32
  ⟨c0_i32_8885, v9801, c1_i32_8887⟩
@[reducible] def k0_t4_loop : Scf.Loop 32 :=
  let c0_i32_8743 : BitVec 32 := 0#32
  let c6_i32_8744 : BitVec 32 := 6#32
  let v9548 : BitVec 32 := Scalar.addi c0_i32_8743 c6_i32_8744
  let c1_i32_8745 : BitVec 32 := 1#32
  ⟨c0_i32_8743, v9548, c1_i32_8745⟩
@[reducible] def k0_t5_loop : Scf.Loop 32 :=
  let c0_i32_8885 : BitVec 32 := 0#32
  let c6_i32_8886 : BitVec 32 := 6#32
  let v9795 : BitVec 32 := Scalar.addi c0_i32_8885 c6_i32_8886
  let c1_i32_8887 : BitVec 32 := 1#32
  ⟨c0_i32_8885, v9795, c1_i32_8887⟩
def k0_mult2 (v9777 : BitVec 32) : BitVec 32 :=
  let c47_i32 : BitVec 32 := 47#32
  let v9786 : BitVec 32 := Scalar.minsi v9777 c47_i32
  let c2048_i32 : BitVec 32 := 2048#32
  let v9787 : BitVec 32 := Scalar.muli v9786 c2048_i32
  v9787
def k0_cond5 (v9766 : BitVec 1) : BitVec 1 :=
  let v9767 : BitVec 32 := Scalar.extui v9766
  let c0_i32_8878 : BitVec 32 := 0#32
  let v9768 : BitVec 1 := Scalar.cmpi .ne v9767 c0_i32_8878
  v9768

def k0_cond6 (v9777 : BitVec 32) : BitVec 1 :=
  let c48_i32 : BitVec 32 := 48#32
  let v9782 : BitVec 1 := Scalar.cmpi .eq v9777 c48_i32
  let v9783 : BitVec 32 := Scalar.extui v9782
  let c0_i32_8881 : BitVec 32 := 0#32
  let v9784 : BitVec 1 := Scalar.cmpi .ne v9783 c0_i32_8881
  v9784

def k0_off6 (v9777 : BitVec 32) : Fin 3 → Nat :=
  let c1_8882 : Index := 1#32
  let c0_8883 : Index := 0#32
  let c47_i32 : BitVec 32 := 47#32
  let v9786 : BitVec 32 := Scalar.minsi v9777 c47_i32
  let c2048_i32 : BitVec 32 := 2048#32
  let v9787 : BitVec 32 := Scalar.muli v9786 c2048_i32
  let v9788 : BitVec 32 := v9787
  let v9789 : Index := Scalar.indexCast v9788
  ![1, 0, v9789.toNat]

def k0_chk2 (v9766 : BitVec 1) (v9777 : BitVec 32) : Prop :=
  (∀ (k0_h5 : k0_cond5 v9766 = 1#1), ∀ (k0_h6 : ¬(k0_cond6 v9777 = 1#1)), 2048 ∣ (k0_mult2 v9777).toNat) ∧
  (∀ (k0_h5 : k0_cond5 v9766 = 1#1), ∀ (k0_h6 : ¬(k0_cond6 v9777 = 1#1)), ∀ a, (k0_off6 v9777) a + S1x4x2048.size a ≤ S4x4x100000.size a)
theorem k0_mult2_dvd : ∀ (v9766 : BitVec 1) (v9777 : BitVec 32) (k0_hw2 : k0_chk2 v9766 v9777), ∀ (k0_h5 : k0_cond5 v9766 = 1#1), ∀ (k0_h6 : ¬(k0_cond6 v9777 = 1#1)), 2048 ∣ (k0_mult2 v9777).toNat := fun v9766 v9777 k0_hw2 k0_h5 k0_h6 => k0_hw2.1 k0_h5 k0_h6
theorem k0_off6_inb : ∀ (v9766 : BitVec 1) (v9777 : BitVec 32) (k0_hw2 : k0_chk2 v9766 v9777), ∀ (k0_h5 : k0_cond5 v9766 = 1#1), ∀ (k0_h6 : ¬(k0_cond6 v9777 = 1#1)), ∀ a, (k0_off6 v9777) a + S1x4x2048.size a ≤ S4x4x100000.size a := fun v9766 v9777 k0_hw2 k0_h5 k0_h6 => k0_hw2.2 k0_h5 k0_h6

@[reducible] def k0_t6_loop : Scf.Loop 32 :=
  let c0_i32_8885 : BitVec 32 := 0#32
  let c6_i32_8886 : BitVec 32 := 6#32
  let v9801 : BitVec 32 := Scalar.addi c0_i32_8885 c6_i32_8886
  let c1_i32_8887 : BitVec 32 := 1#32
  ⟨c0_i32_8885, v9801, c1_i32_8887⟩
@[reducible] def k0_t7_loop : Scf.Loop 32 :=
  let c0_i32_8789 : BitVec 32 := 0#32
  let c6_i32_8790 : BitVec 32 := 6#32
  let v9620 : BitVec 32 := Scalar.addi c0_i32_8789 c6_i32_8790
  let c1_i32_8791 : BitVec 32 := 1#32
  ⟨c0_i32_8789, v9620, c1_i32_8791⟩
@[reducible] def k0_t8_loop : Scf.Loop 32 :=
  let c0_i32_8885 : BitVec 32 := 0#32
  let c6_i32_8886 : BitVec 32 := 6#32
  let v9795 : BitVec 32 := Scalar.addi c0_i32_8885 c6_i32_8886
  let c1_i32_8887 : BitVec 32 := 1#32
  ⟨c0_i32_8885, v9795, c1_i32_8887⟩
def k0_mult3 (v9777 : BitVec 32) : BitVec 32 :=
  let c47_i32 : BitVec 32 := 47#32
  let v9786 : BitVec 32 := Scalar.minsi v9777 c47_i32
  let c2048_i32 : BitVec 32 := 2048#32
  let v9787 : BitVec 32 := Scalar.muli v9786 c2048_i32
  v9787
def k0_cond9 (v9766 : BitVec 1) : BitVec 1 :=
  let v9767 : BitVec 32 := Scalar.extui v9766
  let c0_i32_8878 : BitVec 32 := 0#32
  let v9768 : BitVec 1 := Scalar.cmpi .ne v9767 c0_i32_8878
  v9768

def k0_cond10 (v9777 : BitVec 32) : BitVec 1 :=
  let c48_i32 : BitVec 32 := 48#32
  let v9782 : BitVec 1 := Scalar.cmpi .eq v9777 c48_i32
  let v9783 : BitVec 32 := Scalar.extui v9782
  let c0_i32_8881 : BitVec 32 := 0#32
  let v9784 : BitVec 1 := Scalar.cmpi .ne v9783 c0_i32_8881
  v9784

def k0_off7 (v9777 : BitVec 32) : Fin 3 → Nat :=
  let c2_8882 : Index := 2#32
  let c0_8883 : Index := 0#32
  let c47_i32 : BitVec 32 := 47#32
  let v9786 : BitVec 32 := Scalar.minsi v9777 c47_i32
  let c2048_i32 : BitVec 32 := 2048#32
  let v9787 : BitVec 32 := Scalar.muli v9786 c2048_i32
  let v9788 : BitVec 32 := v9787
  let v9789 : Index := Scalar.indexCast v9788
  ![2, 0, v9789.toNat]

def k0_chk3 (v9766 : BitVec 1) (v9777 : BitVec 32) : Prop :=
  (∀ (k0_h9 : k0_cond9 v9766 = 1#1), ∀ (k0_h10 : ¬(k0_cond10 v9777 = 1#1)), 2048 ∣ (k0_mult3 v9777).toNat) ∧
  (∀ (k0_h9 : k0_cond9 v9766 = 1#1), ∀ (k0_h10 : ¬(k0_cond10 v9777 = 1#1)), ∀ a, (k0_off7 v9777) a + S1x4x2048.size a ≤ S4x4x100000.size a)
theorem k0_mult3_dvd : ∀ (v9766 : BitVec 1) (v9777 : BitVec 32) (k0_hw3 : k0_chk3 v9766 v9777), ∀ (k0_h9 : k0_cond9 v9766 = 1#1), ∀ (k0_h10 : ¬(k0_cond10 v9777 = 1#1)), 2048 ∣ (k0_mult3 v9777).toNat := fun v9766 v9777 k0_hw3 k0_h9 k0_h10 => k0_hw3.1 k0_h9 k0_h10
theorem k0_off7_inb : ∀ (v9766 : BitVec 1) (v9777 : BitVec 32) (k0_hw3 : k0_chk3 v9766 v9777), ∀ (k0_h9 : k0_cond9 v9766 = 1#1), ∀ (k0_h10 : ¬(k0_cond10 v9777 = 1#1)), ∀ a, (k0_off7 v9777) a + S1x4x2048.size a ≤ S4x4x100000.size a := fun v9766 v9777 k0_hw3 k0_h9 k0_h10 => k0_hw3.2 k0_h9 k0_h10

@[reducible] def k0_t9_loop : Scf.Loop 32 :=
  let c0_i32_8885 : BitVec 32 := 0#32
  let c6_i32_8886 : BitVec 32 := 6#32
  let v9801 : BitVec 32 := Scalar.addi c0_i32_8885 c6_i32_8886
  let c1_i32_8887 : BitVec 32 := 1#32
  ⟨c0_i32_8885, v9801, c1_i32_8887⟩
@[reducible] def k0_t10_loop : Scf.Loop 32 :=
  let c0_i32_8835 : BitVec 32 := 0#32
  let c6_i32_8836 : BitVec 32 := 6#32
  let v9692 : BitVec 32 := Scalar.addi c0_i32_8835 c6_i32_8836
  let c1_i32_8837 : BitVec 32 := 1#32
  ⟨c0_i32_8835, v9692, c1_i32_8837⟩
@[reducible] def k0_t11_loop : Scf.Loop 32 :=
  let c0_i32_8885 : BitVec 32 := 0#32
  let c6_i32_8886 : BitVec 32 := 6#32
  let v9795 : BitVec 32 := Scalar.addi c0_i32_8885 c6_i32_8886
  let c1_i32_8887 : BitVec 32 := 1#32
  ⟨c0_i32_8885, v9795, c1_i32_8887⟩
def k0_mult4 (v9777 : BitVec 32) : BitVec 32 :=
  let c47_i32 : BitVec 32 := 47#32
  let v9786 : BitVec 32 := Scalar.minsi v9777 c47_i32
  let c2048_i32 : BitVec 32 := 2048#32
  let v9787 : BitVec 32 := Scalar.muli v9786 c2048_i32
  v9787
def k0_cond13 (v9766 : BitVec 1) : BitVec 1 :=
  let v9767 : BitVec 32 := Scalar.extui v9766
  let c0_i32_8878 : BitVec 32 := 0#32
  let v9768 : BitVec 1 := Scalar.cmpi .ne v9767 c0_i32_8878
  v9768

def k0_cond14 (v9777 : BitVec 32) : BitVec 1 :=
  let c48_i32 : BitVec 32 := 48#32
  let v9782 : BitVec 1 := Scalar.cmpi .eq v9777 c48_i32
  let v9783 : BitVec 32 := Scalar.extui v9782
  let c0_i32_8881 : BitVec 32 := 0#32
  let v9784 : BitVec 1 := Scalar.cmpi .ne v9783 c0_i32_8881
  v9784

def k0_off8 (v9777 : BitVec 32) : Fin 3 → Nat :=
  let c3_8882 : Index := 3#32
  let c0_8883 : Index := 0#32
  let c47_i32 : BitVec 32 := 47#32
  let v9786 : BitVec 32 := Scalar.minsi v9777 c47_i32
  let c2048_i32 : BitVec 32 := 2048#32
  let v9787 : BitVec 32 := Scalar.muli v9786 c2048_i32
  let v9788 : BitVec 32 := v9787
  let v9789 : Index := Scalar.indexCast v9788
  ![3, 0, v9789.toNat]

def k0_chk4 (v9766 : BitVec 1) (v9777 : BitVec 32) : Prop :=
  (∀ (k0_h13 : k0_cond13 v9766 = 1#1), ∀ (k0_h14 : ¬(k0_cond14 v9777 = 1#1)), 2048 ∣ (k0_mult4 v9777).toNat) ∧
  (∀ (k0_h13 : k0_cond13 v9766 = 1#1), ∀ (k0_h14 : ¬(k0_cond14 v9777 = 1#1)), ∀ a, (k0_off8 v9777) a + S1x4x2048.size a ≤ S4x4x100000.size a)
theorem k0_mult4_dvd : ∀ (v9766 : BitVec 1) (v9777 : BitVec 32) (k0_hw4 : k0_chk4 v9766 v9777), ∀ (k0_h13 : k0_cond13 v9766 = 1#1), ∀ (k0_h14 : ¬(k0_cond14 v9777 = 1#1)), 2048 ∣ (k0_mult4 v9777).toNat := fun v9766 v9777 k0_hw4 k0_h13 k0_h14 => k0_hw4.1 k0_h13 k0_h14
theorem k0_off8_inb : ∀ (v9766 : BitVec 1) (v9777 : BitVec 32) (k0_hw4 : k0_chk4 v9766 v9777), ∀ (k0_h13 : k0_cond13 v9766 = 1#1), ∀ (k0_h14 : ¬(k0_cond14 v9777 = 1#1)), ∀ a, (k0_off8 v9777) a + S1x4x2048.size a ≤ S4x4x100000.size a := fun v9766 v9777 k0_hw4 k0_h13 k0_h14 => k0_hw4.2 k0_h13 k0_h14

@[reducible] def k0_t12_loop : Scf.Loop 32 :=
  let c0_i32_8885 : BitVec 32 := 0#32
  let c6_i32_8886 : BitVec 32 := 6#32
  let v9801 : BitVec 32 := Scalar.addi c0_i32_8885 c6_i32_8886
  let c1_i32_8887 : BitVec 32 := 1#32
  ⟨c0_i32_8885, v9801, c1_i32_8887⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .smem S4x1x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S4x1x4 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev stage1_0 : Fin 1 → Memref sig .tc .vmem S64x1x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x1x4 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x32 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S64x4 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S64x36 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
-- ==== ReferenceIdeal.lean ====
abbrev S64x4x100000 : Shape := ⟨3, ![64, 4, 100000]⟩
abbrev S64x4 : Shape := ⟨2, ![64, 4]⟩
abbrev S256x8 : Shape := ⟨2, ![256, 8]⟩
abbrev S64x4x1 : Shape := ⟨3, ![64, 4, 1]⟩
abbrev S64x400000 : Shape := ⟨2, ![64, 400000]⟩
abbrev S_ : Shape := ⟨0, ![]⟩
abbrev S64 : Shape := ⟨1, ![64]⟩
abbrev S64x1 : Shape := ⟨2, ![64, 1]⟩
abbrev S256 : Shape := ⟨1, ![256]⟩
abbrev S256x1 : Shape := ⟨2, ![256, 1]⟩
abbrev S1 : Shape := ⟨1, ![1]⟩
abbrev S1x1 : Shape := ⟨2, ![1, 1]⟩
abbrev S256x9 : Shape := ⟨2, ![256, 9]⟩

abbrev nBuf : Space → Nat
  | .hbm => 125
  | .vmem => 0
  | .smem => 0
  | _ => 0

abbrev bufTy : (tb : Table) → Fin (tcTables nBuf tb) → BufTy
  | .hbm, ⟨0, _⟩ => ⟨S64x4x100000, .f32⟩
  | .hbm, ⟨1, _⟩ => ⟨S64x4, .f32⟩
  | .hbm, ⟨2, _⟩ => ⟨S256x8, .i32⟩
  | .hbm, ⟨3, _⟩ => ⟨S64x4x1, .f32⟩
  | .hbm, ⟨4, _⟩ => ⟨S64x4x100000, .f32⟩
  | .hbm, ⟨5, _⟩ => ⟨S64x4x100000, .f32⟩
  | .hbm, ⟨6, _⟩ => ⟨S64x400000, .f32⟩
  | .hbm, ⟨7, _⟩ => ⟨S64x4, .f32⟩
  | .hbm, ⟨8, _⟩ => ⟨S64x4, .i32⟩
  | .hbm, ⟨9, _⟩ => ⟨S_, .i32⟩
  | .hbm, ⟨10, _⟩ => ⟨S_, .i32⟩
  | .hbm, ⟨11, _⟩ => ⟨S64x4, .i32⟩
  | .hbm, ⟨12, _⟩ => ⟨S64x4, .i32⟩
  | .hbm, ⟨13, _⟩ => ⟨S64x4, .i32⟩
  | .hbm, ⟨14, _⟩ => ⟨S_, .i32⟩
  | .hbm, ⟨15, _⟩ => ⟨S64x4, .i32⟩
  | .hbm, ⟨16, _⟩ => ⟨S64x4, .i1⟩
  | .hbm, ⟨17, _⟩ => ⟨S64x4, .i32⟩
  | .hbm, ⟨18, _⟩ => ⟨S64x4, .i32⟩
  | .hbm, ⟨19, _⟩ => ⟨S_, .i32⟩
  | .hbm, ⟨20, _⟩ => ⟨S64x4, .i32⟩
  | .hbm, ⟨21, _⟩ => ⟨S64x4, .i1⟩
  | .hbm, ⟨22, _⟩ => ⟨S64x4, .i1⟩
  | .hbm, ⟨23, _⟩ => ⟨S_, .i32⟩
  | .hbm, ⟨24, _⟩ => ⟨S64x4, .i32⟩
  | .hbm, ⟨25, _⟩ => ⟨S64x4, .i32⟩
  | .hbm, ⟨26, _⟩ => ⟨S64x4, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S64x4, .i32⟩
  | .hbm, ⟨34, _⟩ => ⟨S64x4, .i32⟩
  | .hbm, ⟨35, _⟩ => ⟨S_, .i32⟩
  | .hbm, ⟨36, _⟩ => ⟨S64x4, .i32⟩
  | .hbm, ⟨37, _⟩ => ⟨S64x4, .i1⟩
  | .hbm, ⟨38, _⟩ => ⟨S_, .i32⟩
  | .hbm, ⟨39, _⟩ => ⟨S64x4, .i32⟩
  | .hbm, ⟨40, _⟩ => ⟨S64x4, .i1⟩
  | .hbm, ⟨41, _⟩ => ⟨S_, .i32⟩
  | .hbm, ⟨42, _⟩ => ⟨S_, .i1⟩
  | .hbm, ⟨43, _⟩ => ⟨S64x4, .i1⟩
  | .hbm, ⟨44, _⟩ => ⟨S64x4, .i1⟩
  | .hbm, ⟨45, _⟩ => ⟨S64x4, .i1⟩
  | .hbm, ⟨46, _⟩ => ⟨S64x4, .i32⟩
  | .hbm, ⟨47, _⟩ => ⟨S64x4, .i32⟩
  | .hbm, ⟨48, _⟩ => ⟨S64x4, .i32⟩
  | .hbm, ⟨49, _⟩ => ⟨S64, .i32⟩
  | .hbm, ⟨50, _⟩ => ⟨S_, .i32⟩
  | .hbm, ⟨51, _⟩ => ⟨S64, .i32⟩
  | .hbm, ⟨52, _⟩ => ⟨S64, .i32⟩
  | .hbm, ⟨53, _⟩ => ⟨S64x1, .i32⟩
  | .hbm, ⟨54, _⟩ => ⟨S64x4, .i32⟩
  | .hbm, ⟨55, _⟩ => ⟨S64x4, .i32⟩
  | .hbm, ⟨56, _⟩ => ⟨S256, .i32⟩
  | .hbm, ⟨57, _⟩ => ⟨S_, .i32⟩
  | .hbm, ⟨58, _⟩ => ⟨S256, .i32⟩
  | .hbm, ⟨59, _⟩ => ⟨S256, .i1⟩
  | .hbm, ⟨60, _⟩ => ⟨S_, .i32⟩
  | .hbm, ⟨61, _⟩ => ⟨S256, .i32⟩
  | .hbm, ⟨62, _⟩ => ⟨S256, .i32⟩
  | .hbm, ⟨63, _⟩ => ⟨S256, .i32⟩
  | .hbm, ⟨64, _⟩ => ⟨S256x1, .i32⟩
  | .hbm, ⟨65, _⟩ => ⟨S1, .i32⟩
  | .hbm, ⟨66, _⟩ => ⟨S_, .i32⟩
  | .hbm, ⟨67, _⟩ => ⟨S256x1, .i32⟩
  | .hbm, ⟨68, _⟩ => ⟨S256x1, .i1⟩
  | .hbm, ⟨69, _⟩ => ⟨S1x1, .i32⟩
  | .hbm, ⟨70, _⟩ => ⟨S256x1, .i32⟩
  | .hbm, ⟨71, _⟩ => ⟨S256x1, .i1⟩
  | .hbm, ⟨72, _⟩ => ⟨S256x1, .i1⟩
  | .hbm, ⟨73, _⟩ => ⟨S_, .i1⟩
  | .hbm, ⟨74, _⟩ => ⟨S256, .i1⟩
  | .hbm, ⟨75, _⟩ => ⟨S256x8, .i32⟩
  | .hbm, ⟨76, _⟩ => ⟨S256x8, .i1⟩
  | .hbm, ⟨77, _⟩ => ⟨S_, .i32⟩
  | .hbm, ⟨78, _⟩ => ⟨S256x8, .i32⟩
  | .hbm, ⟨79, _⟩ => ⟨S256x8, .i32⟩
  | .hbm, ⟨80, _⟩ => ⟨S256x1, .i32⟩
  | .hbm, ⟨81, _⟩ => ⟨S256x9, .i32⟩
  | .hbm, ⟨82, _⟩ => ⟨S_, .i32⟩
  | .hbm, ⟨83, _⟩ => ⟨S64x4, .i32⟩
  | .hbm, ⟨84, _⟩ => ⟨S64x4, .i1⟩
  | .hbm, ⟨85, _⟩ => ⟨S64x4, .f32⟩
  | .hbm, ⟨86, _⟩ => ⟨S_, .f32⟩
  | .hbm, ⟨87, _⟩ => ⟨S64x4, .f32⟩
  | .hbm, ⟨88, _⟩ => ⟨S64x4, .f32⟩
  | .hbm, ⟨89, _⟩ => ⟨S64x4, .f32⟩
  | .hbm, ⟨90, _⟩ => ⟨S_, .f32⟩
  | .hbm, ⟨91, _⟩ => ⟨S64x4, .f32⟩
  | .hbm, ⟨92, _⟩ => ⟨S64x4, .f32⟩
  | .hbm, ⟨93, _⟩ => ⟨S_, .f32⟩
  | .hbm, ⟨94, _⟩ => ⟨S64x4, .f32⟩
  | .hbm, ⟨95, _⟩ => ⟨S64x4, .f32⟩
  | .hbm, ⟨96, _⟩ => ⟨S64x4, .f32⟩
  | .hbm, ⟨97, _⟩ => ⟨S64x4, .f32⟩
  | .hbm, ⟨98, _⟩ => ⟨S64x4, .i32⟩
  | .hbm, ⟨99, _⟩ => ⟨S64x4, .i32⟩
  | .hbm, ⟨100, _⟩ => ⟨S64x4, .i32⟩
  | .hbm, ⟨101, _⟩ => ⟨S256, .i32⟩
  | .hbm, ⟨102, _⟩ => ⟨S_, .i32⟩
  | .hbm, ⟨103, _⟩ => ⟨S256, .i32⟩
  | .hbm, ⟨104, _⟩ => ⟨S256, .i1⟩
  | .hbm, ⟨105, _⟩ => ⟨S_, .i32⟩
  | .hbm, ⟨106, _⟩ => ⟨S256, .i32⟩
  | .hbm, ⟨107, _⟩ => ⟨S256, .i32⟩
  | .hbm, ⟨108, _⟩ => ⟨S256, .i32⟩
  | .hbm, ⟨109, _⟩ => ⟨S256x1, .i32⟩
  | .hbm, ⟨110, _⟩ => ⟨S1, .i32⟩
  | .hbm, ⟨111, _⟩ => ⟨S_, .i32⟩
  | .hbm, ⟨112, _⟩ => ⟨S256x1, .i32⟩
  | .hbm, ⟨113, _⟩ => ⟨S256x1, .i1⟩
  | .hbm, ⟨114, _⟩ => ⟨S1x1, .i32⟩
  | .hbm, ⟨115, _⟩ => ⟨S256x1, .i32⟩
  | .hbm, ⟨116, _⟩ => ⟨S256x1, .i1⟩
  | .hbm, ⟨117, _⟩ => ⟨S256x1, .i1⟩
  | .hbm, ⟨118, _⟩ => ⟨S_, .i1⟩
  | .hbm, ⟨119, _⟩ => ⟨S256, .i1⟩
  | .hbm, ⟨120, _⟩ => ⟨S256x9, .i32⟩
  | .hbm, ⟨121, _⟩ => ⟨S256x9, .i1⟩
  | .hbm, ⟨122, _⟩ => ⟨S_, .i32⟩
  | .hbm, ⟨123, _⟩ => ⟨S256x9, .i32⟩
  | .hbm, ⟨124, _⟩ => ⟨S256x9, .i32⟩
  | _, _ => ⟨S64x4x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v5 : Ref sig .tc := ⟨.hbm, 48, rfl⟩
abbrev main_v6 : Ref sig .tc := ⟨.hbm, 49, rfl⟩
abbrev main_c_1 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_c_4 : Ref sig .tc := ⟨.hbm, 77, rfl⟩
abbrev main_call2_v15 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_c_2 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_cst : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_cst_3 : Ref sig .tc := ⟨.hbm, 90, rfl⟩
abbrev main_v22 : Ref sig .tc := ⟨.hbm, 91, rfl⟩
abbrev main_v23 : Ref sig .tc := ⟨.hbm, 92, rfl⟩
abbrev main_cst_4 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_values_5 : Ref sig .tc := ⟨.hbm, 97, rfl⟩
abbrev main_indices_6 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_call3_c : Ref sig .tc := ⟨.hbm, 102, rfl⟩
abbrev main_call3_v0 : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_c_1 : Ref sig .tc := ⟨.hbm, 110, rfl⟩
abbrev main_call3_c_2 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_c_3 : Ref sig .tc := ⟨.hbm, 118, rfl⟩
abbrev main_call3_v12 : Ref sig .tc := ⟨.hbm, 119, rfl⟩
abbrev main_call3_v13 : Ref sig .tc := ⟨.hbm, 120, rfl⟩
abbrev main_call3_v14 : Ref sig .tc := ⟨.hbm, 121, rfl⟩
abbrev main_call3_c_4 : Ref sig .tc := ⟨.hbm, 122, rfl⟩
abbrev main_call3_v15 : Ref sig .tc := ⟨.hbm, 123, rfl⟩
abbrev main_v30 : Ref sig .tc := ⟨.hbm, 124, rfl⟩

abbrev nD : Nat := 1
abbrev τ : Topo := Topo.v7x

variable {F : FTy → Type} [FloatOps F]
-- ==== Proof.Algo.lean ====
/- The kernel's selection procedure as plain functions, for any reading of the float operations: the greatest entry of an
   array and the least index at which a mask holds; one extraction; one visit of a chunk; the four final choices. Both
   programs' bodies are stated by these. -/
module

public import Idealize.ShloMosaic.Lib.Pointwise

@[expose] public section

noncomputable section

namespace Cert.Proof.Algo

open Idealize.ShloMosaic

variable {F : FTy → Type} [FloatOps F]

abbrev Mat (m n : Nat) : Shape := ⟨2, ![m, n]⟩
abbrev Lift (m n : Nat) : Shape := ⟨3, ![1, m, n]⟩
abbrev Dot : Shape := ⟨1, ![1]⟩
abbrev Dot3 : Shape := ⟨3, ![1, 1, 1]⟩

/-- The shape facts of a reduction over a whole matrix. -/
structure Side (m n : Nat) : Prop where
  up : (Mat m n).ShapeCasts (Lift m n)
  red : (Lift m n).Reduces [1, 2] Dot

theorem side6272 : Side 4 6272 := ⟨by decide, by decide⟩
theorem side2048 : Side 4 2048 := ⟨by decide, by decide⟩
theorem side1696 : Side 4 1696 := ⟨by decide, by decide⟩
theorem side64 : Side 1 64 := ⟨by decide, by decide⟩
theorem dot_up : Dot.ShapeCasts Dot3 := by decide
theorem origin : ∀ a, (![0, 0, 0] : Fin 3 → Nat) a < Dot3.size a := by decide

/-- The number standing for "nothing left", -3e38. -/
def fill : F .f32 := Scalar.ofBits .f32 0xFF61B1E6#32

/-- The greatest entry. -/
def top {m n : Nat} (h : Side m n) (x : FVec F (Mat m n) .f32) : F .f32 :=
  extractAt ![0, 0, 0] (shapeCast Dot3 (multiReduction .maximumf [1, 2] Dot (shapeCast (Lift m n) x h.up) 0xFF800000#32 h.red (.inl rfl) rfl) dot_up) origin

/-- The least entry of `ix` where the mask holds, `2^30` standing where it does not. -/
def least {m n : Nat} (h : Side m n) (c : IVec (Mat m n) 1) (ix : IVec (Mat m n) 32) : BitVec 32 :=
  extractAt ![0, 0, 0] (shapeCast Dot3 (multiReductionI .minsi [1, 2] Dot
    (shapeCast (Lift m n) (select c ix (broadcast (Mat m n) 1073741824#32)) h.up) 2147483647#32 h.red rfl) dot_up) origin

/-- The least index of the greatest entry. -/
def hit {m n : Nat} (h : Side m n) (x : FVec F (Mat m n) .f32) (ix : IVec (Mat m n) 32) : BitVec 32 :=
  least h (cmpf .oeq x (broadcast (Mat m n) (top h x))) ix

/-- The entries of index `p` cleared. -/
def clear {m n : Nat} (ix : IVec (Mat m n) 32) (p : BitVec 32) (x : FVec F (Mat m n) .f32) : FVec F (Mat m n) .f32 :=
  select (cmpi .eq ix (broadcast (Mat m n) p)) (broadcast (Mat m n) fill) x

/-- A count of the filled slots, the slots' values and indices, and what is left to search. -/
abbrev St (F : FTy → Type) (m n : Nat) : Type := BitVec 32 × FVec F (Mat 1 64) .f32 × IVec (Mat 1 64) 32 × FVec F (Mat m n) .f32

theorem iota_lanes : (Mat 1 64).Iotas .tc 32 [1] := by decide
theorem iota_cols : (Mat 4 6272).Iotas .tc 32 [1] := by decide
theorem iota_c0 : (Mat 4 2048).Iotas .tc 32 [0] := by decide
theorem iota_c1 : (Mat 4 2048).Iotas .tc 32 [1] := by decide
theorem iota_t0 : (Mat 4 1696).Iotas .tc 32 [0] := by decide
theorem iota_t1 : (Mat 4 1696).Iotas .tc 32 [1] := by decide
theorem lt32 : 1 < 32 := by decide

/-- The slots' numbers. -/
def lanes : IVec (Mat 1 64) 32 := iota .tc (Mat 1 64) 32 [1] iota_lanes
/-- A chunk's indices: the beam's offset, and the column. -/
def rowC : IVec (Mat 4 2048) 32 := muli (iota .tc (Mat 4 2048) 32 [0] iota_c0) (broadcast (Mat 4 2048) 100000#32)
def colC : IVec (Mat 4 2048) 32 := iota .tc (Mat 4 2048) 32 [1] iota_c1
def rowT : IVec (Mat 4 1696) 32 := muli (iota .tc (Mat 4 1696) 32 [0] iota_t0) (broadcast (Mat 4 1696) 100000#32)
def colT : IVec (Mat 4 1696) 32 := addi (iota .tc (Mat 4 1696) 32 [1] iota_t1) (broadcast (Mat 4 1696) 98304#32)
/-- The window of a column of the window maxima: the column's number divided by 128, rounded down. -/
def windows : IVec (Mat 4 6272) 32 :=
  let k : IVec (Mat 4 6272) 32 := iota .tc (Mat 4 6272) 32 [1] iota_cols
  let q : IVec (Mat 4 6272) 32 := divsi k (broadcast (Mat 4 6272) 128#32)
  let sg : IVec (Mat 4 6272) 32 := subi (extui 32 (cmpi .sgt k (broadcast (Mat 4 6272) 0#32)) lt32) (extui 32 (cmpi .slt k (broadcast (Mat 4 6272) 0#32)) lt32)
  let one : BitVec 32 := Scalar.subi (Scalar.extui (Scalar.cmpi .sgt 128#32 0#32)) (Scalar.extui (Scalar.cmpi .slt 128#32 0#32))
  select (andi (cmpi .ne sg (broadcast (Mat 4 6272) one)) (cmpi .ne (remsi k (broadcast (Mat 4 6272) 128#32)) (broadcast (Mat 4 6272) 0#32)))
    (subi q (broadcast (Mat 4 6272) 1#32)) q

/-- A truth value as the kernel's conditionals take it. -/
def word (b : BitVec 1) : BitVec 1 := Scalar.cmpi .ne (Scalar.extui b : BitVec 32) 0#32

/-- One extraction from a chunk: if the greatest entry reaches the threshold, it and its least index go into the next slot. -/
def take {m n : Nat} (h : Side m n) (ix : IVec (Mat m n) 32) (t : F .f32) (a : St F m n) : St F m n :=
  if word (Scalar.cmpf .oge (top h a.2.2.2) t) = 1#1 then
    (Scalar.minsi (Scalar.addi a.1 1#32) 63#32,
     select (cmpi .eq lanes (broadcast (Mat 1 64) a.1)) (broadcast (Mat 1 64) (top h a.2.2.2)) a.2.1,
     select (cmpi .eq lanes (broadcast (Mat 1 64) a.1)) (broadcast (Mat 1 64) (hit h a.2.2.2 ix)) a.2.2.1,
     clear ix (hit h a.2.2.2 ix) a.2.2.2)
  else a

/-- The first `n` columns from `off` on of member `g` of the block. -/
def piece {α : Type} (X : (⟨3, ![4, 4, 100000]⟩ : Shape).Idx → α) (g : Fin 4) (n off : Nat) : (Lift 4 n).Idx → α :=
  fun j => X (ix3 g (j 1) ⟨(off + (j 2).val) % 100000, Nat.mod_lt _ (by norm_num)⟩)

theorem down2048 : (Lift 4 2048).ShapeCasts (Mat 4 2048) := by decide
theorem down1696 : (Lift 4 1696).ShapeCasts (Mat 4 1696) := by decide
theorem bc2048 : (Mat 4 1).Broadcasts (Mat 4 2048) := by decide
theorem bc1696 : (Mat 4 1).Broadcasts (Mat 4 1696) := by decide

/-- A chunk's scores, those below the threshold replaced by the fill. -/
def keep {n : Nat} (hd : (Lift 4 n).ShapeCasts (Mat 4 n)) (hb : (Mat 4 1).Broadcasts (Mat 4 n)) (x : Vec F (Lift 4 n) .f32)
    (s : FVec F (Mat 4 1) .f32) (t : F .f32) : FVec F (Mat 4 n) .f32 :=
  select (cmpf .oge (addf (shapeCast (Mat 4 n) x hd) (broadcastTo (Mat 4 n) s hb)) (broadcast (Mat 4 n) t))
    (addf (shapeCast (Mat 4 n) x hd) (broadcastTo (Mat 4 n) s hb)) (broadcast (Mat 4 n) fill)

/-- The first column of chunk `p`, as a word. -/
def base (p : BitVec 32) : BitVec 32 := Scalar.muli (Scalar.minsi p 47#32) 2048#32

def ixC (p : BitVec 32) : IVec (Mat 4 2048) 32 := addi (addi rowC colC) (broadcast (Mat 4 2048) (base p))
def ixT : IVec (Mat 4 1696) 32 := addi rowT colT

/-- The chunk visited: six extractions. -/
def visit (X : (⟨3, ![4, 4, 100000]⟩ : Shape).Idx → F .f32) (g : Fin 4) (s : FVec F (Mat 4 1) .f32) (t : F .f32) (p : BitVec 32)
    (a : BitVec 32 × FVec F (Mat 1 64) .f32 × IVec (Mat 1 64) 32) : BitVec 32 × FVec F (Mat 1 64) .f32 × IVec (Mat 1 64) 32 :=
  if word (Scalar.cmpi .eq p 48#32) = 1#1 then
    let b := (take side1696 ixT t)^[6] (a.1, a.2.1, a.2.2, keep down1696 bc1696 (piece X g 1696 98304) s t)
    (b.1, b.2.1, b.2.2.1)
  else
    let b := (take side2048 (ixC p) t)^[6] (a.1, a.2.1, a.2.2, keep down2048 bc2048 (piece X g 2048 (Scalar.indexCast (base p)).toNat) s t)
    (b.1, b.2.1, b.2.2.1)

/-- One trip over the chunks: the first chunk whose window maximum is greatest is visited, if that reaches the threshold. -/
def trip (X : (⟨3, ![4, 4, 100000]⟩ : Shape).Idx → F .f32) (g : Fin 4) (s : FVec F (Mat 4 1) .f32) (t : F .f32)
    (a : St F 4 6272) : St F 4 6272 :=
  if word (Scalar.cmpf .oge (top side6272 a.2.2.2) t) = 1#1 then
    let b := visit X g s t (hit side6272 a.2.2.2 windows) (a.1, a.2.1, a.2.2.1)
    (b.1, b.2.1, b.2.2, clear windows (hit side6272 a.2.2.2 windows) a.2.2.2)
  else a

/-- The window maxima with every entry equal to the greatest replaced by the fill. -/
def lower (x : FVec F (Mat 4 6272) .f32) : FVec F (Mat 4 6272) .f32 :=
  select (cmpf .oeq x (broadcast (Mat 4 6272) (top side6272 x))) (broadcast (Mat 4 6272) fill) x

/-- The threshold: the fourth of the distinct window maxima. -/
def thr (W : FVec F (Mat 4 6272) .f32) : F .f32 := top side6272 (lower (lower (lower W)))

/-- The slots before the first trip. -/
def none64 : FVec F (Mat 1 64) .f32 := broadcast (Mat 1 64) fill
def noix64 : IVec (Mat 1 64) 32 := broadcast (Mat 1 64) 1073741824#32

/-- The slots after the six trips. -/
def gather (X : (⟨3, ![4, 4, 100000]⟩ : Shape).Idx → F .f32) (g : Fin 4) (s : FVec F (Mat 4 1) .f32) (t : F .f32)
    (W : FVec F (Mat 4 6272) .f32) : St F 4 6272 :=
  (trip X g s t)^[6] (0#32, none64, noix64, W)

/-- The slots' values after the best has been taken out. -/
def rest (v : FVec F (Mat 1 64) .f32) (ix : IVec (Mat 1 64) 32) : FVec F (Mat 1 64) .f32 := clear ix (hit side64 v ix) v

/-- The greatest of `x 0`, …, `x n`, taken one after the other. -/
def runmax {m n : Nat} (x : Nat → FVec F (Mat m n) .f32) : Nat → FVec F (Mat m n) .f32
  | 0 => x 0
  | k + 1 => maximumf (runmax x k) (x (k + 1))

/-- The first column of window `w`; the last window ends with the row. -/
def start (w : Nat) : Nat := min (2048 * w) 97952

/-- Window `w`'s maxima, lane by lane: over its sixteen groups of 128 columns. -/
def lanemax (x : Nat → FVec F (Mat 4 128) .f32) (w : Nat) : FVec F (Mat 4 128) .f32 := runmax (fun t => x (start w + 128 * t)) 15

theorem joins : Shape.Concatenates ((List.range 49).map fun _ => Mat 4 128) (Mat 4 6272) 1 := by decide
theorem bc6272 : (Mat 4 1).Broadcasts (Mat 4 6272) := by decide
theorem down128 : (Lift 4 128).ShapeCasts (Mat 4 128) := by decide
theorem iota_rows : (Mat 4 1).Iotas .tc 32 [0] := by decide

/-- The windows' maxima side by side, the beams' scores added. -/
def stack (x : Nat → FVec F (Mat 4 128) .f32) (s : FVec F (Mat 4 1) .f32) : FVec F (Mat 4 6272) .f32 :=
  addf (concatenate (Mat 4 6272) 1 ((List.range 49).map fun w => (⟨Mat 4 128, lanemax x w⟩ : (s : Shape) × (s.Idx → F .f32))) joins)
    (broadcastTo (Mat 4 6272) s bc6272)

/-- The window maxima of member `g` of the block. -/
def maxima (X : (⟨3, ![4, 4, 100000]⟩ : Shape).Idx → F .f32) (g : Fin 4) (s : FVec F (Mat 4 1) .f32) : FVec F (Mat 4 6272) .f32 :=
  stack (fun o => shapeCast (Mat 4 128) (piece X g 128 o) down128) s

/-- Four numbers as a column. -/
def column (a0 a1 a2 a3 : F .f32) : FVec F (Mat 4 1) .f32 :=
  let k : IVec (Mat 4 1) 32 := iota .tc (Mat 4 1) 32 [0] iota_rows
  select (cmpi .eq k (broadcast (Mat 4 1) 0#32)) (broadcast (Mat 4 1) a0)
    (select (cmpi .eq k (broadcast (Mat 4 1) 1#32)) (broadcast (Mat 4 1) a1)
      (select (cmpi .eq k (broadcast (Mat 4 1) 2#32)) (broadcast (Mat 4 1) a2) (broadcast (Mat 4 1) a3)))

/-- The slots' values before the `r`-th choice, and what it takes. -/
def left (a : St F 4 6272) (r : Nat) : FVec F (Mat 1 64) .f32 := (fun v => rest v a.2.2.1)^[r] a.2.1
def chosenV (a : St F 4 6272) (r : Nat) : F .f32 := top side64 (left a r)
def chosenI (a : St F 4 6272) (r : Nat) : BitVec 32 := hit side64 (left a r) a.2.2.1

/-- Member `g`'s slots after all six trips. -/
def slots (X : (⟨3, ![4, 4, 100000]⟩ : Shape).Idx → F .f32) (g : Fin 4) (s : FVec F (Mat 4 1) .f32) : St F 4 6272 :=
  gather X g s (thr (maxima X g s)) (maxima X g s)

end Cert.Proof.Algo

end
-- ==== Proof.Words.lean ====
/- The words of the kernel's chunk search: which column a chunk's load starts at. -/
module

public import proofs.«01_k».proof.Proof.Algo

@[expose] public section

noncomputable section

namespace Cert.Proof.Algo

open Idealize.ShloMosaic

/-- The first column of chunk `p` is `2048` times the least of `p` and `47`. -/
theorem base_toNat (p : BitVec 32) (hp : (0 : Int) ≤ p.toInt) : (base p).toNat = min p.toNat 47 * 2048 := by
  have h1 : p.toNat < 2 ^ 31 := by
    rw [BitVec.toInt_eq_toNat_cond] at hp
    have := p.isLt
    split at hp <;> omega
  have h47 : (47#32 : BitVec 32).toInt = 47 := by decide
  have hp' : p.toInt = p.toNat := by
    rw [BitVec.toInt_eq_toNat_cond]; rw [if_pos (by omega)]
  show (IntOp.muli (IntOp.minsi p 47#32) 2048#32).toNat = _
  unfold IntOp.minsi
  have hs : (p.slt 47#32) = decide (p.toNat < 47) := by
    rw [BitVec.slt, hp', h47]; congr 1; simp
  rw [hs]
  by_cases h : p.toNat < 47
  · rw [if_pos (decide_eq_true h), min_eq_left (by omega)]
    show (p * 2048#32).toNat = _
    rw [BitVec.toNat_mul]
    show p.toNat * 2048 % 2 ^ 32 = _
    omega
  · rw [if_neg (by simpa using h), min_eq_right (by omega)]
    rfl

theorem base_dvd (p : BitVec 32) (hp : (0 : Int) ≤ p.toInt) : 2048 ∣ (base p).toNat :=
  ⟨min p.toNat 47, by rw [base_toNat p hp, Nat.mul_comm]⟩

theorem indexCast_toNat (p : BitVec 32) : (Scalar.indexCast p).toNat = p.toNat := rfl

theorem base_inb (p : BitVec 32) (hp : (0 : Int) ≤ p.toInt) (g : Fin 4) (a : Fin 3) :
    (![g.val, 0, (Scalar.indexCast (base p)).toNat] : Fin 3 → Nat) a + (![1, 4, 2048] : Fin 3 → Nat) a ≤ (![4, 4, 100000] : Fin 3 → Nat) a := by
  have h := base_toNat p hp
  have hm : min p.toNat 47 ≤ 47 := min_le_right _ _
  have hg := g.isLt
  fin_cases a
  · show g.val + 1 ≤ 4
    omega
  · show 0 + 4 ≤ 4
    omega
  · show (Scalar.indexCast (base p)).toNat + 2048 ≤ 100000
    rw [indexCast_toNat]; omega

end Cert.Proof.Algo

end
-- ==== Proof.Pick.lean ====
/- What a reduction over a whole matrix picks: the least index, the greatest entry. -/
module

public import proofs.«01_k».proof.Proof.Words

@[expose] public section

noncomputable section

namespace Cert.Proof.Algo

open Idealize.ShloMosaic

/-- A fold of an operation that returns one of its two arguments: a bound of everything folded, and one of them. -/
theorem fold_pick {α ι : Type} (op : α → α → α) [Std.Commutative op] [Std.Associative op] (r : α → α → Prop)
    (rfl' : ∀ a, r a a) (tr : ∀ a b c, r a b → r b c → r a c) (hl : ∀ a b, r (op a b) a ∧ r (op a b) b) (hc : ∀ a b, op a b = a ∨ op a b = b)
    (init : α) (g : ι → α) (s : Finset ι) :
    r (s.fold op init g) init ∧ (∀ i ∈ s, r (s.fold op init g) (g i)) ∧ (s.fold op init g = init ∨ ∃ i ∈ s, s.fold op init g = g i) := by
  classical
  induction s using Finset.induction with
  | empty => exact ⟨rfl' _, by simp, .inl rfl⟩
  | insert a s ha ih =>
    rw [Finset.fold_insert ha]
    obtain ⟨h1, h2, h3⟩ := ih
    obtain ⟨l1, l2⟩ := hl (g a) (s.fold op init g)
    refine ⟨tr _ _ _ l2 h1, fun i hi => ?_, ?_⟩
    · rcases Finset.mem_insert.mp hi with rfl | hi
      · exact l1
      · exact tr _ _ _ l2 (h2 i hi)
    · rcases hc (g a) (s.fold op init g) with h | h
      · exact .inr ⟨a, Finset.mem_insert_self _ _, h⟩
      · rcases h3 with h3 | ⟨i, hi, h3⟩
        · exact .inl (h.trans h3)
        · exact .inr ⟨i, Finset.mem_insert_of_mem hi, h.trans h3⟩

instance : Subsingleton Dot.Idx := ⟨fun a b => funext fun k => by
  have := Fin.fin_one_eq_zero k; subst this
  exact Fin.ext (by have h1 := (a 0).isLt; have h2 := (b 0).isLt; simp only [Dot] at h1 h2; change (a 0).val < 1 at h1; change (b 0).val < 1 at h2; omega)⟩

theorem minsi_cases (a b : BitVec 32) : (IKind.minsi.op a b = a ∧ a.toInt ≤ b.toInt) ∨ (IKind.minsi.op a b = b ∧ b.toInt ≤ a.toInt) := by
  show (IntOp.minsi a b = a ∧ _) ∨ (IntOp.minsi a b = b ∧ _)
  unfold IntOp.minsi
  split
  · next h => rw [BitVec.slt_iff_toInt_lt] at h; exact .inl ⟨rfl, by omega⟩
  · next h => rw [BitVec.slt_iff_toInt_lt] at h; exact .inr ⟨rfl, by omega⟩

/-- The least entry over a mask whose entries are at most `2^30`. -/
theorem least_spec {m n : Nat} (h : Side m n) (c : IVec (Mat m n) 1) (ix : IVec (Mat m n) 32) (j₀ : (Mat m n).Idx) (hix : ∀ j, (ix j).toInt ≤ 1073741824) :
    (∃ j, least h c ix = if c j = 1#1 then ix j else 1073741824#32) ∧
      ∀ j, (least h c ix).toInt ≤ (if c j = 1#1 then ix j else 1073741824#32).toInt := by
  have hle : ∀ j, (if c j = 1#1 then ix j else 1073741824#32).toInt ≤ 1073741824 := fun j => by
    split
    · exact hix j
    · decide
  obtain ⟨h1, h2, h3⟩ := fold_pick IKind.minsi.op (fun a b => a.toInt ≤ b.toInt) (fun _ => le_refl _) (fun _ _ _ => le_trans)
    (fun a b => by rcases minsi_cases a b with ⟨e, h⟩ | ⟨e, h⟩ <;> rw [e] <;> exact ⟨by omega, by omega⟩)
    (fun a b => by rcases minsi_cases a b with ⟨e, h⟩ | ⟨e, h⟩; exacts [.inl e, .inr e])
    2147483647#32 (shapeCast (Lift m n) (select c ix (broadcast (Mat m n) 1073741824#32)) h.up) Finset.univ
  have he : least h c ix = Finset.univ.fold IKind.minsi.op 2147483647#32 (shapeCast (Lift m n) (select c ix (broadcast (Mat m n) 1073741824#32)) h.up) := by
    unfold least extractAt
    show multiReductionI .minsi [1, 2] Dot _ _ h.red rfl _ = _
    rw [multiReductionI_eq_fold, Finset.filter_true_of_mem fun i _ => Subsingleton.elim _ _]
    rfl
  rw [← he] at h1 h2 h3
  have hall : ∀ j, (least h c ix).toInt ≤ (if c j = 1#1 then ix j else 1073741824#32).toInt := fun j => by
    have := h2 ((Shape.reshapeEquiv h.up).symm j) (Finset.mem_univ _)
    unfold shapeCast at this
    rw [Equiv.apply_symm_apply] at this
    exact this
  refine ⟨?_, hall⟩
  rcases h3 with h3 | ⟨i, -, h3⟩
  · have := (hall j₀).trans (hle j₀)
    rw [h3] at this
    exact absurd this (by decide)
  · exact ⟨Shape.reshapeEquiv h.up i, h3⟩

/-- The greatest entry, over the extended reals. -/
theorem top_spec {m n : Nat} (h : Side m n) (x : FVec Ideal (Mat m n) .f32) (j₀ : (Mat m n).Idx) :
    (∃ j, x j = top h x) ∧ ∀ j, (x j : EReal) ≤ top h x := by
  obtain ⟨-, h2, h3⟩ := fold_pick (FloatOps.maximumf (F := Ideal) (φ := .f32)) (fun a b : EReal => b ≤ a) (fun _ => le_refl _) (fun _ _ _ h h' => le_trans h' h)
    (fun a b => ⟨le_max_left (a : EReal) b, le_max_right (a : EReal) b⟩)
    (fun a b => by rcases max_choice (a : EReal) b with h | h; exacts [.inl h, .inr h])
    (FloatOps.ofBits .f32 0xFF800000#32) (shapeCast (Lift m n) x h.up) Finset.univ
  have he : top h x = Finset.univ.fold (FloatOps.maximumf (F := Ideal) (φ := .f32)) (FloatOps.ofBits .f32 0xFF800000#32) (shapeCast (Lift m n) x h.up) := by
    unfold top extractAt
    show multiReduction .maximumf [1, 2] Dot _ _ h.red _ rfl _ = _
    rw [multiReduction_maximumf_eq_fold, Finset.filter_true_of_mem fun i _ => Subsingleton.elim _ _]
    rfl
  rw [← he] at h2 h3
  have hall : ∀ j, (x j : EReal) ≤ top h x := fun j => by
    have := h2 ((Shape.reshapeEquiv h.up).symm j) (Finset.mem_univ _)
    unfold shapeCast at this
    rw [Equiv.apply_symm_apply] at this
    exact this
  refine ⟨?_, hall⟩
  rcases h3 with h3 | ⟨i, -, h3⟩
  · have hb : (FloatOps.ofBits (F := Ideal) .f32 0xFF800000#32 : EReal) = ⊥ := by simp [Ideal.ofBits, Ideal.ieee]
    refine ⟨j₀, le_antisymm (hall j₀) ?_⟩
    rw [h3, hb]; exact bot_le
  · exact ⟨Shape.reshapeEquiv h.up i, h3.symm⟩

theorem word_toInt (n : Nat) (h : n < 2147483648) : (BitVec.ofNat 32 n).toInt = (n : Int) := by
  rw [BitVec.toInt_eq_toNat_of_lt (by rw [BitVec.toNat_ofNat]; omega), BitVec.toNat_ofNat]
  congr 1
  omega

/-- The window of a column, on words. -/
def windowOf (k : BitVec 32) : BitVec 32 :=
  if IntOp.andi (IntOp.cmpi .ne (IntOp.subi ((IntOp.cmpi .sgt k 0#32).setWidth 32) ((IntOp.cmpi .slt k 0#32).setWidth 32))
      (Scalar.subi (Scalar.extui (Scalar.cmpi .sgt 128#32 0#32)) (Scalar.extui (Scalar.cmpi .slt 128#32 0#32))))
      (IntOp.cmpi .ne (IntOp.remsi .vector k 128#32) 0#32) = 1#1
  then IntOp.subi (IntOp.divsi .vector k 128#32) 1#32 else IntOp.divsi .vector k 128#32

theorem windowOf_eq : ∀ n < 6272, windowOf (BitVec.ofNat 32 n) = BitVec.ofNat 32 (n / 128) := by
  intro n hn
  rcases Nat.eq_zero_or_pos n with rfl | hp
  · decide
  · have hi := word_toInt n (by omega)
    have h1 : IntOp.cmpi .sgt (BitVec.ofNat 32 n) 0#32 = 1#1 := by
      show BitVec.ofBool ((0#32).slt (BitVec.ofNat 32 n)) = 1#1
      rw [show (0#32).slt (BitVec.ofNat 32 n) = true from BitVec.slt_iff_toInt_lt.mpr (by rw [hi]; simpa using hp)]; rfl
    have h2 : IntOp.cmpi .slt (BitVec.ofNat 32 n) 0#32 = 0#1 := by
      show BitVec.ofBool ((BitVec.ofNat 32 n).slt 0#32) = 0#1
      rw [show (BitVec.ofNat 32 n).slt 0#32 = false from by
        rw [Bool.eq_false_iff]; intro h; rw [BitVec.slt_iff_toInt_lt, hi] at h; simp at h; omega]; rfl
    have h3 : ∀ b : BitVec 1, ¬ IntOp.andi (IntOp.cmpi .ne (IntOp.subi ((1#1).setWidth 32) ((0#1).setWidth 32))
      (Scalar.subi (Scalar.extui (Scalar.cmpi .sgt 128#32 0#32)) (Scalar.extui (Scalar.cmpi .slt 128#32 0#32)))) b = 1#1 := by decide
    unfold windowOf
    rw [h1, h2, if_neg (h3 _)]
    unfold IntOp.divsi
    rw [if_neg (by unfold IntOp.SDivCorner; rintro (h | ⟨-, h⟩) <;> revert h <;> decide)]
    have hm : (BitVec.ofNat 32 n).msb = false := by rw [BitVec.msb_eq_false_iff_two_mul_lt, BitVec.toNat_ofNat]; omega
    rw [BitVec.sdiv_eq, hm, show (128#32).msb = false from by decide]
    apply BitVec.eq_of_toNat_eq
    simp only [BitVec.udiv_eq, BitVec.toNat_udiv, BitVec.toNat_ofNat]
    rw [Nat.mod_eq_of_lt (show n < 2 ^ 32 by omega), Nat.mod_eq_of_lt (show 128 < 2 ^ 32 by norm_num), Nat.mod_eq_of_lt (by omega)]

/-- A column of the window maxima divided by 128. -/
theorem windows_eq (j : (Mat 4 6272).Idx) : windows j = BitVec.ofNat 32 ((j 1).val / 128) := by
  have hj : (j 1).val < 6272 := (j 1).isLt
  have hk : iota .tc (Mat 4 6272) 32 [1] iota_cols j = BitVec.ofNat 32 (j 1).val := by
    rw [iota_apply]
    simp
  rw [← windowOf_eq _ hj, ← hk]
  rfl

/-- The window chosen is one of the 49. -/
theorem window_range {F : FTy → Type} [FloatOps F] (x : FVec F (Mat 4 6272) .f32) : (0 : Int) ≤ (hit side6272 x windows).toInt := by
  have hw : ∀ j, (0 : Int) ≤ (windows j).toInt ∧ (windows j).toInt ≤ 1073741824 := fun j => by
    have hj : (j 1).val < 6272 := (j 1).isLt
    have : (j 1).val / 128 < 49 := by omega
    rw [windows_eq, word_toInt _ (by omega)]
    omega
  obtain ⟨⟨j, h⟩, -⟩ := least_spec side6272 (cmpf .oeq x (broadcast (Mat 4 6272) (top side6272 x))) windows (ix2 (n0 := 4) (n1 := 6272) 0 0) fun j => (hw j).2
  unfold hit
  rw [h]
  split
  · exact (hw j).1
  · decide

end Cert.Proof.Algo

end
-- ==== Proof.KernelIdeal.Trips.lean ====
/- The body's counted loops: an extraction loop is the six-fold extraction, and a trip over the chunks is `Algo.trip`. -/
module

public import proofs.«01_k».proof.Proof.Gen.KernelIdeal.Loops
public import proofs.«01_k».proof.Proof.Gen.KernelIdeal.Skeleton
public import proofs.«01_k».proof.Proof.Pick
public import Idealize.ShloMosaic.Lib.Tactic

@[expose] public section

noncomputable section

namespace Cert.KernelIdeal.Own

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UR (nD : Nat) (τ : Topo) : Type := URounds (GSem nD τ sig) Unit
abbrev 𝒱₀ : Variants := Variants.none

local notation "𝕄" => MT nD τ sig Unit (Elt F) ℕ (UR nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What a whole buffer holds, read by its shape's indices. -/
abbrev rd (c : Dev nD) {sp : Space} {S : Shape} {e : EltTy} (M : Memref sig .tc sp S e) (f : Bf (F := F) c M) : S.Idx → Elt F e :=
  M.view.read (Elt F) f

/-- A counted loop of six trips whose region returns a function of the carried value is that function six times. -/
theorem loop_six {E : Type → Type} {σ : Type} (l : Scf.Loop 32) (hok : l.OK) (h6 : l.trips = 6) (init : σ)
    (body : Fin l.trips → σ → Prog E σ) (g : σ → σ) (hg : ∀ k acc, body k acc = .ret (g acc)) :
    Scf.Loop.for l hok init body = .ret (g^[6] init) := by
  have h := Scf.for_pure l.lb l.ub l.st hok init body (fun _ => g) hg
  have e : Scf.Loop.for l hok init body = Scf.for l.lb l.ub l.st hok init body := rfl
  rw [e, h, Scf.fold_eq]
  have : ∀ (n : Nat) (a : σ), (List.finRange n).foldl (fun acc _ => g acc) a = g^[n] a := by
    intro n
    induction n with
    | zero => intro a; rfl
    | succ n ih => intro a; rw [List.finRange_succ, List.foldl_cons, List.foldl_map, ih, Function.iterate_succ_apply]
  rw [this]
  exact congrArg (fun n => Prog.ret (g^[n] init)) h6

variable (i : grid0.Coords) (arg1 : Memref sig .tc .vmem S4x4x100000 .f32) (harg1 : arg1.IsWhole) (arg2 : Memref sig .tc .smem S64x4 .f32) (harg2 : arg2.IsWhole)
    (arg3 : Memref sig .tc .smem S4x1x4 .f32) (harg3 : arg3.IsWhole) (arg4 : Memref sig .tc .smem S4x1x4 .i32) (harg4 : arg4.IsWhole)

theorem pay569_eq (e : FVec F S4x6272 .f32) : k0_pay569 e = Algo.top Algo.side6272 e := rfl
theorem pay570_eq (e : FVec F S4x6272 .f32) :
    extractAt ![0, 0, 0] (k0_pay570 Algo.windows e) inpos_S1x1x1_p0_0_0 = Algo.hit Algo.side6272 e Algo.windows := rfl
theorem pay571_eq (e : FVec F S4x6272 .f32) : k0_pay571 Algo.windows e = Algo.clear Algo.windows (Algo.hit Algo.side6272 e Algo.windows) e := rfl
theorem pay572_eq (s : FVec F S4x1 .f32) (t : F .f32) (x : Vec F S1x4x1696 .f32) : k0_pay572 s t x = Algo.keep Algo.down1696 Algo.bc1696 x s t := rfl
theorem pay574_eq (x : FVec F S4x1696 .f32) : k0_pay574 x = Algo.top Algo.side1696 x := rfl
theorem pay575_eq (n : BitVec 32) (v : FVec F S1x64 .f32) (x : FVec F S4x1696 .f32) : k0_pay575 Algo.lanes n v x
    = select (cmpi .eq Algo.lanes (broadcast (Algo.Mat 1 64) n)) (broadcast (Algo.Mat 1 64) (Algo.top Algo.side1696 x)) v := rfl
theorem pay576_eq (n : BitVec 32) (v : IVec S1x64 32) (x : FVec F S4x1696 .f32) : k0_pay576 Algo.lanes Algo.rowT Algo.colT n v x
    = select (cmpi .eq Algo.lanes (broadcast (Algo.Mat 1 64) n)) (broadcast (Algo.Mat 1 64) (Algo.hit Algo.side1696 x Algo.ixT)) v := rfl
theorem pay577_eq (x : FVec F S4x1696 .f32) : k0_pay577 Algo.rowT Algo.colT x = Algo.clear Algo.ixT (Algo.hit Algo.side1696 x Algo.ixT) x := rfl
theorem pay578_eq (s : FVec F S4x1 .f32) (t : F .f32) (x : Vec F S1x4x2048 .f32) : k0_pay578 s t x = Algo.keep Algo.down2048 Algo.bc2048 x s t := rfl
theorem pay580_eq (x : FVec F S4x2048 .f32) : k0_pay580 x = Algo.top Algo.side2048 x := rfl
theorem pay581_eq (n : BitVec 32) (v : FVec F S1x64 .f32) (x : FVec F S4x2048 .f32) : k0_pay581 Algo.lanes n v x
    = select (cmpi .eq Algo.lanes (broadcast (Algo.Mat 1 64) n)) (broadcast (Algo.Mat 1 64) (Algo.top Algo.side2048 x)) v := rfl
theorem pay579_eq (e : FVec F S4x6272 .f32) : k0_pay579 Algo.rowC Algo.colC Algo.windows e = Algo.ixC (Algo.hit Algo.side6272 e Algo.windows) := rfl
theorem pay582_eq (e : FVec F S4x6272 .f32) (n : BitVec 32) (v : IVec S1x64 32) (x : FVec F S4x2048 .f32) :
    k0_pay582 Algo.lanes Algo.rowC Algo.colC Algo.windows e n v x = select (cmpi .eq Algo.lanes (broadcast (Algo.Mat 1 64) n))
      (broadcast (Algo.Mat 1 64) (Algo.hit Algo.side2048 x (Algo.ixC (Algo.hit Algo.side6272 e Algo.windows)))) v := by
  unfold k0_pay582; rw [pay579_eq, pay580_eq]; rfl
theorem pay583_eq (e : FVec F S4x6272 .f32) (x : FVec F S4x2048 .f32) : k0_pay583 Algo.rowC Algo.colC Algo.windows e x
    = Algo.clear (Algo.ixC (Algo.hit Algo.side6272 e Algo.windows)) (Algo.hit Algo.side2048 x (Algo.ixC (Algo.hit Algo.side6272 e Algo.windows))) x := by
  unfold k0_pay583; rw [pay579_eq, pay580_eq]; rfl
theorem word_eq (b : BitVec 1) : Scalar.cmpi .ne (Scalar.extui b : BitVec 32) 0#32 = Algo.word b := rfl

theorem choose_ret {E : Type → Type} {α β γ δ : Type} (q : Prop) [Decidable q] (x y : α × β × γ × δ) :
    (if q then (do let z ← (Pure.pure x : Prog E (α × β × γ × δ)); Pure.pure (z.1, z.2.1, z.2.2.1, z.2.2.2))
      else (do let z ← (Pure.pure y : Prog E (α × β × γ × δ)); Pure.pure (z.1, z.2.1, z.2.2.1, z.2.2.2))) = Prog.ret (if q then x else y) := by
  by_cases h : q
  · rw [if_pos h, if_pos h]; rfl
  · rw [if_neg h, if_neg h]; rfl

set_option maxRecDepth 65536 in
theorem loop_t2 (v62 : FVec F S4x1 .f32) (v2368 : FVec F S4x6272 .f32) (v9389 : F .f32) (v9461 : FVec F S4x6272 .f32) (v9467 : IVec S4x6272 1) (v9468 : FVec F S4x6272 .f32)
    (init : Algo.St F 4 1696) :
    Scf.Loop.for k0_t2_loop k0_t2_ok init (k0_t2_body (F := F) i arg1 harg1 arg2 harg2 arg3 harg3 arg4 harg4 Algo.lanes Algo.rowC Algo.colC Algo.rowT Algo.colT Algo.windows v62 v2368 v9389 v9461 v9467 v9468)
      = .ret ((Algo.take Algo.side1696 Algo.ixT v9389)^[6] init) := by
  refine loop_six k0_t2_loop k0_t2_ok (by decide) init _ _ fun k acc => ?_
  obtain ⟨a, b, d, e⟩ := acc
  unfold k0_t2_body Algo.take
  simp only [pay574_eq, pay575_eq, pay576_eq, pay577_eq, word_eq]
  exact choose_ret _ _ _

set_option maxRecDepth 65536 in
theorem loop_t3 (v62 : FVec F S4x1 .f32) (v2368 : FVec F S4x6272 .f32) (v9389 : F .f32) (v9461 : FVec F S4x6272 .f32) (v9467 : IVec S4x6272 1) (v9468 : FVec F S4x6272 .f32)
    (arg9 : FVec F S4x6272 .f32) (init : Algo.St F 4 2048) :
    Scf.Loop.for k0_t3_loop k0_t3_ok init (k0_t3_body (F := F) i arg1 harg1 arg2 harg2 arg3 harg3 arg4 harg4 Algo.lanes Algo.rowC Algo.colC Algo.rowT Algo.colT Algo.windows v62 v2368 v9389 v9461 v9467 v9468 arg9)
      = .ret ((Algo.take Algo.side2048 (Algo.ixC (Algo.hit Algo.side6272 arg9 Algo.windows)) v9389)^[6] init) := by
  refine loop_six k0_t3_loop k0_t3_ok (by decide) init _ _ fun k acc => ?_
  obtain ⟨a, b, d, e⟩ := acc
  unfold k0_t3_body Algo.take
  simp only [pay580_eq, pay581_eq, pay582_eq, pay583_eq, word_eq]
  exact choose_ret _ _ _

theorem hit_range (x : FVec F (Algo.Mat 4 6272) .f32) : (0 : Int) ≤ (Algo.hit Algo.side6272 x Algo.windows).toInt :=
  Algo.window_range x

theorem chk_of_range1 (q : BitVec 1) (p : BitVec 32) (hp : (0 : Int) ≤ p.toInt) : k0_chk1 q p :=
  ⟨fun _ _ => Algo.base_dvd p hp, fun _ _ => Algo.base_inb p hp 0⟩
theorem chk_of_range2 (q : BitVec 1) (p : BitVec 32) (hp : (0 : Int) ≤ p.toInt) : k0_chk2 q p :=
  ⟨fun _ _ => Algo.base_dvd p hp, fun _ _ => Algo.base_inb p hp 1⟩
theorem chk_of_range3 (q : BitVec 1) (p : BitVec 32) (hp : (0 : Int) ≤ p.toInt) : k0_chk3 q p :=
  ⟨fun _ _ => Algo.base_dvd p hp, fun _ _ => Algo.base_inb p hp 2⟩
theorem chk_of_range4 (q : BitVec 1) (p : BitVec 32) (hp : (0 : Int) ≤ p.toInt) : k0_chk4 q p :=
  ⟨fun _ _ => Algo.base_dvd p hp, fun _ _ => Algo.base_inb p hp 3⟩

/-- A load of `n` columns of member `g` reads that piece of the block. -/
theorem load_piece (c : Dev nD) (f1 : Bf (F := F) c arg1) (g : Fin 4) (n : Nat) (off : Fin 3 → Nat) (o : Nat) (e : off = ![g.val, 0, o])
    (inb : ∀ a, off a + (![1, 4, n] : Fin 3 → Nat) a ≤ S4x4x100000.size a) :
    arg1.view.readAt (Elt F) (Rect.unit (s := S4x4x100000) off ![1, 4, n] inb).toLoadRect f1 = Algo.piece (rd c arg1 f1) g n o := by
  subst e
  have h2 : o + n ≤ 100000 := inb 2
  funext j
  rw [View.readAt_apply]
  unfold Algo.piece
  refine congrArg (rd c arg1 f1) ?_
  funext a
  apply Fin.ext
  have j2 : (j 2).val < n := (j 2).isLt
  have j0 : (j 0).val < 1 := (j 0).isLt
  fin_cases a
  · show g.val + 1 * (j 0).val = g.val
    omega
  · show 0 + 1 * (j 1).val = (j 1).val
    omega
  · show o + 1 * (j 2).val = (o + (j 2).val) % 100000
    rw [Nat.mod_eq_of_lt (by omega)]; omega

end Cert.KernelIdeal.Own

end
-- ==== Proof.KernelIdeal.Trip.lean ====
/- One trip over the chunks, for each of the four members of a block. -/
module

public import proofs.«01_k».proof.Proof.KernelIdeal.Trips

@[expose] public section

noncomputable section

namespace Cert.KernelIdeal.Own

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

variable (i : grid0.Coords) (arg1 : Memref sig .tc .vmem S4x4x100000 .f32) (harg1 : arg1.IsWhole) (arg2 : Memref sig .tc .smem S64x4 .f32) (harg2 : arg2.IsWhole)
    (arg3 : Memref sig .tc .smem S4x1x4 .f32) (harg3 : arg3.IsWhole) (arg4 : Memref sig .tc .smem S4x1x4 .i32) (harg4 : arg4.IsWhole)

/-- One trip over the chunks as the program writes it, for the member whose loads lie at `offT` and `offC p`. -/
def tripP (offT : Fin 3 → Nat) (inbT : ∀ a, offT a + S1x4x1696.size a ≤ S4x4x100000.size a) (offC : BitVec 32 → Fin 3 → Nat)
    (chk : BitVec 1 → BitVec 32 → Prop) (dec : ∀ q p, Decidable (chk q p))
    (inbC : ∀ q p, chk q p → Algo.word q = 1#1 → ¬ Algo.word (Scalar.cmpi .eq p 48#32) = 1#1 → ∀ a, offC p a + S1x4x2048.size a ≤ S4x4x100000.size a)
    (s : FVec F S4x1 .f32) (t : F .f32) : Algo.St F 4 6272 → Prog (TpuEff nD τ sig (Elt F) Λ₀ .tc) (Algo.St F 4 6272) :=
  fun (n, v, ix, w) => do
    let q : BitVec 1 := Scalar.cmpf .oge (Algo.top Algo.side6272 w) t
    let (o0, o1, o2, o3) : Algo.St F 4 6272 ← if h1 : Algo.word q = 1#1 then do
        let p : BitVec 32 := Algo.hit Algo.side6272 w Algo.windows
        have hw : chk q p := (← Prog.lift (TpuEff.assume (chk q p) (dec q p))).down
        let (m0, m1, m2) : BitVec 32 × FVec F S1x64 .f32 × IVec S1x64 32 ← if h2 : Algo.word (Scalar.cmpi .eq p 48#32) = 1#1 then do
            let x : Vec F S1x4x1696 .f32 ← Prog.lift (.load arg1 (Rect.unit (s := S4x4x100000) offT S1x4x1696.size inbT).toLoadRect (View.loadsAt_vmem h_S1x4x1696))
            let (r0, r1, r2, _) ← (Prog.ret ((Algo.take Algo.side1696 Algo.ixT t)^[6] (n, v, ix, Algo.keep Algo.down1696 Algo.bc1696 x s t)) : Prog (TpuEff nD τ sig (Elt F) Λ₀ .tc) (Algo.St F 4 1696))
            pure (r0, r1, r2)
          else do
            let x : Vec F S1x4x2048 .f32 ← Prog.lift (.load arg1 (Rect.unit (s := S4x4x100000) (offC p) S1x4x2048.size (inbC q p hw h1 h2)).toLoadRect (View.loadsAt_vmem h_S1x4x2048))
            let (r0, r1, r2, _) ← (Prog.ret ((Algo.take Algo.side2048 (Algo.ixC p) t)^[6] (n, v, ix, Algo.keep Algo.down2048 Algo.bc2048 x s t)) : Prog (TpuEff nD τ sig (Elt F) Λ₀ .tc) (Algo.St F 4 2048))
            pure (r0, r1, r2)
        pure (m0, m1, m2, Algo.clear Algo.windows p w)
      else do
        pure (n, v, ix, w)
    pure (o0, o1, o2, o3)

/-- What holds between two trips: the block's contents, and the carried value the so many trips' result. -/
def tripInv (c : Dev nD) (f1 : Bf (F := F) c arg1) (g : Fin 4) (s : FVec F S4x1 .f32) (t : F .f32) (init : Algo.St F 4 6272) (k : Nat) (acc : Algo.St F 4 6272) : sProp 𝕄 :=
  iprop(pt c arg1 f1 ∗ ⌜acc = (Algo.trip (rd c arg1 f1) g s t)^[k] init⌝)

set_option maxRecDepth 65536 in
theorem wp_tripP (c : Dev nD) (g : Fin 4) (offT : Fin 3 → Nat) (inbT : ∀ a, offT a + S1x4x1696.size a ≤ S4x4x100000.size a) (offC : BitVec 32 → Fin 3 → Nat)
    (chk : BitVec 1 → BitVec 32 → Prop) (dec : ∀ q p, Decidable (chk q p))
    (inbC : ∀ q p, chk q p → Algo.word q = 1#1 → ¬ Algo.word (Scalar.cmpi .eq p 48#32) = 1#1 → ∀ a, offC p a + S1x4x2048.size a ≤ S4x4x100000.size a)
    (hT : offT = ![g.val, 0, 98304]) (hC : ∀ p, offC p = ![g.val, 0, (Scalar.indexCast (Algo.base p)).toNat])
    (hchk : ∀ q p, (0 : Int) ≤ p.toInt → chk q p)
    (s : FVec F S4x1 .f32) (t : F .f32) (f1 : Bf (F := F) c arg1) (acc : Algo.St F 4 6272) (Q : Algo.St F 4 6272 → sProp 𝕄) :
    iprop(pt c arg1 f1 ∗ (pt c arg1 f1 -∗ Q (Algo.trip (rd c arg1 f1) g s t acc)))
      ⊢ wp frame (wpE (defs₀ (F := F)) 𝒱₀ c none) Set.univ (tripP arg1 offT inbT offC chk dec inbC s t acc) Q := by
  obtain ⟨a, b, d, e⟩ := acc
  generalize hr : Algo.trip (rd c arg1 f1) g s t (a, b, d, e) = r
  unfold tripP
  unfold Algo.trip Algo.visit at hr
  dsimp only at hr
  have hn : (0 : Int) ≤ (Algo.hit Algo.side6272 e Algo.windows).toInt := hit_range e
  obtain ⟨g2, hg2⟩ : ∃ g, (Algo.take Algo.side2048 (Algo.ixC (Algo.hit Algo.side6272 e Algo.windows)) t)^[6] = g := ⟨_, rfl⟩
  obtain ⟨g3, hg3⟩ : ∃ g, (Algo.take Algo.side1696 Algo.ixT t)^[6] = g := ⟨_, rfl⟩
  obtain ⟨W, hW⟩ : ∃ W, Algo.clear Algo.windows (Algo.hit Algo.side6272 e Algo.windows) e = W := ⟨_, rfl⟩
  simp only [hg2, hg3, hW] at hr ⊢
  by_cases h : Algo.word (Scalar.cmpf .oge (Algo.top Algo.side6272 e) t) = 1#1
  · rw [if_pos h] at hr
    have hc := hchk (Scalar.cmpf .oge (Algo.top Algo.side6272 e) t) _ hn
    by_cases h2 : Algo.word (Scalar.cmpi .eq (Algo.hit Algo.side6272 e Algo.windows) 48#32) = 1#1
    · rw [if_pos h2] at hr
      have hp := load_piece arg1 c f1 g 1696 offT 98304 hT inbT
      iintro ⟨H1, Hk⟩
      sl_exec (disch := assumption)
      sl_step
      subst hr
      iapply Hk
      iexact H1
    · rw [if_neg h2] at hr
      have hp := load_piece arg1 c f1 g 2048 (offC (Algo.hit Algo.side6272 e Algo.windows)) _ (hC _) (inbC _ _ hc h h2)
      iintro ⟨H1, Hk⟩
      sl_exec (disch := assumption)
      sl_step
      subst hr
      iapply Hk
      iexact H1
  · rw [if_neg h] at hr
    iintro ⟨H1, Hk⟩
    sl_exec (disch := assumption)
    sl_step
    subst hr
    iapply Hk
    iexact H1

theorem trip_step (c : Dev nD) (g : Fin 4) (offT : Fin 3 → Nat) (inbT : ∀ a, offT a + S1x4x1696.size a ≤ S4x4x100000.size a) (offC : BitVec 32 → Fin 3 → Nat)
    (chk : BitVec 1 → BitVec 32 → Prop) (dec : ∀ q p, Decidable (chk q p))
    (inbC : ∀ q p, chk q p → Algo.word q = 1#1 → ¬ Algo.word (Scalar.cmpi .eq p 48#32) = 1#1 → ∀ a, offC p a + S1x4x2048.size a ≤ S4x4x100000.size a)
    (hT : offT = ![g.val, 0, 98304]) (hC : ∀ p, offC p = ![g.val, 0, (Scalar.indexCast (Algo.base p)).toNat])
    (hchk : ∀ q p, (0 : Int) ≤ p.toInt → chk q p)
    (s : FVec F S4x1 .f32) (t : F .f32) (f1 : Bf (F := F) c arg1) (init : Algo.St F 4 6272) (k : Nat) (acc : Algo.St F 4 6272) :
    tripInv arg1 c f1 g s t init k acc
      ⊢ wp frame (wpE (defs₀ (F := F)) 𝒱₀ c none) Set.univ (tripP arg1 offT inbT offC chk dec inbC s t acc) (tripInv arg1 c f1 g s t init (k + 1)) := by
  unfold tripInv
  iintro ⟨H1, %hacc⟩
  subst hacc
  iapply (wp_tripP arg1 c g offT inbT offC chk dec inbC hT hC hchk s t f1 _ _)
  isplitl [H1]
  · iexact H1
  · iintro H1
    isplitl [H1]
    · iexact H1
    · ipureintro
      exact (Function.iterate_succ_apply' _ _ _).symm

set_option maxRecDepth 65536 in
theorem t1_eq (v62 : FVec F S4x1 .f32) (v2368 : FVec F S4x6272 .f32) (v9389 : F .f32) (v9461 : FVec F S4x6272 .f32) (v9467 : IVec S4x6272 1) (v9468 : FVec F S4x6272 .f32)
    (k : Fin k0_t1_loop.trips) (acc : Algo.St F 4 6272) :
    k0_t1_body (F := F) i arg1 harg1 arg2 harg2 arg3 harg3 arg4 harg4 Algo.lanes Algo.rowC Algo.colC Algo.rowT Algo.colT Algo.windows v62 v2368 v9389 v9461 v9467 v9468 k acc
      = tripP arg1 ![0, 0, 98304] inb_S4x4x100000_S1x4x1696_0_0_98304 k0_off5 k0_chk1 k0_chk1.dec k0_off5_inb v62 v9389 acc := by
  obtain ⟨a, b, d, e⟩ := acc
  unfold k0_t1_body tripP
  simp only [loop_t2, loop_t3, pay569_eq, pay570_eq, pay571_eq, pay572_eq, pay578_eq]
  rfl

theorem p599 : @k0_pay599 = @k0_pay569 := rfl
theorem p600 : @k0_pay600 = @k0_pay570 := rfl
theorem p601 : @k0_pay601 = @k0_pay571 := rfl
theorem p602 : @k0_pay602 = @k0_pay572 := rfl
theorem p608 : @k0_pay608 = @k0_pay578 := rfl

theorem loop_t5 (v2393 : FVec F S4x1 .f32) (v4699 : FVec F S4x6272 .f32) (v9417 : F .f32) (v9535 : F .f32) (v9541 : IVec S1 32) (init : Algo.St F 4 1696) :
    Scf.Loop.for k0_t5_loop k0_t5_ok init (k0_t5_body (F := F) i arg1 harg1 arg2 harg2 arg3 harg3 arg4 harg4 Algo.lanes Algo.rowC Algo.colC Algo.rowT Algo.colT Algo.windows v2393 v4699 v9417 v9535 v9541)
      = .ret ((Algo.take Algo.side1696 Algo.ixT v9417)^[6] init) :=
  loop_t2 i arg1 harg1 arg2 harg2 arg3 harg3 arg4 harg4 v2393 v4699 v9417 v4699 (fun _ => 0#1) v4699 init

theorem loop_t6 (v2393 : FVec F S4x1 .f32) (v4699 : FVec F S4x6272 .f32) (v9417 : F .f32) (v9535 : F .f32) (v9541 : IVec S1 32) (arg9 : FVec F S4x6272 .f32) (init : Algo.St F 4 2048) :
    Scf.Loop.for k0_t6_loop k0_t6_ok init (k0_t6_body (F := F) i arg1 harg1 arg2 harg2 arg3 harg3 arg4 harg4 Algo.lanes Algo.rowC Algo.colC Algo.rowT Algo.colT Algo.windows v2393 v4699 v9417 v9535 v9541 arg9)
      = .ret ((Algo.take Algo.side2048 (Algo.ixC (Algo.hit Algo.side6272 arg9 Algo.windows)) v9417)^[6] init) :=
  loop_t3 i arg1 harg1 arg2 harg2 arg3 harg3 arg4 harg4 v2393 v4699 v9417 v4699 (fun _ => 0#1) v4699 arg9 init

set_option maxRecDepth 65536 in
theorem t4_eq (v2393 : FVec F S4x1 .f32) (v4699 : FVec F S4x6272 .f32) (v9417 : F .f32) (v9535 : F .f32) (v9541 : IVec S1 32)
    (k : Fin k0_t4_loop.trips) (acc : Algo.St F 4 6272) :
    k0_t4_body (F := F) i arg1 harg1 arg2 harg2 arg3 harg3 arg4 harg4 Algo.lanes Algo.rowC Algo.colC Algo.rowT Algo.colT Algo.windows v2393 v4699 v9417 v9535 v9541 k acc
      = tripP arg1 ![1, 0, 98304] inb_S4x4x100000_S1x4x1696_1_0_98304 k0_off6 k0_chk2 k0_chk2.dec k0_off6_inb v2393 v9417 acc := by
  obtain ⟨a, b, d, e⟩ := acc
  unfold k0_t4_body tripP
  simp only [loop_t5, loop_t6, p599, p600, p601, p602, p608, pay569_eq, pay570_eq, pay571_eq, pay572_eq, pay578_eq]
  rfl

theorem p629 : @k0_pay629 = @k0_pay569 := rfl
theorem p630 : @k0_pay630 = @k0_pay570 := rfl
theorem p631 : @k0_pay631 = @k0_pay571 := rfl
theorem p632 : @k0_pay632 = @k0_pay572 := rfl
theorem p638 : @k0_pay638 = @k0_pay578 := rfl

theorem loop_t8 (v4724 : FVec F S4x1 .f32) (v7030 : FVec F S4x6272 .f32) (v9445 : F .f32) (v9549_2 : IVec S1x64 32) (v9607 : F .f32) (v9609 : IVec S1x64 1) (init : Algo.St F 4 1696) :
    Scf.Loop.for k0_t8_loop k0_t8_ok init (k0_t8_body (F := F) i arg1 harg1 arg2 harg2 arg3 harg3 arg4 harg4 Algo.lanes Algo.rowC Algo.colC Algo.rowT Algo.colT Algo.windows v4724 v7030 v9445 v9549_2 v9607 v9609)
      = .ret ((Algo.take Algo.side1696 Algo.ixT v9445)^[6] init) :=
  loop_t2 i arg1 harg1 arg2 harg2 arg3 harg3 arg4 harg4 v4724 v7030 v9445 v7030 (fun _ => 0#1) v7030 init

theorem loop_t9 (v4724 : FVec F S4x1 .f32) (v7030 : FVec F S4x6272 .f32) (v9445 : F .f32) (v9549_2 : IVec S1x64 32) (v9607 : F .f32) (v9609 : IVec S1x64 1) (arg9 : FVec F S4x6272 .f32) (init : Algo.St F 4 2048) :
    Scf.Loop.for k0_t9_loop k0_t9_ok init (k0_t9_body (F := F) i arg1 harg1 arg2 harg2 arg3 harg3 arg4 harg4 Algo.lanes Algo.rowC Algo.colC Algo.rowT Algo.colT Algo.windows v4724 v7030 v9445 v9549_2 v9607 v9609 arg9)
      = .ret ((Algo.take Algo.side2048 (Algo.ixC (Algo.hit Algo.side6272 arg9 Algo.windows)) v9445)^[6] init) :=
  loop_t3 i arg1 harg1 arg2 harg2 arg3 harg3 arg4 harg4 v4724 v7030 v9445 v7030 (fun _ => 0#1) v7030 arg9 init

set_option maxRecDepth 65536 in
theorem t7_eq (v4724 : FVec F S4x1 .f32) (v7030 : FVec F S4x6272 .f32) (v9445 : F .f32) (v9549_2 : IVec S1x64 32) (v9607 : F .f32) (v9609 : IVec S1x64 1)
    (k : Fin k0_t7_loop.trips) (acc : Algo.St F 4 6272) :
    k0_t7_body (F := F) i arg1 harg1 arg2 harg2 arg3 harg3 arg4 harg4 Algo.lanes Algo.rowC Algo.colC Algo.rowT Algo.colT Algo.windows v4724 v7030 v9445 v9549_2 v9607 v9609 k acc
      = tripP arg1 ![2, 0, 98304] inb_S4x4x100000_S1x4x1696_2_0_98304 k0_off7 k0_chk3 k0_chk3.dec k0_off7_inb v4724 v9445 acc := by
  obtain ⟨a, b, d, e⟩ := acc
  unfold k0_t7_body tripP
  simp only [loop_t8, loop_t9, p629, p630, p631, p632, p638, pay569_eq, pay570_eq, pay571_eq, pay572_eq, pay578_eq]
  rfl

theorem p659 : @k0_pay659 = @k0_pay569 := rfl
theorem p660 : @k0_pay660 = @k0_pay570 := rfl
theorem p661 : @k0_pay661 = @k0_pay571 := rfl
theorem p662 : @k0_pay662 = @k0_pay572 := rfl
theorem p668 : @k0_pay668 = @k0_pay578 := rfl

theorem loop_t11 (v7055 : FVec F S4x1 .f32) (v9361 : FVec F S4x6272 .f32) (v9473 : F .f32) (v9621_2 : IVec S1x64 32) (v9675 : FVec F S1x64 .f32) (v9676 : FVec F S1x1x64 .f32) (init : Algo.St F 4 1696) :
    Scf.Loop.for k0_t11_loop k0_t11_ok init (k0_t11_body (F := F) i arg1 harg1 arg2 harg2 arg3 harg3 arg4 harg4 Algo.lanes Algo.rowC Algo.colC Algo.rowT Algo.colT Algo.windows v7055 v9361 v9473 v9621_2 v9675 v9676)
      = .ret ((Algo.take Algo.side1696 Algo.ixT v9473)^[6] init) :=
  loop_t2 i arg1 harg1 arg2 harg2 arg3 harg3 arg4 harg4 v7055 v9361 v9473 v9361 (fun _ => 0#1) v9361 init

theorem loop_t12 (v7055 : FVec F S4x1 .f32) (v9361 : FVec F S4x6272 .f32) (v9473 : F .f32) (v9621_2 : IVec S1x64 32) (v9675 : FVec F S1x64 .f32) (v9676 : FVec F S1x1x64 .f32) (arg9 : FVec F S4x6272 .f32) (init : Algo.St F 4 2048) :
    Scf.Loop.for k0_t12_loop k0_t12_ok init (k0_t12_body (F := F) i arg1 harg1 arg2 harg2 arg3 harg3 arg4 harg4 Algo.lanes Algo.rowC Algo.colC Algo.rowT Algo.colT Algo.windows v7055 v9361 v9473 v9621_2 v9675 v9676 arg9)
      = .ret ((Algo.take Algo.side2048 (Algo.ixC (Algo.hit Algo.side6272 arg9 Algo.windows)) v9473)^[6] init) :=
  loop_t3 i arg1 harg1 arg2 harg2 arg3 harg3 arg4 harg4 v7055 v9361 v9473 v9361 (fun _ => 0#1) v9361 arg9 init

set_option maxRecDepth 65536 in
theorem t10_eq (v7055 : FVec F S4x1 .f32) (v9361 : FVec F S4x6272 .f32) (v9473 : F .f32) (v9621_2 : IVec S1x64 32) (v9675 : FVec F S1x64 .f32) (v9676 : FVec F S1x1x64 .f32)
    (k : Fin k0_t10_loop.trips) (acc : Algo.St F 4 6272) :
    k0_t10_body (F := F) i arg1 harg1 arg2 harg2 arg3 harg3 arg4 harg4 Algo.lanes Algo.rowC Algo.colC Algo.rowT Algo.colT Algo.windows v7055 v9361 v9473 v9621_2 v9675 v9676 k acc
      = tripP arg1 ![3, 0, 98304] inb_S4x4x100000_S1x4x1696_3_0_98304 k0_off8 k0_chk4 k0_chk4.dec k0_off8_inb v7055 v9473 acc := by
  obtain ⟨a, b, d, e⟩ := acc
  unfold k0_t10_body tripP
  simp only [loop_t11, loop_t12, p659, p660, p661, p662, p668, pay569_eq, pay570_eq, pay571_eq, pay572_eq, pay578_eq]
  rfl

@[sl_loop, instance_reducible] noncomputable def loopInv_k0_t1 (c : Dev nD) (v1 : IVec S1x64 32) (v4 : IVec S4x2048 32) (v5 : IVec S4x2048 32) (v8 : IVec S4x1696 32) (v11 : IVec S4x1696 32) (v36 : IVec S4x6272 32)
    (v62 : FVec F S4x1 .f32) (v2368 : FVec F S4x6272 .f32) (v9389 : F .f32) (v9461 : FVec F S4x6272 .f32) (v9467 : IVec S4x6272 1) (v9468 : FVec F S4x6272 .f32)
    (e1 : v1 = Algo.lanes) (e4 : v4 = Algo.rowC) (e5 : v5 = Algo.colC) (e8 : v8 = Algo.rowT) (e11 : v11 = Algo.colT) (e36 : v36 = Algo.windows)
    (f1 : Bf (F := F) c arg1) (init : Algo.St F 4 6272) :
    Gen.LoopInvTy_k0_t1 (F := F) Unit ℕ (UR nD τ) ℕ 𝒱₀ c none Set.univ i arg1 harg1 arg2 harg2 arg3 harg3 arg4 harg4 v1 v4 v5 v8 v11 v36 v62 v2368 v9389 v9461 v9467 v9468 init where
  inv := fun k acc => iprop(pt c arg1 f1 ∗ ⌜acc = (Algo.trip (rd c arg1 f1) 0 v62 v9389)^[k] init⌝)
  step := fun k acc => by
    subst e1 e4 e5 e8 e11 e36
    rw [t1_eq]
    exact trip_step arg1 c 0 _ inb_S4x4x100000_S1x4x1696_0_0_98304 _ _ _ _ rfl (fun _ => rfl) (chk_of_range1) v62 v9389 f1 init k acc

@[sl_loop, instance_reducible] noncomputable def loopInv_k0_t4 (c : Dev nD) (v1 : IVec S1x64 32) (v4 : IVec S4x2048 32) (v5 : IVec S4x2048 32) (v8 : IVec S4x1696 32) (v11 : IVec S4x1696 32) (v36 : IVec S4x6272 32)
    (v2393 : FVec F S4x1 .f32) (v4699 : FVec F S4x6272 .f32) (v9417 : F .f32) (v9535 : F .f32) (v9541 : IVec S1 32)
    (e1 : v1 = Algo.lanes) (e4 : v4 = Algo.rowC) (e5 : v5 = Algo.colC) (e8 : v8 = Algo.rowT) (e11 : v11 = Algo.colT) (e36 : v36 = Algo.windows)
    (f1 : Bf (F := F) c arg1) (init : Algo.St F 4 6272) :
    Gen.LoopInvTy_k0_t4 (F := F) Unit ℕ (UR nD τ) ℕ 𝒱₀ c none Set.univ i arg1 harg1 arg2 harg2 arg3 harg3 arg4 harg4 v1 v4 v5 v8 v11 v36 v2393 v4699 v9417 v9535 v9541 init where
  inv := fun k acc => iprop(pt c arg1 f1 ∗ ⌜acc = (Algo.trip (rd c arg1 f1) 1 v2393 v9417)^[k] init⌝)
  step := fun k acc => by
    subst e1 e4 e5 e8 e11 e36
    rw [t4_eq]
    exact trip_step arg1 c 1 _ inb_S4x4x100000_S1x4x1696_1_0_98304 _ _ _ _ rfl (fun _ => rfl) (chk_of_range2) v2393 v9417 f1 init k acc

@[sl_loop, instance_reducible] noncomputable def loopInv_k0_t7 (c : Dev nD) (v1 : IVec S1x64 32) (v4 : IVec S4x2048 32) (v5 : IVec S4x2048 32) (v8 : IVec S4x1696 32) (v11 : IVec S4x1696 32) (v36 : IVec S4x6272 32)
    (v4724 : FVec F S4x1 .f32) (v7030 : FVec F S4x6272 .f32) (v9445 : F .f32) (v9549_2 : IVec S1x64 32) (v9607 : F .f32) (v9609 : IVec S1x64 1)
    (e1 : v1 = Algo.lanes) (e4 : v4 = Algo.rowC) (e5 : v5 = Algo.colC) (e8 : v8 = Algo.rowT) (e11 : v11 = Algo.colT) (e36 : v36 = Algo.windows)
    (f1 : Bf (F := F) c arg1) (init : Algo.St F 4 6272) :
    Gen.LoopInvTy_k0_t7 (F := F) Unit ℕ (UR nD τ) ℕ 𝒱₀ c none Set.univ i arg1 harg1 arg2 harg2 arg3 harg3 arg4 harg4 v1 v4 v5 v8 v11 v36 v4724 v7030 v9445 v9549_2 v9607 v9609 init where
  inv := fun k acc => iprop(pt c arg1 f1 ∗ ⌜acc = (Algo.trip (rd c arg1 f1) 2 v4724 v9445)^[k] init⌝)
  step := fun k acc => by
    subst e1 e4 e5 e8 e11 e36
    rw [t7_eq]
    exact trip_step arg1 c 2 _ inb_S4x4x100000_S1x4x1696_2_0_98304 _ _ _ _ rfl (fun _ => rfl) (chk_of_range3) v4724 v9445 f1 init k acc

@[sl_loop, instance_reducible] noncomputable def loopInv_k0_t10 (c : Dev nD) (v1 : IVec S1x64 32) (v4 : IVec S4x2048 32) (v5 : IVec S4x2048 32) (v8 : IVec S4x1696 32) (v11 : IVec S4x1696 32) (v36 : IVec S4x6272 32)
    (v7055 : FVec F S4x1 .f32) (v9361 : FVec F S4x6272 .f32) (v9473 : F .f32) (v9621_2 : IVec S1x64 32) (v9675 : FVec F S1x64 .f32) (v9676 : FVec F S1x1x64 .f32)
    (e1 : v1 = Algo.lanes) (e4 : v4 = Algo.rowC) (e5 : v5 = Algo.colC) (e8 : v8 = Algo.rowT) (e11 : v11 = Algo.colT) (e36 : v36 = Algo.windows)
    (f1 : Bf (F := F) c arg1) (init : Algo.St F 4 6272) :
    Gen.LoopInvTy_k0_t10 (F := F) Unit ℕ (UR nD τ) ℕ 𝒱₀ c none Set.univ i arg1 harg1 arg2 harg2 arg3 harg3 arg4 harg4 v1 v4 v5 v8 v11 v36 v7055 v9361 v9473 v9621_2 v9675 v9676 init where
  inv := fun k acc => iprop(pt c arg1 f1 ∗ ⌜acc = (Algo.trip (rd c arg1 f1) 3 v7055 v9473)^[k] init⌝)
  step := fun k acc => by
    subst e1 e4 e5 e8 e11 e36
    rw [t10_eq]
    exact trip_step arg1 c 3 _ inb_S4x4x100000_S1x4x1696_3_0_98304 _ _ _ _ rfl (fun _ => rfl) (chk_of_range4) v7055 v9473 f1 init k acc

end Cert.KernelIdeal.Own

end
-- ==== Proof.KernelIdeal.Body.lean ====
/- The run of the whole body of the first call. -/
module

public import proofs.«01_k».proof.Proof.KernelIdeal.Trip

@[expose] public section

noncomputable section

namespace Cert.KernelIdeal.Own

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

set_option sl_exec.resultNames true in
noncomputable def kernelRun (c : Dev nD) (i : grid0.Coords)
    (M1 : Memref sig .tc .vmem S4x4x100000 .f32) (h1 : M1.IsWhole) (M2 : Memref sig .tc .smem S64x4 .f32) (h2 : M2.IsWhole)
    (M3 : Memref sig .tc .smem S4x1x4 .f32) (h3 : M3.IsWhole) (M4 : Memref sig .tc .smem S4x1x4 .i32) (h4 : M4.IsWhole)
    (f1 : Bf (F := F) c M1) (f2 : Bf (F := F) c M2) :
    { W : Bf (F := F) c M3 × Bf (F := F) c M4 //
      ∀ (f3 : Bf (F := F) c M3) (f4 : Bf (F := F) c M4) (Q : PUnit → sProp 𝕄),
        iprop(pt c M1 f1 ∗ pt c M2 f2 ∗ pt c M3 f3 ∗ pt c M4 f4
          ∗ (iprop(pt c M1 f1 ∗ pt c M2 f2 ∗ pt c M3 W.1 ∗ pt c M4 W.2) -∗ Q ⟨⟩))
        ⊢ wp frame (wpE (defs₀ (F := F)) 𝒱₀ c none) Set.univ
            (cc0__topk3_body i M1 h1 M2 h2 M3 h3 M4 h4) Q } := by
  refine ⟨⟨?_, ?_⟩, fun f3 f4 Q => ?run⟩
  case run =>
    iintro ⟨H1, H2, H3, H4, Hk⟩
    sl_exec_parts!
    sl_step
    iapply Hk
    isplitl [H1]
    · iexact H1
    isplitl [H2]
    · iexact H2
    isplitl [H3]
    · iexact H3
    · iexact H4

end Cert.KernelIdeal.Own

end
-- ==== Proof.KernelIdeal.Vals.lean ====
/- What the first call's body leaves in its two outputs, by the plain functions of `Algo`. -/
module

public import proofs.«01_k».proof.Proof.KernelIdeal.Body

@[expose] public section

noncomputable section

namespace Cert.KernelIdeal.Own

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

variable (c : Dev nD) (i : grid0.Coords) (M1 : Memref sig .tc .vmem S4x4x100000 .f32) (M2 : Memref sig .tc .smem S64x4 .f32)
  (f1 : Bf (F := F) c M1) (f2 : Bf (F := F) c M2)

theorem inb128 (g : Fin 4) (o : Nat) (h : o + 128 ≤ 100000) (a : Fin 3) :
    (![g.val, 0, o] : Fin 3 → Nat) a + S1x4x128.size a ≤ S4x4x100000.size a := by
  have hg := g.isLt
  fin_cases a
  · show g.val + 1 ≤ 4
    omega
  · show 0 + 4 ≤ 4
    omega
  · show o + 128 ≤ 100000
    exact h

/-- The columns from `o` on of member `g`, as the program reads them. -/
def readG (g : Fin 4) (o : Nat) : FVec F (Algo.Mat 4 128) .f32 :=
  if h : o + 128 ≤ 100000 then
    shapeCast (Algo.Mat 4 128) (M1.view.readAt (Elt F) (Rect.unit (s := S4x4x100000) ![g.val, 0, o] S1x4x128.size (inb128 g o h)).toLoadRect f1) Algo.down128
  else shapeCast (Algo.Mat 4 128) (Algo.piece (rd c M1 f1) g 128 o) Algo.down128

theorem readG_eq (g : Fin 4) : readG c M1 f1 g = fun o => shapeCast (Algo.Mat 4 128) (Algo.piece (rd c M1 f1) g 128 o) Algo.down128 := by
  funext o
  unfold readG
  by_cases h : o + 128 ≤ 100000
  · rw [dif_pos h]
    exact congrArg (fun x => shapeCast (Algo.Mat 4 128) x Algo.down128) (load_piece M1 c f1 g 128 _ o rfl (inb128 g o h))
  · rw [dif_neg h]

theorem maxima_eq (g : Fin 4) (s : FVec F S4x1 .f32) : Algo.stack (readG c M1 f1 g) s = Algo.maxima (rd c M1 f1) g s := by
  rw [readG_eq]; rfl

set_option maxRecDepth 100000 in
set_option maxHeartbeats 4000000 in
theorem W0_eq : kernelRun.sl.v2368 c i M1 M2 f1 f2 = Algo.maxima (rd c M1 f1) 0 (kernelRun.sl.v62 c i M2 f2) := by
  rw [← maxima_eq]; rfl

end Cert.KernelIdeal.Own

end
-- ==== Proof.KernelIdeal.Unit.lean ====
/- What the first call's body leaves in its two outputs, by the plain functions of `Algo`. -/
module

public import proofs.«01_k».proof.Proof.KernelIdeal.Trip

@[expose] public section

noncomputable section

namespace Cert.KernelIdeal.Own

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

variable (c : Dev nD) (i : grid0.Coords) (M1 : Memref sig .tc .vmem S4x4x100000 .f32) (M2 : Memref sig .tc .smem S64x4 .f32)
  (f1 : Bf (F := F) c M1) (f2 : Bf (F := F) c M2)

theorem read_unit (off : Fin 2 → Nat) (inb : ∀ a, off a + S1x1.size a ≤ S64x4.size a) (r : Fin 64) (k : Fin 4) (h : off = ![r.val, k.val]) (p : 0 < S1x1.numel) :
    M2.view.readAt (Elt F) (Rect.unit (s := S64x4) off S1x1.size inb).toLoadRect f2 (Shape.Idx.first p) = rd c M2 f2 (ix2 r k) := by
  subst h
  rw [View.readAt_apply]
  refine congrArg (rd c M2 f2) ?_
  funext a
  apply Fin.ext
  fin_cases a
  · show r.val + 1 * (Shape.Idx.first p 0).val = r.val
    have : (Shape.Idx.first p 0).val < 1 := (Shape.Idx.first p 0).isLt
    omega
  · show k.val + 1 * (Shape.Idx.first p 1).val = k.val
    have : (Shape.Idx.first p 1).val < 1 := (Shape.Idx.first p 1).isLt
    omega

/-- The array's row of member `g` of block `i`. -/
def row (i : grid0.Coords) (g : Fin 4) : Fin 64 := ⟨(i 0).val * 4 + g.val, by have h : (i 0).val < 16 := (i 0).isLt; have := g.isLt; omega⟩

theorem row_word : ∀ (n : Fin 16) (g : Fin 4), (Scalar.indexCast (Scalar.addi (Scalar.muli (BitVec.ofNat 32 n.val) 4#32) (BitVec.ofNat 32 g.val))).toNat = n.val * 4 + g.val := by
  decide

theorem off_eq (g : Fin 4) : k0_off1 i (BitVec.ofNat 32 g.val) = ![(row i g).val, (0 : Fin 4).val] ∧ k0_off2 i (BitVec.ofNat 32 g.val) = ![(row i g).val, (1 : Fin 4).val]
    ∧ k0_off3 i (BitVec.ofNat 32 g.val) = ![(row i g).val, (2 : Fin 4).val] ∧ k0_off4 i (BitVec.ofNat 32 g.val) = ![(row i g).val, (3 : Fin 4).val] := by
  have h := row_word ⟨(i 0).val, (i 0).isLt⟩ g
  refine ⟨?_, ?_, ?_, ?_⟩
  · exact congrArg (fun n : Nat => (![n, 0] : Fin 2 → Nat)) h
  · exact congrArg (fun n : Nat => (![n, 1] : Fin 2 → Nat)) h
  · exact congrArg (fun n : Nat => (![n, 2] : Fin 2 → Nat)) h
  · exact congrArg (fun n : Nat => (![n, 3] : Fin 2 → Nat)) h

/-- A member's beam scores, as a column. -/
def scores (A : S64x4.Idx → F .f32) (r : Fin 64) : FVec F S4x1 .f32 := Algo.column (A (ix2 r 0)) (A (ix2 r 1)) (A (ix2 r 2)) (A (ix2 r 3))

end Cert.KernelIdeal.Own

end
-- ==== Proof.KernelIdeal.Scol.lean ====
/- What the first call's body leaves in its two outputs, by the plain functions of `Algo`. -/
module

public import proofs.«01_k».proof.Proof.KernelIdeal.Unit
public import proofs.«01_k».proof.Proof.KernelIdeal.Body

@[expose] public section

noncomputable section

namespace Cert.KernelIdeal.Own

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

variable (c : Dev nD) (i : grid0.Coords) (M1 : Memref sig .tc .vmem S4x4x100000 .f32) (M2 : Memref sig .tc .smem S64x4 .f32)
  (f1 : Bf (F := F) c M1) (f2 : Bf (F := F) c M2)

/-- The four members' columns of beam scores, as the program has them. -/
def scol : Fin 4 → FVec F S4x1 .f32 :=
  ![kernelRun.sl.v62 c i M2 f2, kernelRun.sl.v2393 c i M2 f2, kernelRun.sl.v4724 c i M2 f2, kernelRun.sl.v7055 c i M2 f2]

theorem scol_eq (g : Fin 4) : scol c i M2 f2 g = scores (rd c M2 f2) (row i g) := by
  have hk := off_eq i g
  fin_cases g
  · show Algo.column (kernelRun.sl.v40 c i M2 f2) (kernelRun.sl.v43 c i M2 f2) (kernelRun.sl.v46 c i M2 f2) (kernelRun.sl.v49 c i M2 f2) = _
    exact congr (congr (congr (congrArg Algo.column (read_unit c M2 f2 _ _ _ _ hk.1 _)) (read_unit c M2 f2 _ _ _ _ hk.2.1 _)) (read_unit c M2 f2 _ _ _ _ hk.2.2.1 _)) (read_unit c M2 f2 _ _ _ _ hk.2.2.2 _)
  · show Algo.column (kernelRun.sl.v2371 c i M2 f2) (kernelRun.sl.v2374 c i M2 f2) (kernelRun.sl.v2377 c i M2 f2) (kernelRun.sl.v2380 c i M2 f2) = _
    exact congr (congr (congr (congrArg Algo.column (read_unit c M2 f2 _ _ _ _ hk.1 _)) (read_unit c M2 f2 _ _ _ _ hk.2.1 _)) (read_unit c M2 f2 _ _ _ _ hk.2.2.1 _)) (read_unit c M2 f2 _ _ _ _ hk.2.2.2 _)
  · show Algo.column (kernelRun.sl.v4702 c i M2 f2) (kernelRun.sl.v4705 c i M2 f2) (kernelRun.sl.v4708 c i M2 f2) (kernelRun.sl.v4711 c i M2 f2) = _
    exact congr (congr (congr (congrArg Algo.column (read_unit c M2 f2 _ _ _ _ hk.1 _)) (read_unit c M2 f2 _ _ _ _ hk.2.1 _)) (read_unit c M2 f2 _ _ _ _ hk.2.2.1 _)) (read_unit c M2 f2 _ _ _ _ hk.2.2.2 _)
  · show Algo.column (kernelRun.sl.v7033 c i M2 f2) (kernelRun.sl.v7036 c i M2 f2) (kernelRun.sl.v7039 c i M2 f2) (kernelRun.sl.v7042 c i M2 f2) = _
    exact congr (congr (congr (congrArg Algo.column (read_unit c M2 f2 _ _ _ _ hk.1 _)) (read_unit c M2 f2 _ _ _ _ hk.2.1 _)) (read_unit c M2 f2 _ _ _ _ hk.2.2.1 _)) (read_unit c M2 f2 _ _ _ _ hk.2.2.2 _)

end Cert.KernelIdeal.Own

end
-- ==== Proof.KernelIdeal.Slots.lean ====
/- What the first call's body leaves in its two outputs, by the plain functions of `Algo`. -/
module

public import proofs.«01_k».proof.Proof.KernelIdeal.Vals
public import proofs.«01_k».proof.Proof.KernelIdeal.Scol

@[expose] public section

noncomputable section

namespace Cert.KernelIdeal.Own

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

variable (c : Dev nD) (i : grid0.Coords) (M1 : Memref sig .tc .vmem S4x4x100000 .f32) (M2 : Memref sig .tc .smem S64x4 .f32)
  (f1 : Bf (F := F) c M1) (f2 : Bf (F := F) c M2)

set_option maxRecDepth 100000 in
set_option maxHeartbeats 4000000 in
theorem W1_eq : kernelRun.sl.v4699 c i M1 M2 f1 f2 = Algo.maxima (rd c M1 f1) 1 (kernelRun.sl.v2393 c i M2 f2) := by
  rw [← maxima_eq]; rfl

set_option maxRecDepth 100000 in
set_option maxHeartbeats 4000000 in
theorem W2_eq : kernelRun.sl.v7030 c i M1 M2 f1 f2 = Algo.maxima (rd c M1 f1) 2 (kernelRun.sl.v4724 c i M2 f2) := by
  rw [← maxima_eq]; rfl

set_option maxRecDepth 100000 in
set_option maxHeartbeats 4000000 in
theorem W3_eq : kernelRun.sl.v9361 c i M1 M2 f1 f2 = Algo.maxima (rd c M1 f1) 3 (kernelRun.sl.v7055 c i M2 f2) := by
  rw [← maxima_eq]; rfl

theorem T0_eq : kernelRun.sl.v9389 c i M1 M2 f1 f2 = Algo.thr (kernelRun.sl.v2368 c i M1 M2 f1 f2) := rfl
theorem T1_eq : kernelRun.sl.v9417 c i M1 M2 f1 f2 = Algo.thr (kernelRun.sl.v4699 c i M1 M2 f1 f2) := rfl
theorem T2_eq : kernelRun.sl.v9445 c i M1 M2 f1 f2 = Algo.thr (kernelRun.sl.v7030 c i M1 M2 f1 f2) := rfl
theorem T3_eq : kernelRun.sl.v9473 c i M1 M2 f1 f2 = Algo.thr (kernelRun.sl.v9361 c i M1 M2 f1 f2) := rfl

/-- The four members' slots, as the program has them. -/
def slotsP : Fin 4 → Algo.St F 4 6272 :=
  ![Algo.gather (rd c M1 f1) 0 (kernelRun.sl.v62 c i M2 f2) (kernelRun.sl.v9389 c i M1 M2 f1 f2) (kernelRun.sl.v2368 c i M1 M2 f1 f2),
    Algo.gather (rd c M1 f1) 1 (kernelRun.sl.v2393 c i M2 f2) (kernelRun.sl.v9417 c i M1 M2 f1 f2) (kernelRun.sl.v4699 c i M1 M2 f1 f2),
    Algo.gather (rd c M1 f1) 2 (kernelRun.sl.v4724 c i M2 f2) (kernelRun.sl.v9445 c i M1 M2 f1 f2) (kernelRun.sl.v7030 c i M1 M2 f1 f2),
    Algo.gather (rd c M1 f1) 3 (kernelRun.sl.v7055 c i M2 f2) (kernelRun.sl.v9473 c i M1 M2 f1 f2) (kernelRun.sl.v9361 c i M1 M2 f1 f2)]

theorem slotsP_eq (g : Fin 4) : slotsP c i M1 M2 f1 f2 g = Algo.slots (rd c M1 f1) g (scol c i M2 f2 g) := by
  fin_cases g
  · show Algo.gather _ _ _ _ _ = Algo.slots (rd c M1 f1) 0 (kernelRun.sl.v62 c i M2 f2)
    rw [T0_eq, W0_eq]; rfl
  · show Algo.gather _ _ _ _ _ = Algo.slots (rd c M1 f1) 1 (kernelRun.sl.v2393 c i M2 f2)
    rw [T1_eq, W1_eq]; rfl
  · show Algo.gather _ _ _ _ _ = Algo.slots (rd c M1 f1) 2 (kernelRun.sl.v4724 c i M2 f2)
    rw [T2_eq, W2_eq]; rfl
  · show Algo.gather _ _ _ _ _ = Algo.slots (rd c M1 f1) 3 (kernelRun.sl.v7055 c i M2 f2)
    rw [T3_eq, W3_eq]; rfl

end Cert.KernelIdeal.Own

end
-- ==== Proof.KernelIdeal.Cells.lean ====
/- What the first call's body leaves in its two outputs, by the plain functions of `Algo`. -/
module

public import proofs.«01_k».proof.Proof.KernelIdeal.Trip

@[expose] public section

noncomputable section

namespace Cert.KernelIdeal.Own

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

variable (c : Dev nD) (i : grid0.Coords) (M1 : Memref sig .tc .vmem S4x4x100000 .f32) (M2 : Memref sig .tc .smem S64x4 .f32)
  (f1 : Bf (F := F) c M1) (f2 : Bf (F := F) c M2)

theorem cell_inb (g r : Fin 4) (a : Fin 3) : (![g.val, 0, r.val] : Fin 3 → Nat) a + S1x1x1.size a ≤ S4x1x4.size a := by
  have hg := g.isLt
  have hr := r.isLt
  fin_cases a
  · show g.val + 1 ≤ 4
    omega
  · show 0 + 1 ≤ 1
    omega
  · show r.val + 1 ≤ 4
    omega

/-- A store of one cell. -/
def cell {e : EltTy} (w : Fin 4 → Fin 4 → Elt F e) (g r : Fin 4) : View.Piece (Elt F) S4x1x4 e :=
  ⟨Rect.unit ![g.val, 0, r.val] S1x1x1.size (cell_inb g r), fun _ => w g r⟩

/-- Sixteen stores, one per cell. -/
def cells {e : EltTy} (w : Fin 4 → Fin 4 → Elt F e) : List (View.Piece (Elt F) S4x1x4 e) :=
  [cell w 3 3, cell w 3 2, cell w 3 1, cell w 3 0, cell w 2 3, cell w 2 2, cell w 2 1, cell w 2 0,
   cell w 1 3, cell w 1 2, cell w 1 1, cell w 1 0, cell w 0 3, cell w 0 2, cell w 0 1, cell w 0 0]

theorem cells_mem {e : EltTy} (w : Fin 4 → Fin 4 → Elt F e) (g r : Fin 4) : cell w g r ∈ cells w := by
  fin_cases g <;> fin_cases r <;> simp [cells]

theorem mem_cells {e : EltTy} (w : Fin 4 → Fin 4 → Elt F e) (p : View.Piece (Elt F) S4x1x4 e) (h : p ∈ cells w) : ∃ g r, p = cell w g r := by
  simp only [cells, List.mem_cons, List.not_mem_nil, or_false] at h
  rcases h with h | h | h | h | h | h | h | h | h | h | h | h | h | h | h | h <;> exact ⟨_, _, h⟩

theorem read_cells {e : EltTy} {sp : Space} (M : Memref sig .tc sp S4x1x4 e) (w : Fin 4 → Fin 4 → Elt F e) (f : M.view.ty.Contents (Elt F)) :
    M.view.read (Elt F) (M.view.writes (Elt F) f (cells w)) = fun j => w (j 0) (j 2) := by
  funext y
  refine View.read_writes_apply_of_pieces M.view f (fun j => w (j 0) (j 2)) (cells w) ?_ y ?_
  · intro p hp x
    obtain ⟨g, r, rfl⟩ := mem_cells w p hp
    have e0 : (cell w g r).1.emb x 0 = g := by
      apply Fin.ext
      show g.val + 1 * (x 0).val = g.val
      have : (x 0).val < 1 := (x 0).isLt
      omega
    have e2 : (cell w g r).1.emb x 2 = r := by
      apply Fin.ext
      show r.val + 1 * (x 2).val = r.val
      have : (x 2).val < 1 := (x 2).isLt
      omega
    show w g r = w ((cell w g r).1.emb x 0) ((cell w g r).1.emb x 2)
    rw [e0, e2]
  · refine ⟨cell w (y 0) (y 2), cells_mem w _ _, ?_⟩
    rw [← Rect.map_emb_univ, Finset.mem_map]
    refine ⟨ix3 0 0 0, Finset.mem_univ _, ?_⟩
    funext a
    apply Fin.ext
    have h1 : (y 1).val < 1 := (y 1).isLt
    fin_cases a
    · show (y 0).val + 1 * 0 = (y 0).val
      omega
    · show 0 + 1 * 0 = (y 1).val
      omega
    · show (y 2).val + 1 * 0 = (y 2).val
      omega

end Cert.KernelIdeal.Own

end
-- ==== Proof.KernelIdeal.OutV.lean ====
/- What the first call's body leaves in its two outputs, by the plain functions of `Algo`. -/
module

public import proofs.«01_k».proof.Proof.KernelIdeal.Slots
public import proofs.«01_k».proof.Proof.KernelIdeal.Cells

@[expose] public section

noncomputable section

namespace Cert.KernelIdeal.Own

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

variable (c : Dev nD) (i : grid0.Coords) (M1 : Memref sig .tc .vmem S4x4x100000 .f32) (M2 : Memref sig .tc .smem S64x4 .f32)
  (f1 : Bf (F := F) c M1) (f2 : Bf (F := F) c M2)

theorem cons_cell (w : Fin 4 → Fin 4 → Elt F .f32) (g r : Fin 4) (v : Elt F .f32) (L L' : List (View.Piece (Elt F) S4x1x4 .f32)) (hv : v = w g r) (hL : L = L') :
    (⟨Rect.unit ![g.val, 0, r.val] S1x1x1.size (cell_inb g r), fun _ => v⟩ : View.Piece (Elt F) S4x1x4 .f32) :: L = cell w g r :: L' := by
  rw [hv, hL]; rfl

attribute [local irreducible] Algo.trip in
set_option maxRecDepth 100000 in
set_option maxHeartbeats 4000000 in
theorem H3_eq : kernelRun.sl.H3_16 c i M1 M2 f1 f2 = cells (e := .f32) fun g r => Algo.chosenV (slotsP c i M1 M2 f1 f2 g) r.val := by
  unfold cells
  refine cons_cell (fun g r => Algo.chosenV (slotsP c i M1 M2 f1 f2 g) r.val) 3 3 _ _ _ rfl ?_
  refine cons_cell (fun g r => Algo.chosenV (slotsP c i M1 M2 f1 f2 g) r.val) 3 2 _ _ _ rfl ?_
  refine cons_cell (fun g r => Algo.chosenV (slotsP c i M1 M2 f1 f2 g) r.val) 3 1 _ _ _ rfl ?_
  refine cons_cell (fun g r => Algo.chosenV (slotsP c i M1 M2 f1 f2 g) r.val) 3 0 _ _ _ rfl ?_
  refine cons_cell (fun g r => Algo.chosenV (slotsP c i M1 M2 f1 f2 g) r.val) 2 3 _ _ _ rfl ?_
  refine cons_cell (fun g r => Algo.chosenV (slotsP c i M1 M2 f1 f2 g) r.val) 2 2 _ _ _ rfl ?_
  refine cons_cell (fun g r => Algo.chosenV (slotsP c i M1 M2 f1 f2 g) r.val) 2 1 _ _ _ rfl ?_
  refine cons_cell (fun g r => Algo.chosenV (slotsP c i M1 M2 f1 f2 g) r.val) 2 0 _ _ _ rfl ?_
  refine cons_cell (fun g r => Algo.chosenV (slotsP c i M1 M2 f1 f2 g) r.val) 1 3 _ _ _ rfl ?_
  refine cons_cell (fun g r => Algo.chosenV (slotsP c i M1 M2 f1 f2 g) r.val) 1 2 _ _ _ rfl ?_
  refine cons_cell (fun g r => Algo.chosenV (slotsP c i M1 M2 f1 f2 g) r.val) 1 1 _ _ _ rfl ?_
  refine cons_cell (fun g r => Algo.chosenV (slotsP c i M1 M2 f1 f2 g) r.val) 1 0 _ _ _ rfl ?_
  refine cons_cell (fun g r => Algo.chosenV (slotsP c i M1 M2 f1 f2 g) r.val) 0 3 _ _ _ rfl ?_
  refine cons_cell (fun g r => Algo.chosenV (slotsP c i M1 M2 f1 f2 g) r.val) 0 2 _ _ _ rfl ?_
  refine cons_cell (fun g r => Algo.chosenV (slotsP c i M1 M2 f1 f2 g) r.val) 0 1 _ _ _ rfl ?_
  refine cons_cell (fun g r => Algo.chosenV (slotsP c i M1 M2 f1 f2 g) r.val) 0 0 _ _ _ rfl ?_
  rfl

end Cert.KernelIdeal.Own

end
-- ==== Proof.KernelIdeal.OutI.lean ====
/- What the first call's body leaves in its two outputs, by the plain functions of `Algo`. -/
module

public import proofs.«01_k».proof.Proof.KernelIdeal.Slots
public import proofs.«01_k».proof.Proof.KernelIdeal.Cells

@[expose] public section

noncomputable section

namespace Cert.KernelIdeal.Own

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

variable (c : Dev nD) (i : grid0.Coords) (M1 : Memref sig .tc .vmem S4x4x100000 .f32) (M2 : Memref sig .tc .smem S64x4 .f32)
  (f1 : Bf (F := F) c M1) (f2 : Bf (F := F) c M2)

theorem cons_cell_i (w : Fin 4 → Fin 4 → Elt F .i32) (g r : Fin 4) (v : Elt F .i32) (L L' : List (View.Piece (Elt F) S4x1x4 .i32)) (hv : v = w g r) (hL : L = L') :
    (⟨Rect.unit ![g.val, 0, r.val] S1x1x1.size (cell_inb g r), fun _ => v⟩ : View.Piece (Elt F) S4x1x4 .i32) :: L = cell w g r :: L' := by
  rw [hv, hL]; rfl

attribute [local irreducible] Algo.trip in
set_option maxRecDepth 100000 in
set_option maxHeartbeats 4000000 in
theorem H4_eq : kernelRun.sl.H4_16 c i M1 M2 f1 f2 = cells (e := .i32) fun g r => Algo.chosenI (slotsP c i M1 M2 f1 f2 g) r.val := by
  unfold cells
  refine cons_cell_i (fun g r => Algo.chosenI (slotsP c i M1 M2 f1 f2 g) r.val) 3 3 _ _ _ rfl ?_
  refine cons_cell_i (fun g r => Algo.chosenI (slotsP c i M1 M2 f1 f2 g) r.val) 3 2 _ _ _ rfl ?_
  refine cons_cell_i (fun g r => Algo.chosenI (slotsP c i M1 M2 f1 f2 g) r.val) 3 1 _ _ _ rfl ?_
  refine cons_cell_i (fun g r => Algo.chosenI (slotsP c i M1 M2 f1 f2 g) r.val) 3 0 _ _ _ rfl ?_
  refine cons_cell_i (fun g r => Algo.chosenI (slotsP c i M1 M2 f1 f2 g) r.val) 2 3 _ _ _ rfl ?_
  refine cons_cell_i (fun g r => Algo.chosenI (slotsP c i M1 M2 f1 f2 g) r.val) 2 2 _ _ _ rfl ?_
  refine cons_cell_i (fun g r => Algo.chosenI (slotsP c i M1 M2 f1 f2 g) r.val) 2 1 _ _ _ rfl ?_
  refine cons_cell_i (fun g r => Algo.chosenI (slotsP c i M1 M2 f1 f2 g) r.val) 2 0 _ _ _ rfl ?_
  refine cons_cell_i (fun g r => Algo.chosenI (slotsP c i M1 M2 f1 f2 g) r.val) 1 3 _ _ _ rfl ?_
  refine cons_cell_i (fun g r => Algo.chosenI (slotsP c i M1 M2 f1 f2 g) r.val) 1 2 _ _ _ rfl ?_
  refine cons_cell_i (fun g r => Algo.chosenI (slotsP c i M1 M2 f1 f2 g) r.val) 1 1 _ _ _ rfl ?_
  refine cons_cell_i (fun g r => Algo.chosenI (slotsP c i M1 M2 f1 f2 g) r.val) 1 0 _ _ _ rfl ?_
  refine cons_cell_i (fun g r => Algo.chosenI (slotsP c i M1 M2 f1 f2 g) r.val) 0 3 _ _ _ rfl ?_
  refine cons_cell_i (fun g r => Algo.chosenI (slotsP c i M1 M2 f1 f2 g) r.val) 0 2 _ _ _ rfl ?_
  refine cons_cell_i (fun g r => Algo.chosenI (slotsP c i M1 M2 f1 f2 g) r.val) 0 1 _ _ _ rfl ?_
  refine cons_cell_i (fun g r => Algo.chosenI (slotsP c i M1 M2 f1 f2 g) r.val) 0 0 _ _ _ rfl ?_
  rfl

end Cert.KernelIdeal.Own

end
-- ==== Proof.KernelIdeal.Out.lean ====
/- What the first call's body leaves in its two outputs, by the plain functions of `Algo`. -/
module

public import proofs.«01_k».proof.Proof.KernelIdeal.OutV
public import proofs.«01_k».proof.Proof.KernelIdeal.OutI
public import proofs.«01_k».proof.Proof.KernelIdeal.Scol

@[expose] public section

noncomputable section

namespace Cert.KernelIdeal.Own

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

variable (c : Dev nD) (i : grid0.Coords) (M1 : Memref sig .tc .vmem S4x4x100000 .f32) (M2 : Memref sig .tc .smem S64x4 .f32)
  (f1 : Bf (F := F) c M1) (f2 : Bf (F := F) c M2)

variable (h1 : M1.IsWhole) (h2 : M2.IsWhole) (M3 : Memref sig .tc .smem S4x1x4 .f32) (h3 : M3.IsWhole) (M4 : Memref sig .tc .smem S4x1x4 .i32) (h4 : M4.IsWhole)

/-- The first output's block: the four chosen values of each member. -/
def outV (X : S4x4x100000.Idx → F .f32) (A : S64x4.Idx → F .f32) (i : grid0.Coords) : S4x1x4.Idx → F .f32 :=
  fun j => Algo.chosenV (Algo.slots X (j 0) (scores A (row i (j 0)))) (j 2).val
/-- The second output's block: the four chosen indices of each member. -/
def outI (X : S4x4x100000.Idx → F .f32) (A : S64x4.Idx → F .f32) (i : grid0.Coords) : S4x1x4.Idx → BitVec 32 :=
  fun j => Algo.chosenI (Algo.slots X (j 0) (scores A (row i (j 0)))) (j 2).val

theorem run_fst : rd c M3 (kernelRun c i M1 h1 M2 h2 M3 h3 M4 h4 f1 f2).1.1 = outV (rd c M1 f1) (rd c M2 f2) i := by
  show M3.view.read (Elt F) (M3.view.writes (Elt F) M3.view.junk (kernelRun.sl.H3_16 c i M1 M2 f1 f2)) = _
  rw [H3_eq, read_cells]
  funext j
  have h : slotsP c i M1 M2 f1 f2 (j 0) = Algo.slots (rd c M1 f1) (j 0) (scores (rd c M2 f2) (row i (j 0))) := by
    rw [slotsP_eq c i M1 M2 f1 f2 (j 0), scol_eq c i M2 f2 (j 0)]
  exact congrArg (fun s => Algo.chosenV s (j 2).val) h

theorem run_snd : rd c M4 (kernelRun c i M1 h1 M2 h2 M3 h3 M4 h4 f1 f2).1.2 = outI (rd c M1 f1) (rd c M2 f2) i := by
  show M4.view.read (Elt F) (M4.view.writes (Elt F) M4.view.junk (kernelRun.sl.H4_16 c i M1 M2 f1 f2)) = _
  rw [H4_eq, read_cells]
  funext j
  have h : slotsP c i M1 M2 f1 f2 (j 0) = Algo.slots (rd c M1 f1) (j 0) (scores (rd c M2 f2) (row i (j 0))) := by
    rw [slotsP_eq c i M1 M2 f1 f2 (j 0), scol_eq c i M2 f2 (j 0)]
  exact congrArg (fun s => Algo.chosenI s (j 2).val) h

end Cert.KernelIdeal.Own

end
-- ==== Proof.KernelIdeal.Finish.lean ====
/- The run of the whole body of the second call. -/
module

public import proofs.«01_k».proof.Proof.KernelIdeal.Trip

@[expose] public section

noncomputable section

namespace Cert.KernelIdeal.Own

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

set_option sl_exec.resultNames true in
noncomputable def finishRun (c : Dev nD) (M1 : Memref sig .tc .vmem S64x1x4 .f32) (h1 : M1.IsWhole) (M2 : Memref sig .tc .vmem S64x1x4 .i32) (h2 : M2.IsWhole)
    (M3 : Memref sig .tc .vmem S64x32 .i32) (h3 : M3.IsWhole) (M4 : Memref sig .tc .vmem S64x4 .f32) (h4 : M4.IsWhole)
    (M5 : Memref sig .tc .vmem S64x4 .f32) (h5 : M5.IsWhole) (M6 : Memref sig .tc .vmem S64x4 .f32) (h6 : M6.IsWhole)
    (M7 : Memref sig .tc .vmem S64x4 .i32) (h7 : M7.IsWhole) (M8 : Memref sig .tc .vmem S64x36 .i32) (h8 : M8.IsWhole)
    (f1 : Bf (F := F) c M1) (f2 : Bf (F := F) c M2) (f3 : Bf (F := F) c M3) :
    { W : Bf (F := F) c M4 × Bf (F := F) c M5 × Bf (F := F) c M6 × Bf (F := F) c M7 × Bf (F := F) c M8 //
      ∀ (f4 : Bf (F := F) c M4) (f5 : Bf (F := F) c M5) (f6 : Bf (F := F) c M6) (f7 : Bf (F := F) c M7) (f8 : Bf (F := F) c M8) (Q : PUnit → sProp 𝕄),
        iprop(pt c M1 f1 ∗ pt c M2 f2 ∗ pt c M3 f3 ∗ pt c M4 f4 ∗ pt c M5 f5 ∗ pt c M6 f6 ∗ pt c M7 f7 ∗ pt c M8 f8
          ∗ (iprop(pt c M1 f1 ∗ pt c M2 f2 ∗ pt c M3 f3 ∗ pt c M4 W.1 ∗ pt c M5 W.2.1 ∗ pt c M6 W.2.2.1 ∗ pt c M7 W.2.2.2.1 ∗ pt c M8 W.2.2.2.2) -∗ Q ⟨⟩))
        ⊢ wp frame (wpE (defs₀ (F := F)) 𝒱₀ c none) Set.univ
            (cc1__finish_body M1 h1 M2 h2 M3 h3 M4 h4 M5 h5 M6 h6 M7 h7 M8 h8) Q } := by
  refine ⟨⟨?_, ?_, ?_, ?_, ?_⟩, fun f4 f5 f6 f7 f8 Q => ?run⟩
  case run =>
    iintro ⟨H1, H2, H3, H4, H5, H6, H7, H8, Hk⟩
    sl_exec_parts!
    sl_step
    iapply Hk
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    · iexact H8

end Cert.KernelIdeal.Own

end
-- ==== Proof.KernelIdeal.FinVals.lean ====
/- What the second call's body leaves in its five outputs. -/
module

public import proofs.«01_k».proof.Proof.KernelIdeal.Finish

@[expose] public section

noncomputable section

namespace Cert.KernelIdeal.Own

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

variable (c : Dev nD)

/-- The second call's results, as functions of the chosen values `x`, the chosen indices `y` and the hypotheses `h`. -/
def fTop (x : S64x1x4.Idx → F .f32) : FVec F S64x4 .f32 := k1_pay2 x
def fTok (y : S64x1x4.Idx → BitVec 32) : IVec S64x4 32 := k1_pay4 (F := F) y
def fFin (x : S64x1x4.Idx → F .f32) (y : S64x1x4.Idx → BitVec 32) : FVec F S64x4 .f32 := k1_pay17 (fTop x) (fTok (F := F) y)
def fMask (x : S64x1x4.Idx → F .f32) (y : S64x1x4.Idx → BitVec 32) : FVec F S64x4 .f32 := k1_pay16 (fTop x) (fTok (F := F) y)
def lane4 : IVec S64x4 32 := iota Kind.tc S64x4 32 [1] iota_S64x4_d1_w32
def fAlive (x : S64x1x4.Idx → F .f32) (y : S64x1x4.Idx → BitVec 32) : FVec F S64x4 .f32 :=
  k1_pay29 (fMask x y) lane4 (k1_pay18 (fTop x) (fTok (F := F) y)) (k1_pay19 (fTop x) (fTok (F := F) y))
def fPick (x : S64x1x4.Idx → F .f32) (y : S64x1x4.Idx → BitVec 32) : IVec S64x4 32 :=
  k1_pay30 (fMask x y) lane4 (k1_pay19 (fTop x) (fTok (F := F) y))
/-- The chosen candidates' hypotheses, a candidate after the other. -/
def fCand (y : S64x1x4.Idx → BitVec 32) (h : S64x32.Idx → BitVec 32) : IVec S64x32 32 :=
  k1_pay14 (k1_pay7 (k1_pay5 (F := F) y) (k1_pay6 (F := F) y) 1#32) (k1_pay8 (F := F) h) k1_pay9 k1_pay10 (k1_pay11 (k1_pay5 (F := F) y) (k1_pay6 (F := F) y) 1#32) k1_pay12
    (k1_pay13 (k1_pay5 (F := F) y) (k1_pay6 (F := F) y) 1#32)
def fLane (x : S64x1x4.Idx → F .f32) (y : S64x1x4.Idx → BitVec 32) : IVec S64x32 32 :=
  k1_pay31 k1_pay9 k1_pay10 (fMask x y) lane4 (k1_pay19 (fTop x) (fTok (F := F) y))
def fHyp (x : S64x1x4.Idx → F .f32) (y : S64x1x4.Idx → BitVec 32) (h : S64x32.Idx → BitVec 32) : IVec S64x36 32 :=
  k1_pay1 (fTok (F := F) y) (fCand (F := F) y h) (fPick x y) (k1_pay33 k1_pay9 (fPick x y) (fLane x y) k1_pay32)
    (k1_pay34 k1_pay9 k1_pay10 (fCand (F := F) y h) (fPick x y) (fLane x y) k1_pay32) (k1_pay35 (fTok (F := F) y) (fPick x y))

theorem read_whole {sp : Space} {S : Shape} {e : EltTy} (M : Memref sig .tc sp S e) (f : Bf (F := F) c M) (off : Fin S.rank → Nat) (h : off = fun _ => 0)
    (inb : ∀ a, off a + S.size a ≤ S.size a) : M.view.readAt (Elt F) (Rect.unit (s := S) off S.size inb).toLoadRect f = rd c M f := by
  subst h
  funext x
  rw [View.readAt_apply]
  refine congrArg (rd c M f) ?_
  funext a
  apply Fin.ext
  show 0 + 1 * (x a).val = (x a).val
  omega

theorem read_one {sp : Space} {S : Shape} {e : EltTy} (M : Memref sig .tc sp S e) (f : M.view.ty.Contents (Elt F)) (off : Fin S.rank → Nat) (h : off = fun _ => 0)
    (inb : ∀ a, off a + S.size a ≤ S.size a) (w : S.Idx → Elt F e) :
    M.view.read (Elt F) (M.view.writes (Elt F) f [⟨Rect.unit (s := S) off S.size inb, w⟩]) = w := by
  subst h
  have he : ∀ x : S.Idx, (Rect.unit (s := S) (fun _ => 0) S.size inb).emb x = x := by
    intro x
    funext a
    apply Fin.ext
    show 0 + 1 * (x a).val = (x a).val
    omega
  funext y
  refine View.read_writes_apply_of_pieces M.view f w _ ?_ y ?_
  · intro p hp x
    rw [List.mem_singleton] at hp
    subst hp
    exact congrArg w (he x).symm
  · refine ⟨_, List.mem_singleton_self _, ?_⟩
    rw [← Rect.map_emb_univ, Finset.mem_map]
    exact ⟨y, Finset.mem_univ _, he y⟩

theorem zero2 : (![0, 0] : Fin 2 → Nat) = fun _ => 0 := by funext a; fin_cases a <;> rfl
theorem zero3 : (![0, 0, 0] : Fin 3 → Nat) = fun _ => 0 := by funext a; fin_cases a <;> rfl

variable (M1 : Memref sig .tc .vmem S64x1x4 .f32) (h1 : M1.IsWhole) (M2 : Memref sig .tc .vmem S64x1x4 .i32) (h2 : M2.IsWhole)
    (M3 : Memref sig .tc .vmem S64x32 .i32) (h3 : M3.IsWhole) (M4 : Memref sig .tc .vmem S64x4 .f32) (h4 : M4.IsWhole)
    (M5 : Memref sig .tc .vmem S64x4 .f32) (h5 : M5.IsWhole) (M6 : Memref sig .tc .vmem S64x4 .f32) (h6 : M6.IsWhole)
    (M7 : Memref sig .tc .vmem S64x4 .i32) (h7 : M7.IsWhole) (M8 : Memref sig .tc .vmem S64x36 .i32) (h8 : M8.IsWhole)
    (f1 : Bf (F := F) c M1) (f2 : Bf (F := F) c M2) (f3 : Bf (F := F) c M3)

/-- The run at these memrefs. -/
abbrev fin : Bf (F := F) c M4 × Bf (F := F) c M5 × Bf (F := F) c M6 × Bf (F := F) c M7 × Bf (F := F) c M8 :=
  (finishRun c M1 h1 M2 h2 M3 h3 M4 h4 M5 h5 M6 h6 M7 h7 M8 h8 f1 f2 f3).1

theorem fin_top : rd c M4 (fin c M1 h1 M2 h2 M3 h3 M4 h4 M5 h5 M6 h6 M7 h7 M8 h8 f1 f2 f3).1 = fTop (rd c M1 f1) := by
  rw [← read_whole c M1 f1 ![0, 0, 0] zero3 inb_S64x1x4_S64x1x4_0_0_0]
  exact read_one M4 _ ![0, 0] zero2 inb_S64x4_S64x4_0_0 _

theorem fin_alive : rd c M5 (fin c M1 h1 M2 h2 M3 h3 M4 h4 M5 h5 M6 h6 M7 h7 M8 h8 f1 f2 f3).2.1 = fAlive (rd c M1 f1) (rd c M2 f2) := by
  rw [← read_whole c M1 f1 ![0, 0, 0] zero3 inb_S64x1x4_S64x1x4_0_0_0, ← read_whole c M2 f2 ![0, 0, 0] zero3 inb_S64x1x4_S64x1x4_0_0_0]
  exact read_one M5 _ ![0, 0] zero2 inb_S64x4_S64x4_0_0 _

theorem fin_fin : rd c M6 (fin c M1 h1 M2 h2 M3 h3 M4 h4 M5 h5 M6 h6 M7 h7 M8 h8 f1 f2 f3).2.2.1 = fFin (rd c M1 f1) (rd c M2 f2) := by
  rw [← read_whole c M1 f1 ![0, 0, 0] zero3 inb_S64x1x4_S64x1x4_0_0_0, ← read_whole c M2 f2 ![0, 0, 0] zero3 inb_S64x1x4_S64x1x4_0_0_0]
  exact read_one M6 _ ![0, 0] zero2 inb_S64x4_S64x4_0_0 _

theorem fin_tok : rd c M7 (fin c M1 h1 M2 h2 M3 h3 M4 h4 M5 h5 M6 h6 M7 h7 M8 h8 f1 f2 f3).2.2.2.1 = fTok (F := F) (rd c M2 f2) := by
  rw [← read_whole c M2 f2 ![0, 0, 0] zero3 inb_S64x1x4_S64x1x4_0_0_0]
  exact read_one M7 _ ![0, 0] zero2 inb_S64x4_S64x4_0_0 _

theorem fin_hyp : rd c M8 (fin c M1 h1 M2 h2 M3 h3 M4 h4 M5 h5 M6 h6 M7 h7 M8 h8 f1 f2 f3).2.2.2.2 = fHyp (rd c M1 f1) (rd c M2 f2) (rd c M3 f3) := by
  rw [← read_whole c M1 f1 ![0, 0, 0] zero3 inb_S64x1x4_S64x1x4_0_0_0, ← read_whole c M2 f2 ![0, 0, 0] zero3 inb_S64x1x4_S64x1x4_0_0_0,
    ← read_whole c M3 f3 ![0, 0] zero2 inb_S64x32_S64x32_0_0]
  exact read_one M8 _ ![0, 0] zero2 inb_S64x36_S64x36_0_0 _

end Cert.KernelIdeal.Own

end
-- ==== Proof.KernelIdeal.Regs.lean ====
/- The two calls as steps of the host program. -/
module

public import proofs.«01_k».proof.Proof.KernelIdeal.Out
public import proofs.«01_k».proof.Proof.KernelIdeal.FinVals
public import proofs.«01_k».proof.Proof.Gen.KernelIdeal.Regions
public import proofs.«01_k».proof.Proof.Gen.KernelIdeal.Points
public import Idealize.ShloMosaic.Lib.Pipeline.RegionsLoop

@[expose] public section

noncomputable section

namespace Cert.KernelIdeal.Own

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ (UR nD τ) ℕ

theorem owns_out (c : Dev nD) {sp : Space} {S : Shape} {e : EltTy} (M : Memref sig .tc sp S e) (h : M.IsWhole) (X : S.Idx → Elt F e) :
    (owns (c : Thread nD τ) M fullShare X : sProp 𝕄) ⊢ iprop(∃ f : Bf (F := F) c M, ⌜rd c M f = X⌝ ∗ pt c M f) := by
  unfold owns
  rw [h.set_eq_univ]

theorem owns_in (c : Dev nD) {sp : Space} {S : Shape} {e : EltTy} (M : Memref sig .tc sp S e) (h : M.IsWhole) (X : S.Idx → Elt F e) (f : Bf (F := F) c M)
    (hf : rd c M f = X) : pt c M f ⊢ (owns (c : Thread nD τ) M fullShare X : sProp 𝕄) := by
  unfold owns
  rw [h.set_eq_univ]
  iintro H
  iexists f
  isplitr
  · ipureintro; exact hf
  · iexact H

abbrev L : GSem nD τ sig → Finset Unit := fun _ => ∅
abbrev lv : GSem nD τ sig → Unit → ℕ := fun _ _ => 0

/-- What rides along beside the buffers: the core owes nothing. -/
abbrev E (_ : Fin 3) (c : Dev nD) : sProp 𝕄 := iprop(∃ W, owes (c : Thread nD τ) (0 : CellTallies nD τ sig Unit) W)

variable (V : (c : Dev nD) → (b : Ref sig .tc) → Buf (Elt F) ((c : Thread nD τ).loc b))

/-- A block of the first call's first array, and its second array. -/
abbrev inX (c : Dev nD) (t : Fin cfg0.N) : S4x4x100000.Idx → F .f32 := ((cfg0.win 0).blk t).view.read (Elt F) (V c main_arg0)
abbrev inA (c : Dev nD) (t : Fin cfg0.N) : S64x4.Idx → F .f32 := ((cfg0.win 1).blk t).view.read (Elt F) (V c main_arg1)

def dat0 (c : Dev nD) : Dat τ (Elt F) Unit ℕ (UR nD τ) ℕ cfg0 c where
  A w := V c (Pipeline.arrRef spec0 w)
  after w t := match w with
    | ⟨0, _⟩ => inX V c t
    | ⟨1, _⟩ => inA V c t
    | ⟨2, _⟩ => outV (inX V c t) (inA V c t) (grid0.coords t)
    | ⟨3, _⟩ => outI (inX V c t) (inA V c t) (grid0.coords t)
  Φ _ := Pipeline.scopedRest (Ix := Unit) (Name := ℕ) (U := UR nD τ) (Lvl := ℕ) (Val := Elt F) spec0 c
  q _ := fullShare
  owed _ := 0

theorem before0_0 (c : Dev nD) (t : Fin cfg0.N) (d) : (dat0 V c).before 0 t d = inX V c t := by
  rw [(dat0 V c).before_in_eq_fetched 0 rfl (fun _ => rfl) (fun _ _ _ => rfl) (fun _ => rfl) t d]; rfl
theorem before0_1 (c : Dev nD) (t : Fin cfg0.N) (d) : (dat0 V c).before 1 t d = inA V c t := by
  rw [(dat0 V c).before_in_eq_fetched 1 rfl (fun _ => rfl) (fun _ _ _ => rfl) (fun _ => rfl) t d]; rfl

set_option maxRecDepth 65536 in
theorem body0 (c : Dev nD) : BodyObligation (dat0 V c) (defs₀ (F := F)) 𝒱₀ () Set.univ := fun t => by
  rw [bigSep_W0, bigSep_W0]
  rw [show (dat0 V c).Φ t.castSucc = (dat0 V c).Φ t.succ from rfl,
    show (dat0 V c).owesAt () t.succ = (dat0 V c).owesAt () t.castSucc from rfl]
  iintro ⟨HΦ, Howes, ⟨%d0, H0⟩, ⟨%d1, H1⟩, ⟨%d2, H2⟩, ⟨%d3, H3⟩⟩
  ihave H0 := (owns_out c (st0_0 t) (hstage0_0 ((cfg0.slots t 0).cast nbuf0_0)) _) $$ H0
  ihave H1 := (owns_out c (st0_1 t) (hstage0_1 ((cfg0.slots t 1).cast nbuf0_1)) _) $$ H1
  ihave H2 := (owns_out c (st0_2 t) (hstage0_2 ((cfg0.slots t 2).cast nbuf0_2)) _) $$ H2
  ihave H3 := (owns_out c (st0_3 t) (hstage0_3 ((cfg0.slots t 3).cast nbuf0_3)) _) $$ H3
  icases H0 with ⟨%f0, %hf0, H0⟩
  icases H1 with ⟨%f1, %hf1, H1⟩
  icases H2 with ⟨%f2, -, H2⟩
  icases H3 with ⟨%f3, -, H3⟩
  rw [before0_0] at hf0
  rw [before0_1] at hf1
  iapply ((kernelRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) f0 f1).2 f2 f3 _)
  isplitl [H0]
  · iexact H0
  isplitl [H1]
  · iexact H1
  isplitl [H2]
  · iexact H2
  isplitl [H3]
  · iexact H3
  iintro ⟨H0, H1, H2, H3⟩
  isplitl [HΦ]
  · iexact HΦ
  isplitl [Howes]
  · iexact Howes
  isplitl [H0]
  · iapply (owns_in c (st0_0 t) (hstage0_0 ((cfg0.slots t 0).cast nbuf0_0)) _ f0 hf0)
    iexact H0
  isplitl [H1]
  · iapply (owns_in c (st0_1 t) (hstage0_1 ((cfg0.slots t 1).cast nbuf0_1)) _ f1 hf1)
    iexact H1
  isplitl [H2]
  · iapply (owns_in c (st0_2 t) (hstage0_2 ((cfg0.slots t 2).cast nbuf0_2)) (outV (inX V c t) (inA V c t) (grid0.coords t)) _
      ((run_fst c (grid0.coords t) (st0_0 t) (st0_1 t) f0 f1 (hstage0_0 ((cfg0.slots t 0).cast nbuf0_0)) (hstage0_1 ((cfg0.slots t 1).cast nbuf0_1)) (st0_2 t) (hstage0_2 ((cfg0.slots t 2).cast nbuf0_2)) (st0_3 t) (hstage0_3 ((cfg0.slots t 3).cast nbuf0_3))).trans (by rw [hf0, hf1])))
    iexact H2
  · iapply (owns_in c (st0_3 t) (hstage0_3 ((cfg0.slots t 3).cast nbuf0_3)) (outI (inX V c t) (inA V c t) (grid0.coords t)) _
      ((run_snd c (grid0.coords t) (st0_0 t) (st0_1 t) f0 f1 (hstage0_0 ((cfg0.slots t 0).cast nbuf0_0)) (hstage0_1 ((cfg0.slots t 1).cast nbuf0_1)) (st0_2 t) (hstage0_2 ((cfg0.slots t 2).cast nbuf0_2)) (st0_3 t) (hstage0_3 ((cfg0.slots t 3).cast nbuf0_3))).trans (by rw [hf0, hf1])))
    iexact H3

/-- The second call's three operands. -/
abbrev inV (c : Dev nD) (t : Fin cfg1.N) : S64x1x4.Idx → F .f32 := ((cfg1.win 0).blk t).view.read (Elt F) (V c main_v0_0)
abbrev inI (c : Dev nD) (t : Fin cfg1.N) : S64x1x4.Idx → BitVec 32 := ((cfg1.win 1).blk t).view.read (Elt F) (V c main_v0_1)
abbrev inH (c : Dev nD) (t : Fin cfg1.N) : S64x32.Idx → BitVec 32 := ((cfg1.win 2).blk t).view.read (Elt F) (V c main_v1)

def dat1 (c : Dev nD) : Dat τ (Elt F) Unit ℕ (UR nD τ) ℕ cfg1 c where
  A w := V c (Pipeline.arrRef spec1 w)
  after w t := match w with
    | ⟨0, _⟩ => inV V c t
    | ⟨1, _⟩ => inI V c t
    | ⟨2, _⟩ => inH V c t
    | ⟨3, _⟩ => fTop (inV V c t)
    | ⟨4, _⟩ => fAlive (inV V c t) (inI V c t)
    | ⟨5, _⟩ => fFin (inV V c t) (inI V c t)
    | ⟨6, _⟩ => fTok (F := F) (inI V c t)
    | ⟨7, _⟩ => fHyp (inV V c t) (inI V c t) (inH V c t)
  Φ _ := Pipeline.scopedRest (Ix := Unit) (Name := ℕ) (U := UR nD τ) (Lvl := ℕ) (Val := Elt F) spec1 c
  q _ := fullShare
  owed _ := 0

theorem before1_0 (c : Dev nD) (t : Fin cfg1.N) (d) : (dat1 V c).before 0 t d = inV V c t := by
  rw [(dat1 V c).before_in_eq_fetched 0 rfl (fun _ => rfl) (fun _ _ _ => rfl) (fun _ => rfl) t d]; rfl
theorem before1_1 (c : Dev nD) (t : Fin cfg1.N) (d) : (dat1 V c).before 1 t d = inI V c t := by
  rw [(dat1 V c).before_in_eq_fetched 1 rfl (fun _ => rfl) (fun _ _ _ => rfl) (fun _ => rfl) t d]; rfl
theorem before1_2 (c : Dev nD) (t : Fin cfg1.N) (d) : (dat1 V c).before 2 t d = inH V c t := by
  rw [(dat1 V c).before_in_eq_fetched 2 rfl (fun _ => rfl) (fun _ _ _ => rfl) (fun _ => rfl) t d]; rfl

set_option maxRecDepth 65536 in
theorem body1 (c : Dev nD) : BodyObligation (dat1 V c) (defs₀ (F := F)) 𝒱₀ () Set.univ := fun t => by
  obtain rfl := fin_N1 t
  rw [bigSep_W1, bigSep_W1]
  rw [show (dat1 V c).Φ t1_0.castSucc = (dat1 V c).Φ t1_0.succ from rfl,
    show (dat1 V c).owesAt () t1_0.succ = (dat1 V c).owesAt () t1_0.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (owns_out c (st1_0 t1_0) (hstage1_0 0) _) $$ H0
  ihave H1 := (owns_out c (st1_1 t1_0) (hstage1_1 0) _) $$ H1
  ihave H2 := (owns_out c (st1_2 t1_0) (hstage1_2 0) _) $$ H2
  ihave H3 := (owns_out c (st1_3 t1_0) (hstage1_3 0) _) $$ H3
  ihave H4 := (owns_out c (st1_4 t1_0) (hstage1_4 0) _) $$ H4
  ihave H5 := (owns_out c (st1_5 t1_0) (hstage1_5 0) _) $$ H5
  ihave H6 := (owns_out c (st1_6 t1_0) (hstage1_6 0) _) $$ H6
  ihave H7 := (owns_out c (st1_7 t1_0) (hstage1_7 0) _) $$ H7
  icases H0 with ⟨%f0, %hf0, H0⟩
  icases H1 with ⟨%f1, %hf1, H1⟩
  icases H2 with ⟨%f2, %hf2, H2⟩
  icases H3 with ⟨%f3, -, H3⟩
  icases H4 with ⟨%f4, -, H4⟩
  icases H5 with ⟨%f5, -, H5⟩
  icases H6 with ⟨%f6, -, H6⟩
  icases H7 with ⟨%f7, -, H7⟩
  rw [before1_0] at hf0
  rw [before1_1] at hf1
  rw [before1_2] at hf2
  iapply ((finishRun c (st1_0 t1_0) (hstage1_0 0) (st1_1 t1_0) (hstage1_1 0) (st1_2 t1_0) (hstage1_2 0) (st1_3 t1_0) (hstage1_3 0) (st1_4 t1_0) (hstage1_4 0) (st1_5 t1_0) (hstage1_5 0) (st1_6 t1_0) (hstage1_6 0) (st1_7 t1_0) (hstage1_7 0) f0 f1 f2).2 f3 f4 f5 f6 f7 _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  iintro ⟨H0, H1, H2, H3, H4, H5, H6, H7⟩
  isplitl [HΦ]
  · iexact HΦ
  isplitl [Howes]
  · iexact Howes
  isplitl [H0]
  · iapply (owns_in c (st1_0 t1_0) (hstage1_0 0) _ f0 hf0)
    iexact H0
  isplitl [H1]
  · iapply (owns_in c (st1_1 t1_0) (hstage1_1 0) _ f1 hf1)
    iexact H1
  isplitl [H2]
  · iapply (owns_in c (st1_2 t1_0) (hstage1_2 0) _ f2 hf2)
    iexact H2
  isplitl [H3]
  · iapply (owns_in c (st1_3 t1_0) (hstage1_3 0) (fTop (inV V c t1_0)) _ ((fin_top c (st1_0 t1_0) (hstage1_0 0) (st1_1 t1_0) (hstage1_1 0) (st1_2 t1_0) (hstage1_2 0) (st1_3 t1_0) (hstage1_3 0) (st1_4 t1_0) (hstage1_4 0) (st1_5 t1_0) (hstage1_5 0) (st1_6 t1_0) (hstage1_6 0) (st1_7 t1_0) (hstage1_7 0) f0 f1 f2).trans (by rw [hf0])))
    iexact H3
  isplitl [H4]
  · iapply (owns_in c (st1_4 t1_0) (hstage1_4 0) (fAlive (inV V c t1_0) (inI V c t1_0)) _ ((fin_alive c (st1_0 t1_0) (hstage1_0 0) (st1_1 t1_0) (hstage1_1 0) (st1_2 t1_0) (hstage1_2 0) (st1_3 t1_0) (hstage1_3 0) (st1_4 t1_0) (hstage1_4 0) (st1_5 t1_0) (hstage1_5 0) (st1_6 t1_0) (hstage1_6 0) (st1_7 t1_0) (hstage1_7 0) f0 f1 f2).trans (by rw [hf0, hf1])))
    iexact H4
  isplitl [H5]
  · iapply (owns_in c (st1_5 t1_0) (hstage1_5 0) (fFin (inV V c t1_0) (inI V c t1_0)) _ ((fin_fin c (st1_0 t1_0) (hstage1_0 0) (st1_1 t1_0) (hstage1_1 0) (st1_2 t1_0) (hstage1_2 0) (st1_3 t1_0) (hstage1_3 0) (st1_4 t1_0) (hstage1_4 0) (st1_5 t1_0) (hstage1_5 0) (st1_6 t1_0) (hstage1_6 0) (st1_7 t1_0) (hstage1_7 0) f0 f1 f2).trans (by rw [hf0, hf1])))
    iexact H5
  isplitl [H6]
  · iapply (owns_in c (st1_6 t1_0) (hstage1_6 0) (fTok (F := F) (inI V c t1_0)) _ ((fin_tok c (st1_0 t1_0) (hstage1_0 0) (st1_1 t1_0) (hstage1_1 0) (st1_2 t1_0) (hstage1_2 0) (st1_3 t1_0) (hstage1_3 0) (st1_4 t1_0) (hstage1_4 0) (st1_5 t1_0) (hstage1_5 0) (st1_6 t1_0) (hstage1_6 0) (st1_7 t1_0) (hstage1_7 0) f0 f1 f2).trans (by rw [hf1])))
    iexact H6
  · iapply (owns_in c (st1_7 t1_0) (hstage1_7 0) (fHyp (inV V c t1_0) (inI V c t1_0) (inH V c t1_0)) _ ((fin_hyp c (st1_0 t1_0) (hstage1_0 0) (st1_1 t1_0) (hstage1_1 0) (st1_2 t1_0) (hstage1_2 0) (st1_3 t1_0) (hstage1_3 0) (st1_4 t1_0) (hstage1_4 0) (st1_5 t1_0) (hstage1_5 0) (st1_6 t1_0) (hstage1_6 0) (st1_7 t1_0) (hstage1_7 0) f0 f1 f2).trans (by rw [hf0, hf1, hf2])))
    iexact H7

set_option backward.isDefEq.respectTransparency.types false in
/-- A call between any contents `V` and the contents `Vp` that have its results' arrays as written back. -/
def reg (p : Fin 2) (launch : Pipeline.LaunchFacts (nD := nD) (τ := τ) cfgs p)
    (pdats : (p : Fin 2) → (c : Dev nD) → Dat τ (Elt F) Unit ℕ (UR nD τ) ℕ (cfgs p) c)
    (hq : ∀ c w, (pdats p c).q w = fullShare) (ho : ∀ c t, (pdats p c).owed t = 0)
    (hr : ∀ c t, (pdats p c).recorded t = Set.univ)
    (hΦ : ∀ c t, (pdats p c).Φ t = Pipeline.scopedRest (Ix := Unit) (Name := ℕ) (U := UR nD τ) (Lvl := ℕ) (Val := Elt F) (cfgs p).spec c)
    (hbody : ∀ c, BodyObligation (pdats p c) (defs₀ (F := F)) 𝒱₀ () Set.univ)
    (Vp : (c : Dev nD) → (b : Ref sig .tc) → Buf (Elt F) ((c : Thread nD τ).loc b))
    (hV : ∀ c w, (pdats p c).arrAt w 0 = V c (Pipeline.arrRef (cfgs p).spec w))
    (hVp : ∀ c w, (pdats p c).arrAt w (cfgs p).N = Vp c (Pipeline.arrRef (cfgs p).spec w))
    (hne : ∀ c (b : Ref sig .tc), b ∉ Finset.univ.image (Pipeline.arrRef (cfgs p).spec) → Vp c b = V c b) :
    Pipeline.RegionSeg (pcfgs (F := F)) adm pdats () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p fun c t => ho c t
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR nD τ) (Lvl := ℕ) (cfgs p).spec c (V c)
  hentry c := by
    rw [Pipeline.ownSems0_none]
    have hsplit := Pipeline.arrays_of_unscopedBufs (p := p) (pcfgs (F := F)) adm pdats launch.win launch.arr_whole c
      ((pdats p c).share_full fun w => hq c w) (V c) fun w => hV c w
    have h0 := ho c 0
    iintro ⟨⟨Hub, HO⟩, -, -⟩
    ihave H := hsplit $$ Hub
    icases H with ⟨Ha, Hrest⟩
    imodintro
    isplitl [Ha]
    · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%W, HO⟩
      iexists W
      isplitr
      · ipureintro; exact fun x _ => Or.inl (by rw [hr c 0]; trivial)
      · rw [h0]; iexact HO
    isplitr
    · iempintro
    · iexact Hrest
  hin c := by
    rw [hΦ c 0]
    iintro ⟨-, -, Hr⟩
    iexact Hr
  hout c := by
    rw [Pipeline.ownSems0_none, hΦ c _]
    iintro Hr
    isplitr
    · iempintro
    isplitr
    · iempintro
    · iexact Hr
  hexit c := by
    have hjoin := Pipeline.unscopedBufs_of_arrays (p := p) (pcfgs (F := F)) adm (Ix := Unit) (Name := ℕ) (U := UR nD τ) (Lvl := ℕ) launch.win launch.arr_whole c
      pdats ((pdats p c).share_full fun w => hq c w) (V c) (Vp c) ((pdats p c).arrAt · (cfgs p).N)
      (fun w => hVp c w) (fun b hb => hne c b hb)
    have h0 := ho c (Fin.last _)
    iintro ⟨Ha, HO, -, Hrest⟩
    imodintro
    isplitl [Ha Hrest]
    · iapply hjoin
      isplitl [Ha] <;> iassumption
    unfold Pipeline.Dat.owesAt Pipeline.owesWithin
    icases HO with ⟨%W, -, HO⟩
    iexists W
    rw [h0]
    iexact HO

end Cert.KernelIdeal.Own

end
-- ==== Proof.KernelIdeal.Run.lean ====
/- The program's run: what every buffer holds when it ends. -/
module

public import proofs.«01_k».proof.Proof.KernelIdeal.Regs

@[expose] public section

noncomputable section

namespace Cert.KernelIdeal.Own

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf Seg HostSeg RegionSeg)

variable {F : FTy → Type} [FloatOps F]

local notation "𝕄" => MT nD τ sig Unit (Elt F) ℕ (UR nD τ) ℕ

variable (m : (ℓ : Loc nD τ sig) → Buf (Elt F) ℓ) (ρ : Dev nD → PrngReg)

/-- The contents of the buffers as a call's step takes them. -/
abbrev asBufs (W : Dev nD → Valuation τ sig (Elt F)) : (c : Dev nD) → (b : Ref sig .tc) → Buf (Elt F) ((c : Thread nD τ).loc b) :=
  fun c b => W c (Proc.devRef .tc b)

/-- Some contents of a buffer. -/
abbrev someOuts : Outs (F := F) := fun _ r c => m ((c : Thread nD τ).loc r)

/-- What the first call leaves in its two results. -/
def outs1 : Outs (F := F) := fun j r c =>
  if h : r = main_v0_0 then h ▸ ((dat0 (asBufs (V0 m)) c).arrAt 2 cfg0.N)
  else if h : r = main_v0_1 then h ▸ ((dat0 (asBufs (V0 m)) c).arrAt 3 cfg0.N)
  else someOuts m j r c

/-- What the two calls leave in their results. -/
def outs : Outs (F := F) := fun j r c =>
  if h : r = main_v2_0 then h ▸ ((dat1 (asBufs (V2 m (outs1 m))) c).arrAt 3 cfg1.N)
  else if h : r = main_v2_1 then h ▸ ((dat1 (asBufs (V2 m (outs1 m))) c).arrAt 4 cfg1.N)
  else if h : r = main_v2_2 then h ▸ ((dat1 (asBufs (V2 m (outs1 m))) c).arrAt 5 cfg1.N)
  else if h : r = main_v2_3 then h ▸ ((dat1 (asBufs (V2 m (outs1 m))) c).arrAt 6 cfg1.N)
  else if h : r = main_v2_4 then h ▸ ((dat1 (asBufs (V2 m (outs1 m))) c).arrAt 7 cfg1.N)
  else outs1 m j r c

theorem outs_v0_0 (j : ℕ) (c : Dev nD) : outs m j main_v0_0 c = (dat0 (asBufs (V0 m)) c).arrAt 2 cfg0.N := rfl
theorem outs_v0_1 (j : ℕ) (c : Dev nD) : outs m j main_v0_1 c = (dat0 (asBufs (V0 m)) c).arrAt 3 cfg0.N := rfl
/-- The contents between the calls. -/
theorem mid_eq (c : Dev nD) : V2 m (outs m) c = V2 m (outs1 m) c := rfl

def pdats : (p : Fin 2) → (c : Dev nD) → Dat τ (Elt F) Unit ℕ (UR nD τ) ℕ (cfgs p) c
  | ⟨0, _⟩ => fun c => dat0 (asBufs (V0 m)) c
  | ⟨1, _⟩ => fun c => dat1 (asBufs (V2 m (outs1 m))) c

def R0 : RegionSeg (pcfgs (F := F)) adm (pdats m) () defs₀ 𝒱₀ L lv 0 :=
  reg (asBufs (V0 m)) 0 launch0 (pdats m) (fun _ _ => rfl) (fun _ _ => rfl) (fun _ _ => rfl) (fun _ _ => rfl) (fun c => body0 _ c)
    (asBufs (V1 m (outs m))) (fun _ _ => rfl)
    (fun c w => by
      fin_cases w
      · exact ((dat0 (asBufs (V0 m)) c).arrAt_in 0 rfl _).trans (V1_of m (outs m) c main_arg0 (by decide)).symm
      · exact ((dat0 (asBufs (V0 m)) c).arrAt_in 1 rfl _).trans (V1_of m (outs m) c main_arg1 (by decide)).symm
      · exact rfl
      · exact rfl)
    (fun c b hb => V1_of m (outs m) c b fun h => hb (by revert b; decide))

/-- A later change of another buffer is not seen. -/
theorem skip {W : Valuation τ sig (Elt F)} {r r' : Ref sig .tc} (h : r ≠ r') {x : (Proc.devRef (τ := τ) .tc r').ty.Contents (Elt F)} :
    Function.update W (Proc.devRef .tc r') x (Proc.devRef .tc r) = W (Proc.devRef .tc r) :=
  Function.update_of_ne (StableHlo.devRef_ne_of_ne h) _ _

theorem last0 (o : Outs (F := F)) (c : Dev nD) : V3 m o c (Proc.devRef .tc main_v2_0) = o 3 main_v2_0 c :=
  (skip (by decide)).trans <| (skip (by decide)).trans <| (skip (by decide)).trans <| (skip (by decide)).trans <| Function.update_self _ _ _
theorem last1 (o : Outs (F := F)) (c : Dev nD) : V3 m o c (Proc.devRef .tc main_v2_1) = o 3 main_v2_1 c :=
  (skip (by decide)).trans <| (skip (by decide)).trans <| (skip (by decide)).trans <| Function.update_self _ _ _
theorem last2 (o : Outs (F := F)) (c : Dev nD) : V3 m o c (Proc.devRef .tc main_v2_2) = o 3 main_v2_2 c :=
  (skip (by decide)).trans <| (skip (by decide)).trans <| Function.update_self _ _ _
theorem last3 (o : Outs (F := F)) (c : Dev nD) : V3 m o c (Proc.devRef .tc main_v2_3) = o 3 main_v2_3 c :=
  (skip (by decide)).trans <| Function.update_self _ _ _
theorem last4 (o : Outs (F := F)) (c : Dev nD) : V3 m o c (Proc.devRef .tc main_v2_4) = o 3 main_v2_4 c :=
  Function.update_self _ _ _

/-- The contents at the second call's start. -/
abbrev Mid : (c : Dev nD) → (b : Ref sig .tc) → Buf (Elt F) ((c : Thread nD τ).loc b) := asBufs (V2 m (outs1 m))

theorem after_mid (c : Dev nD) (b : Ref sig .tc) (h : b ∉ ([main_v2_0, main_v2_1, main_v2_2, main_v2_3, main_v2_4] : List (Ref sig .tc))) :
    asBufs (V3 m (outs m)) c b = Mid m c b :=
  (V3_of m (outs m) c b h).trans (congrFun (mid_eq m c) _)

theorem ends1 (c : Dev nD) (w : Fin cfg1.W) : (dat1 (Mid m) c).arrAt w cfg1.N = asBufs (V3 m (outs m)) c (Pipeline.arrRef spec1 w) := by
  fin_cases w
  · exact ((dat1 (Mid m) c).arrAt_in 0 rfl _).trans (after_mid m c main_v0_0 (by decide)).symm
  · exact ((dat1 (Mid m) c).arrAt_in 1 rfl _).trans (after_mid m c main_v0_1 (by decide)).symm
  · exact ((dat1 (Mid m) c).arrAt_in 2 rfl _).trans (after_mid m c main_v1 (by decide)).symm
  · exact (last0 m (outs m) c).symm
  · exact (last1 m (outs m) c).symm
  · exact (last2 m (outs m) c).symm
  · exact (last3 m (outs m) c).symm
  · exact (last4 m (outs m) c).symm

def R1 : RegionSeg (pcfgs (F := F)) adm (pdats m) () defs₀ 𝒱₀ L lv 1 :=
  reg (Mid m) 1 launch1 (pdats m) (fun _ _ => rfl) (fun _ _ => rfl) (fun _ _ => rfl) (fun _ _ => rfl) (fun c => body1 _ c)
    (asBufs (V3 m (outs m))) (fun _ _ => rfl) (ends1 m)
    (fun c b hb => after_mid m c b fun h => hb (by revert b; decide))

/-- The algebra of the calls' own rounds inside the whole. -/
def EP : Emb (UR nD τ) 𝕄 :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

/-- The launch's share of the rounds. -/
def u₀ : UR nD τ := initOf (Pipeline.cells cfgs cellOf_inj) (Pipeline.launchToks cfgs cellOf_inj)

theorem u₀_split : (ownU u₀ : sProp 𝕄) ⊢ |={Set.univ}=> iprop(BI.own (EP (initOf (Pipeline.cells cfgs cellOf_inj) (Pipeline.launchToks cfgs cellOf_inj)))
    ∗ bigSep Finset.univ fun _ : Dev nD => (BI.emp : sProp 𝕄)) := by
  iintro Hu
  imodintro
  isplitl [Hu]
  · iapply (show (ownU u₀ : sProp 𝕄) ⊢ BI.own (EP (initOf (Pipeline.cells cfgs cellOf_inj) (Pipeline.launchToks cfgs cellOf_inj))) from .rfl)
    iexact Hu
  · iapply (show (BI.emp : sProp 𝕄) ⊢ bigSep Finset.univ (fun _ : Dev nD => (BI.emp : sProp 𝕄)) from by rw [BI.bigSep_emp_const])
    iempintro

theorem rest_start : iprop((bigSep Finset.univ fun c : Dev nD => iprop(unscopedSems0 c ∗ owes (c : Thread nD τ) (0 : CellTallies nD τ sig Unit) ∅
      ∗ Pipeline.launchCred (fun _ => 0) c ∗ prngReg c (ρ c) ∗ BI.emp)) ∗ levAts L lv)
    ⊢ (|={Set.univ}=> bigSep Finset.univ (E (F := F) 0) : sProp 𝕄) := by
  have h1 : ∀ c : Dev nD, (iprop(unscopedSems0 c ∗ owes (c : Thread nD τ) (0 : CellTallies nD τ sig Unit) ∅
      ∗ Pipeline.launchCred (fun _ => 0) c ∗ prngReg c (ρ c) ∗ BI.emp) : sProp 𝕄) ⊢ iprop(∃ W, owes (c : Thread nD τ) (0 : CellTallies nD τ sig Unit) W) := fun c => by
    iintro ⟨-, HO, -⟩
    iexists _
    iexact HO
  have h : (bigSep Finset.univ fun c : Dev nD => iprop(unscopedSems0 c ∗ owes (c : Thread nD τ) (0 : CellTallies nD τ sig Unit) ∅
      ∗ Pipeline.launchCred (fun _ => 0) c ∗ prngReg c (ρ c) ∗ BI.emp)) ⊢ (bigSep Finset.univ (E (F := F) 0) : sProp 𝕄) :=
    bigSep_mono fun c _ => h1 c
  iintro ⟨H, -⟩
  imodintro
  iapply h
  iexact H

theorem bufs_held (c : Dev nD) (W : Dev nD → Valuation τ sig (Elt F)) :
    (unscopedBufs c (asBufs W c) : sProp 𝕄) = StableHlo.held (c : Thread nD τ) (Pipeline.ucRefs τ sig) (W c) :=
  Pipeline.unscopedBufs_held (Ix := Unit) (Name := ℕ) (U := UR nD τ) (Lvl := ℕ) c (W c)

/-- Every run ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  frame_cond m EP () 𝒱₀ L lv (fun _ _ => rfl) ρ (outs m) (pdats m) (fun _ => 0) (fun _ => BI.emp) u₀ u₀_split E (rest_start ρ) (fun _ => .rfl)
    (R0 m) (fun c => by rw [← bufs_held c (V0 m)]; exact .rfl) (fun c => by rw [← bufs_held c (V1 m (outs m))]; exact .rfl)
    (R1 m) (fun c => by rw [mid_eq m c, ← bufs_held c (V2 m (outs1 m))]; exact .rfl) (fun c => by rw [← bufs_held c (V3 m (outs m))]; exact .rfl)

end Cert.KernelIdeal.Own

end
-- ==== Proof.KernelIdeal.Final.lean ====
/- What every buffer of the host program holds when it ends. -/
module

public import proofs.«01_k».proof.Proof.KernelIdeal.Run

@[expose] public section

noncomputable section

namespace Cert.KernelIdeal.Own

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf Seg HostSeg RegionSeg)

variable {F : FTy → Type} [FloatOps F]

local notation "𝕄" => MT nD τ sig Unit (Elt F) ℕ (UR nD τ) ℕ

variable (m : (ℓ : Loc nD τ sig) → Buf (Elt F) ℓ) (ρ : Dev nD → PrngReg)

theorem launch_split : (bigSep Finset.univ fun c : Dev nD => iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp))
    ⊢ (iprop((bigSep Finset.univ fun c : Dev nD => StableHlo.held (c : Thread nD τ) (Pipeline.ucRefs τ sig) (V0 m c))
        ∗ bigSep Finset.univ fun c : Dev nD => iprop(unscopedSems0 c ∗ owes (c : Thread nD τ) (0 : CellTallies nD τ sig Unit) ∅
          ∗ Pipeline.launchCred (fun _ => 0) c ∗ prngReg c (ρ c) ∗ BI.emp)) : sProp 𝕄) := by
  rw [← bigSep_sep']
  exact bigSep_mono fun c _ => by rw [← bufs_held c (V0 m)]; exact BI.Entails.refl _

theorem in0 (c : Dev nD) : (iprop(StableHlo.held (c : Thread nD τ) (Pipeline.ucRefs τ sig) (V0 m c) ∗ E 0 c) : sProp 𝕄) ⊢ (R0 m).pre c := by
  rw [← bufs_held c (V0 m)]; exact .rfl
theorem out0 (c : Dev nD) : ((R0 m).post c : sProp 𝕄) ⊢ iprop(StableHlo.held (c : Thread nD τ) (Pipeline.ucRefs τ sig) (V1 m (outs m) c) ∗ E 1 c) := by
  rw [← bufs_held c (V1 m (outs m))]; exact .rfl
theorem in1 (c : Dev nD) : (iprop(StableHlo.held (c : Thread nD τ) (Pipeline.ucRefs τ sig) (V2 m (outs m) c) ∗ E 1 c) : sProp 𝕄) ⊢ (R1 m).pre c := by
  rw [mid_eq m c, ← bufs_held c (V2 m (outs1 m))]; exact .rfl
theorem out1 (c : Dev nD) : ((R1 m).post c : sProp 𝕄) ⊢ iprop(StableHlo.held (c : Thread nD τ) (Pipeline.ucRefs τ sig) (V3 m (outs m) c) ∗ E 2 c) := by
  rw [← bufs_held c (V3 m (outs m))]; exact .rfl

/-- Every buffer the host sees ends at the last step's contents. -/
def Ends (c : Dev nD) (s : MemSt nD τ sig (Elt F)) : Prop := ∀ b ∈ Pipeline.ucRefs τ sig, s.mem (c, b) = V4 m (outs m) c b

set_option backward.isDefEq.respectTransparency.types false in
theorem finals : θ_run defs (onTc (τ := τ) (main (F := F))) ⟨m, fun _ => 0, ρ⟩ (fun r => ∀ c, Ends m c r.2) := by
  refine Pipeline.θ_run_regions_kit_dev_sems (pcfgs (F := F)) adm (pdats m) () cellOf_inj EP defs₀ 𝒱₀ L lv m ρ main
    (segs m (outs m) 𝒱₀ L lv E () (pdats m) (R0 m) (R1 m))
    (fun c Q => by
      rewrite [main_chain c, Seg.run_eq_chain]
      exact .rfl)
    (fun c => by simp only [segs, Seg.pipes_host, Seg.pipes_region, Seg.pipes_nil]; decide) (fun _ => 0) (fun _ _ => rfl) (fun _ => BI.emp) u₀ u₀_split
    (T₀ := fun c => iprop(StableHlo.held (c : Thread nD τ) (Pipeline.ucRefs τ sig) (V0 m c) ∗ E 0 c))
    (Tₙ := fun c => StableHlo.held (c : Thread nD τ) (Pipeline.ucRefs τ sig) (V4 m (outs m) c))
    (hch := fun c => ⟨in0 m c, out0 m c, in1 m c, out1 m c, sep_mono .rfl .rfl⟩)
    (hinit := ?_) (QY := fun c s => Ends m c s) (hfin := fun c s' => ?_) (hQ := fun _ h _ => h)
  · iintro ⟨H, Hl⟩
    ihave H := (launch_split m ρ) $$ H
    icases H with ⟨Hh, Hr⟩
    imod (rest_start ρ) $$ [Hr Hl] with HE
    · isplitl [Hr]
      · iexact Hr
      · iexact Hl
    imodintro
    rw [bigSep_sep']
    isplitl [Hh]
    · iexact Hh
    · iexact HE
  · unfold StableHlo.held
    iintro ⟨Hh, HS⟩
    ihave Hr := (pointsTo_read_all (Pipeline.ucRefs τ sig) (fun b => ((c : Thread nD τ).1, b)) (V4 m (outs m) c) s') $$ [Hh HS]
    · isplitl [Hh] <;> iassumption
    icases Hr with ⟨%h, HS⟩
    imodintro
    isplitr
    · ipureintro; exact h
    · iexact HS

theorem end_at (c : Dev nD) (s : MemSt nD τ sig (Elt F)) (h : Ends m c s) (r : Ref sig .tc) (hr : (Proc.devRef (τ := τ) .tc r) ∈ Pipeline.ucRefs τ sig) :
    s.mem ((c.tc : Thread nD τ).loc r) = V4 m (outs m) c r := h _ hr

end Cert.KernelIdeal.Own

end
-- ==== Proof.Search.lean ====
/- The selection over the extended reals: the greatest four scores and their places are found by the kernel's search. -/
module

public import proofs.«01_k».proof.Proof.Pick

@[expose] public section

noncomputable section

namespace Cert.Proof.Algo

open Idealize.ShloMosaic

/-- A place's number as a word. -/
def flat (q : Fin 400000) : BitVec 32 := BitVec.ofNat 32 q.val

theorem flat_toInt (q : Fin 400000) : (flat q).toInt = (q.val : Int) := word_toInt _ (by have := q.isLt; omega)

theorem flat_inj {p q : Fin 400000} (h : flat p = flat q) : p = q := by
  have := congrArg BitVec.toInt h
  rw [flat_toInt, flat_toInt] at this
  exact Fin.ext (by exact_mod_cast this)

theorem flat_lt (q : Fin 400000) : (flat q).toInt < 1073741824 := by
  rw [flat_toInt]; have := q.isLt; omega

abbrev low : EReal := fill (F := Ideal)

/-- The four best places: each before every place not yet named, by score and then by number; the fifth strictly below; all above the fill. -/
structure Best (score : Fin 400000 → EReal) (p : Fin 4 → Fin 400000) : Prop where
  inj : Function.Injective p
  order : ∀ r q, (∀ r' ≤ r, q ≠ p r') → score q < score (p r) ∨ (score q = score (p r) ∧ p r < q)
  strict : ∀ q, (∀ r, q ≠ p r) → score q < score (p 3)
  high : low < score (p 3)

namespace Best
variable {score : Fin 400000 → EReal} {p : Fin 4 → Fin 400000}

theorem mono (h : Best score p) {r r' : Fin 4} (hr : r ≤ r') : score (p r') ≤ score (p r) := by
  rcases eq_or_lt_of_le hr with rfl | hlt
  · exact le_refl _
  · rcases h.order r (p r') (fun r'' h'' e => by have := h.inj e; subst this; omega) with h | h
    · exact h.le
    · exact h.1.le

theorem ge (h : Best score p) (r : Fin 4) : score (p 3) ≤ score (p r) := h.mono (by have := r.isLt; exact Fin.le_def.mpr (by show r.val ≤ 3; omega))

theorem mem (h : Best score p) {q : Fin 400000} (hq : score (p 3) ≤ score q) : ∃ r, q = p r := by
  by_contra hn
  push Not at hn
  exact absurd (h.strict q hn) (not_lt.mpr hq)

theorem low_lt (h : Best score p) (r : Fin 4) : low < score (p r) := lt_of_lt_of_le h.high (h.ge r)

end Best

theorem word_iff (b : BitVec 1) : word b = 1#1 ↔ b = 1#1 := by revert b; decide

theorem ofBool_iff (b : Bool) : BitVec.ofBool b = 1#1 ↔ b = true := by cases b <;> decide

theorem reach_iff (a t : EReal) : word (Scalar.cmpf (F := Ideal) (φ := .f32) .oge a t) = 1#1 ↔ t ≤ a := by
  rw [word_iff]
  show BitVec.ofBool (decide (t ≤ a)) = 1#1 ↔ _
  rw [ofBool_iff, decide_eq_true_iff]

theorem same_iff {s : Shape} (x : IVec s 32) (p : BitVec 32) (j : s.Idx) : cmpi .eq x (broadcast s p) j = 1#1 ↔ x j = p := by
  show BitVec.ofBool (x j == p) = 1#1 ↔ _
  rw [ofBool_iff, beq_iff_eq]

theorem clear_at {m n : Nat} (ix : IVec (Mat m n) 32) (p : BitVec 32) (x : FVec Ideal (Mat m n) .f32) (j : (Mat m n).Idx) :
    clear ix p x j = if ix j = p then low else x j := by
  show (if cmpi .eq ix (broadcast (Mat m n) p) j = 1#1 then low else x j) = _
  by_cases h : ix j = p
  · rw [if_pos ((same_iff ix p j).mpr h), if_pos h]
  · rw [if_neg (fun h' => h ((same_iff ix p j).mp h')), if_neg h]

theorem lanes_eq (j : (Mat 1 64).Idx) : lanes j = BitVec.ofNat 32 (j 1).val := by
  unfold lanes
  rw [iota_apply]
  simp

theorem lanes_iff (c : BitVec 32) (j : (Mat 1 64).Idx) : lanes j = c ↔ (j 1).val = c.toNat := by
  have hj : (j 1).val < 64 := (j 1).isLt
  rw [lanes_eq]
  constructor
  · rintro rfl
    rw [BitVec.toNat_ofNat]; omega
  · intro h
    apply BitVec.eq_of_toNat_eq
    rw [BitVec.toNat_ofNat]; omega

theorem put_at {α : Type} (c : BitVec 32) (x : α) (v : (Mat 1 64).Idx → α) (j : (Mat 1 64).Idx) :
    select (cmpi .eq lanes (broadcast (Mat 1 64) c)) (broadcast (Mat 1 64) x) v j = if (j 1).val = c.toNat then x else v j := by
  show (if cmpi .eq lanes (broadcast (Mat 1 64) c) j = 1#1 then x else v j) = _
  by_cases h : (j 1).val = c.toNat
  · rw [if_pos ((same_iff lanes c j).mpr ((lanes_iff c j).mpr h)), if_pos h]
  · rw [if_neg (fun h' => h ((lanes_iff c j).mp ((same_iff lanes c j).mp h'))), if_neg h]

theorem next_toNat (c : BitVec 32) (h : c.toNat < 63) : (Scalar.minsi (Scalar.addi c 1#32) 63#32).toNat = c.toNat + 1 := by
  have h1 : (Scalar.addi c 1#32).toNat = c.toNat + 1 := by
    show (c + 1#32).toNat = _
    rw [BitVec.toNat_add]
    simp only [BitVec.toNat_ofNat]
    omega
  have h2 : (Scalar.addi c 1#32).toInt = ((c.toNat + 1 : Nat) : Int) := by
    rw [BitVec.toInt_eq_toNat_of_lt (by omega), h1]
  show (IntOp.minsi (Scalar.addi c 1#32) 63#32).toNat = _
  unfold IntOp.minsi
  split
  · exact h1
  · next hn =>
    rw [BitVec.slt_iff_toInt_lt, h2, show (63#32).toInt = 63 from by decide] at hn
    push_cast at hn
    show 63 = _
    omega

theorem eqTop_iff {m n : Nat} (h : Side m n) (x : FVec Ideal (Mat m n) .f32) (j : (Mat m n).Idx) :
    cmpf .oeq x (broadcast (Mat m n) (top h x)) j = 1#1 ↔ (x j : EReal) = top h x := by
  show BitVec.ofBool (decide ((x j : EReal) = top h x)) = 1#1 ↔ _
  rw [ofBool_iff, decide_eq_true_iff]

/-- What the greatest entry's least index is, when its entries have indices below `2^30`. -/
theorem hit_spec {m n : Nat} (h : Side m n) (x : FVec Ideal (Mat m n) .f32) (ix : IVec (Mat m n) 32) (j₀ : (Mat m n).Idx)
    (hix : ∀ j, (ix j).toInt ≤ 1073741824) (hlt : ∀ j, (x j : EReal) = top h x → (ix j).toInt < 1073741824) :
    (∃ j, (x j : EReal) = top h x ∧ hit h x ix = ix j) ∧ ∀ j, (x j : EReal) = top h x → (hit h x ix).toInt ≤ (ix j).toInt := by
  have hm : ∀ j, cmpf .oeq x (broadcast (Mat m n) (top h x)) j = 1#1 ↔ (x j : EReal) = top h x := eqTop_iff h x
  obtain ⟨⟨j, h1⟩, h2⟩ := least_spec h (cmpf .oeq x (broadcast (Mat m n) (top h x))) ix j₀ hix
  have h3 : ∀ j, (x j : EReal) = top h x → (hit h x ix).toInt ≤ (ix j).toInt := fun j hj => by
    have := h2 j
    rw [if_pos ((hm j).mpr hj)] at this
    exact this
  refine ⟨?_, h3⟩
  by_cases hj : cmpf .oeq x (broadcast (Mat m n) (top h x)) j = 1#1
  · rw [if_pos hj] at h1
    exact ⟨j, (hm j).mp hj, h1⟩
  · rw [if_neg hj] at h1
    obtain ⟨⟨j1, e1⟩, -⟩ := top_spec h x j₀
    have := h3 j1 e1
    unfold hit at this
    rw [h1, show (1073741824#32).toInt = 1073741824 from by decide] at this
    exact absurd (hlt j1 e1) (by omega)

/-- The slots: at most `N` filled, each holding the fill or a place's score and number, and those of the places in `H` among them. -/
structure Fine (score : Fin 400000 → EReal) (p : Fin 4 → Fin 400000) (N : Nat) (H : Finset (Fin 4)) (c : BitVec 32)
    (v : FVec Ideal (Mat 1 64) .f32) (ix : IVec (Mat 1 64) 32) : Prop where
  count : c.toNat ≤ N
  small : ∀ j, (ix j).toInt ≤ 1073741824
  sound : ∀ j, (v j : EReal) ≤ low ∨ ∃ q, (v j : EReal) = score q ∧ ix j = flat q
  has : ∀ r ∈ H, ∃ j : (Mat 1 64).Idx, (j 1).val < c.toNat ∧ (v j : EReal) = score (p r) ∧ ix j = flat (p r)

section
variable {score : Fin 400000 → EReal} {p : Fin 4 → Fin 400000}

theorem Fine.mono {N N' : Nat} {H : Finset (Fin 4)} {c : BitVec 32} {v : FVec Ideal (Mat 1 64) .f32} {ix : IVec (Mat 1 64) 32}
    (h : Fine score p N H c v ix) (hN : N ≤ N') : Fine score p N' H c v ix := ⟨h.count.trans hN, h.small, h.sound, h.has⟩

/-- A chunk's remaining scores: those of the places in `D` are gone, those of the other best places are there. -/
structure Part {m n : Nat} (score : Fin 400000 → EReal) (p : Fin 4 → Fin 400000) (e : (Mat m n).Idx → Fin 400000) (D : Finset (Fin 4))
    (C : FVec Ideal (Mat m n) .f32) : Prop where
  each : ∀ j, (C j : EReal) = low ∨ (C j : EReal) = score (e j)
  gone : ∀ j r, e j = p r → r ∈ D → (C j : EReal) = low
  still : ∀ j r, e j = p r → r ∉ D → (C j : EReal) = score (p r)

/-- One value and number put into the next slot. -/
theorem Fine.put {N : Nat} {H : Finset (Fin 4)} {c : BitVec 32} {v : FVec Ideal (Mat 1 64) .f32} {ix : IVec (Mat 1 64) 32}
    (h : Fine score p N H c v ix) (hN : N < 63) (x : EReal) (q : Fin 400000) (hx : x ≤ low ∨ x = score q) (H' : Finset (Fin 4))
    (hH : ∀ r ∈ H', r ∈ H ∨ (x = score (p r) ∧ q = p r)) :
    Fine score p (N + 1) H' (Scalar.minsi (Scalar.addi c 1#32) 63#32)
      (select (cmpi .eq lanes (broadcast (Mat 1 64) c)) (broadcast (Mat 1 64) x) v)
      (select (cmpi .eq lanes (broadcast (Mat 1 64) c)) (broadcast (Mat 1 64) (flat q)) ix) := by
  have hc := h.count
  have hn := next_toNat c (by omega)
  refine ⟨by rw [hn]; omega, fun j => ?_, fun j => ?_, fun r hr => ?_⟩
  · rw [put_at]
    split
    · exact (flat_lt q).le
    · exact h.small j
  · rw [put_at, put_at]
    by_cases hj : (j 1).val = c.toNat
    · rw [if_pos hj, if_pos hj]
      rcases hx with hx | hx
      · exact .inl hx
      · exact .inr ⟨q, hx, rfl⟩
    · rw [if_neg hj, if_neg hj]
      exact h.sound j
  · rcases hH r hr with hr | ⟨e1, e2⟩
    · obtain ⟨j, h1, h2, h3⟩ := h.has r hr
      refine ⟨j, by rw [hn]; omega, ?_, ?_⟩
      · rw [put_at, if_neg (by omega)]; exact h2
      · rw [put_at, if_neg (by omega)]; exact h3
    · have hlt : c.toNat < 64 := by omega
      refine ⟨ix2 (n0 := 1) (n1 := 64) 0 ⟨c.toNat, hlt⟩, by rw [hn]; show c.toNat < _; omega, ?_, ?_⟩
      · exact (put_at _ _ _ _).trans ((if_pos rfl).trans e1)
      · exact (put_at _ _ _ _).trans ((if_pos rfl).trans (congrArg flat e2))

/-- One extraction: the slots stay sound, and one more of the chunk's best places is found, if any is left. -/
theorem take_step (hb : Best score p) {m n : Nat} (h : Side m n) (j₀ : (Mat m n).Idx) (e : (Mat m n).Idx → Fin 400000) (ix : IVec (Mat m n) 32)
    (hix : ∀ j, ix j = flat (e j)) (t : EReal) (ht : t ≤ score (p 3)) {N : Nat} (hN : N < 63) {H D : Finset (Fin 4)} (hD : D ⊆ H) (a : St Ideal m n)
    (hf : Fine score p N H a.1 a.2.1 a.2.2.1) (hp : Part score p e D a.2.2.2) :
    ∃ D' H', D ⊆ D' ∧ H ⊆ H' ∧ D' ⊆ H' ∧ Fine score p (N + 1) H' (take h ix t a).1 (take h ix t a).2.1 (take h ix t a).2.2.1 ∧
      Part score p e D' (take h ix t a).2.2.2 ∧ ((∀ r j, e j = p r → r ∈ D) ∨ D.card < D'.card) := by
  obtain ⟨⟨j1, e1⟩, hall⟩ := top_spec h a.2.2.2 j₀
  have hdone : (top h a.2.2.2 : EReal) < score (p 3) → ∀ r j, e j = p r → r ∈ D := fun hlt r j hj => by
    by_contra hr
    have h1 := hall j
    rw [hp.still j r hj hr] at h1
    exact absurd (lt_of_le_of_lt ((hb.ge r).trans h1) hlt) (lt_irrefl _)
  unfold take
  by_cases hw : t ≤ (top h a.2.2.2 : EReal)
  · rw [if_pos ((reach_iff _ _).mpr hw)]
    have hlt : ∀ j, (ix j).toInt < 1073741824 := fun j => by rw [hix]; exact flat_lt _
    obtain ⟨⟨j2, e2, h2⟩, -⟩ := hit_spec h a.2.2.2 ix j₀ (fun j => (hlt j).le) (fun j _ => hlt j)
    rw [h2, hix j2]
    have hcl : ∀ j, clear ix (flat (e j2)) a.2.2.2 j = if e j = e j2 then low else a.2.2.2 j := fun j => by
      rw [clear_at, hix j]
      by_cases hj : e j = e j2
      · rw [if_pos (by rw [hj]), if_pos hj]
      · rw [if_neg (fun h' => hj (flat_inj h')), if_neg hj]
    have heach : ∀ j, (clear ix (flat (e j2)) a.2.2.2 j : EReal) = low ∨ (clear ix (flat (e j2)) a.2.2.2 j : EReal) = score (e j) := fun j => by
      rw [hcl]
      split
      · exact .inl rfl
      · exact hp.each j
    by_cases hg : score (p 3) ≤ (top h a.2.2.2 : EReal)
    · have hs : (top h a.2.2.2 : EReal) = score (e j2) := by
        rcases hp.each j2 with h' | h'
        · rw [← e2, h'] at hg
          exact absurd hb.high (not_lt.mpr hg)
        · rw [← e2, h']
      obtain ⟨r, hr⟩ := hb.mem (q := e j2) (by rw [← hs]; exact hg)
      have hrD : r ∉ D := fun hrD => by
        have := hp.gone j2 r hr hrD
        rw [e2] at this
        rw [this] at hg
        exact absurd hb.high (not_lt.mpr hg)
      refine ⟨insert r D, insert r H, Finset.subset_insert _ _, Finset.subset_insert _ _, Finset.insert_subset_insert _ hD, ?_, ⟨heach, ?_, ?_⟩, .inr ?_⟩
      · refine hf.put hN _ (e j2) (.inr hs) _ fun r' hr' => ?_
        rcases Finset.mem_insert.mp hr' with rfl | hr'
        · exact .inr ⟨by rw [hs, hr], hr⟩
        · exact .inl hr'
      · intro j r' hj hr'
        show (clear ix (flat (e j2)) a.2.2.2 j : EReal) = low
        rw [hcl]
        rcases Finset.mem_insert.mp hr' with rfl | hr'
        · rw [if_pos (hj.trans hr.symm)]
        · split
          · rfl
          · exact hp.gone j r' hj hr'
      · intro j r' hj hr'
        show (clear ix (flat (e j2)) a.2.2.2 j : EReal) = score (p r')
        rw [hcl, if_neg]
        · exact hp.still j r' hj fun h' => hr' (Finset.mem_insert_of_mem h')
        · intro h'
          rw [hj, hr] at h'
          exact hr' (by rw [hb.inj h']; exact Finset.mem_insert_self _ _)
      · rw [Finset.card_insert_of_notMem hrD]; omega
    · have hd := hdone (not_le.mp hg)
      refine ⟨D, H, Finset.Subset.refl _, Finset.Subset.refl _, hD, ?_, ⟨heach, ?_, ?_⟩, .inl hd⟩
      · refine hf.put hN _ (e j2) ?_ _ fun r' hr' => .inl hr'
        rcases hp.each j2 with h' | h'
        · rw [← e2, h']; exact .inl (le_refl _)
        · rw [← e2, h']; exact .inr rfl
      · intro j r' hj hr'
        show (clear ix (flat (e j2)) a.2.2.2 j : EReal) = low
        rw [hcl]
        split
        · rfl
        · exact hp.gone j r' hj hr'
      · intro j r' hj hr'
        exact absurd (hd r' j hj) hr'
  · rw [if_neg (fun h' => hw ((reach_iff _ _).mp h'))]
    exact ⟨D, H, Finset.Subset.refl _, Finset.Subset.refl _, hD, hf.mono (by omega), hp, .inl (hdone (lt_of_lt_of_le (not_le.mp hw) ht))⟩

/-- Six extractions find all the chunk's best places. -/
theorem takes (hb : Best score p) {m n : Nat} (h : Side m n) (j₀ : (Mat m n).Idx) (e : (Mat m n).Idx → Fin 400000) (ix : IVec (Mat m n) 32)
    (hix : ∀ j, ix j = flat (e j)) (t : EReal) (ht : t ≤ score (p 3)) {N : Nat} (hN : N + 6 ≤ 63) {H : Finset (Fin 4)} (a : St Ideal m n)
    (hf : Fine score p N H a.1 a.2.1 a.2.2.1) (hp : Part score p e ∅ a.2.2.2) :
    ∃ H', H ⊆ H' ∧ (∀ r j, e j = p r → r ∈ H') ∧
      Fine score p (N + 6) H' ((take h ix t)^[6] a).1 ((take h ix t)^[6] a).2.1 ((take h ix t)^[6] a).2.2.1 := by
  have key : ∀ k ≤ 6, ∃ D H', H ⊆ H' ∧ D ⊆ H' ∧
      Fine score p (N + k) H' ((take h ix t)^[k] a).1 ((take h ix t)^[k] a).2.1 ((take h ix t)^[k] a).2.2.1 ∧
      Part score p e D ((take h ix t)^[k] a).2.2.2 ∧ ((∀ r j, e j = p r → r ∈ D) ∨ k ≤ D.card) := by
    intro k
    induction k with
    | zero => exact fun _ => ⟨∅, H, Finset.Subset.refl _, by simp, hf, hp, .inr (Nat.zero_le _)⟩
    | succ k ih =>
      intro hk
      obtain ⟨D, H1, h1, h2, h3, h4, h5⟩ := ih (by omega)
      obtain ⟨D', H', g1, g2, g3, g4, g5, g6⟩ := take_step hb h j₀ e ix hix t ht (N := N + k) (by omega) h2 _ h3 h4
      rw [Function.iterate_succ_apply']
      refine ⟨D', H', h1.trans g2, g3, g4, g5, ?_⟩
      rcases h5 with h5 | h5
      · exact .inl fun r j hj => g1 (h5 r j hj)
      · rcases g6 with g6 | g6
        · exact .inl fun r j hj => g1 (g6 r j hj)
        · exact .inr (by omega)
  obtain ⟨D, H', h1, h2, h3, -, h5⟩ := key 6 (le_refl _)
  refine ⟨H', h1, ?_, h3⟩
  rcases h5 with h5 | h5
  · exact fun r j hj => h2 (h5 r j hj)
  · have := Finset.card_le_univ D
    simp at this
    omega

end

end Cert.Proof.Algo

end
-- ==== Proof.Chunks.lean ====
/- One visit of a chunk and one trip over the windows, over the extended reals. -/
module

public import proofs.«01_k».proof.Proof.Search

@[expose] public section

noncomputable section

namespace Cert.Proof.Algo

open Idealize.ShloMosaic

abbrev Blk : Shape := ⟨3, ![4, 4, 100000]⟩

/-- The place of beam `a`, token `v`. -/
def place (a : Fin 4) (v : Fin 100000) : Fin 400000 := ⟨a.val * 100000 + v.val, by have := a.isLt; have := v.isLt; omega⟩

def beam (q : Fin 400000) : Fin 4 := ⟨q.val / 100000, by have := q.isLt; omega⟩
def tok (q : Fin 400000) : Fin 100000 := ⟨q.val % 100000, Nat.mod_lt _ (by norm_num)⟩

theorem beam_place (a : Fin 4) (v : Fin 100000) : beam (place a v) = a := Fin.ext (by show (a.val * 100000 + v.val) / 100000 = _; have := v.isLt; omega)
theorem tok_place (a : Fin 4) (v : Fin 100000) : tok (place a v) = v := Fin.ext (by show (a.val * 100000 + v.val) % 100000 = _; have := v.isLt; omega)
theorem place_beam (q : Fin 400000) : place (beam q) (tok q) = q := Fin.ext (by show q.val / 100000 * 100000 + q.val % 100000 = _; omega)

/-- The scores of member `g`: the candidate's number plus its beam's. -/
def score (X : Blk.Idx → EReal) (g : Fin 4) (s : (Mat 4 1).Idx → EReal) (q : Fin 400000) : EReal := X (ix3 g (beam q) (tok q)) + s (ix2 (beam q) 0)

theorem score_place (X : Blk.Idx → EReal) (g : Fin 4) (s : (Mat 4 1).Idx → EReal) (a : Fin 4) (v : Fin 100000) :
    score X g s (place a v) = X (ix3 g a v) + s (ix2 a 0) := by
  unfold score
  rw [beam_place, tok_place]

/-- The chunk of a place. -/
def chunk (q : Fin 400000) : Nat := (tok q).val / 2048

/-- A matrix read from a block of one member. -/
theorem down_at {α : Type} {n : Nat} (hd : (Lift 4 n).ShapeCasts (Mat 4 n)) (x : (Lift 4 n).Idx → α) (j : (Mat 4 n).Idx) :
    shapeCast (Mat 4 n) x hd j = x (ix3 0 (j 0) (j 1)) := by
  refine shapeCast_apply x hd j _ ?_
  rw [Shape.rowMajor_val_three, Shape.rowMajor_val_two]
  show (0 * 4 + (j 0).val) * n + (j 1).val = (j 0).val * n + (j 1).val
  rw [Nat.zero_mul, Nat.zero_add]

theorem spread_at {α : Type} {n : Nat} (hb : (Mat 4 1).Broadcasts (Mat 4 n)) (s : (Mat 4 1).Idx → α) (j : (Mat 4 n).Idx) :
    broadcastTo (Mat 4 n) s hb j = s (ix2 (j 0) 0) := by
  refine broadcastTo_apply s hb j _ fun a => ?_
  fin_cases a <;> rfl

/-- A chunk's entry's place. -/
def spot {n : Nat} (off : Nat) (j : (Mat 4 n).Idx) : Fin 400000 := place (j 0) ⟨(off + (j 1).val) % 100000, Nat.mod_lt _ (by norm_num)⟩

theorem sum_at {n : Nat} (hd : (Lift 4 n).ShapeCasts (Mat 4 n)) (hb : (Mat 4 1).Broadcasts (Mat 4 n)) (X : Blk.Idx → EReal) (g : Fin 4) (off : Nat)
    (s : (Mat 4 1).Idx → EReal) (j : (Mat 4 n).Idx) :
    (addf (F := Ideal) (φ := .f32) (shapeCast (Mat 4 n) (piece X g n off) hd) (broadcastTo (Mat 4 n) s hb) j : EReal) = score X g s (spot off j) := by
  show (shapeCast (Mat 4 n) (piece X g n off) hd j : EReal) + broadcastTo (Mat 4 n) s hb j = _
  rw [down_at, spread_at]
  exact (score_place X g s (j 0) _).symm

theorem keep_at {n : Nat} (hd : (Lift 4 n).ShapeCasts (Mat 4 n)) (hb : (Mat 4 1).Broadcasts (Mat 4 n)) (X : Blk.Idx → EReal) (g : Fin 4) (off : Nat)
    (s : (Mat 4 1).Idx → EReal) (t : EReal) (j : (Mat 4 n).Idx) :
    (keep (F := Ideal) hd hb (piece X g n off) s t j : EReal) = if t ≤ score X g s (spot off j) then score X g s (spot off j) else low := by
  have hs := sum_at hd hb X g off s j
  show (if BitVec.ofBool (decide (t ≤ (addf (F := Ideal) (φ := .f32) (shapeCast (Mat 4 n) (piece X g n off) hd) (broadcastTo (Mat 4 n) s hb) j : EReal))) = 1#1 then
    (addf (F := Ideal) (φ := .f32) (shapeCast (Mat 4 n) (piece X g n off) hd) (broadcastTo (Mat 4 n) s hb) j : EReal) else low) = _
  rw [hs]
  by_cases h : t ≤ score X g s (spot off j)
  · rw [if_pos h, if_pos ((ofBool_iff _).mpr (decide_eq_true h))]
  · rw [if_neg h, if_neg (fun h' => h (of_decide_eq_true ((ofBool_iff _).mp h')))]

theorem keep_part {n : Nat} (hd : (Lift 4 n).ShapeCasts (Mat 4 n)) (hb : (Mat 4 1).Broadcasts (Mat 4 n)) (X : Blk.Idx → EReal) (g : Fin 4) (off : Nat)
    (s : (Mat 4 1).Idx → EReal) (t : EReal) (p : Fin 4 → Fin 400000) (hp : Best (score X g s) p) (ht : t ≤ score X g s (p 3)) :
    Part (score X g s) p (spot off) ∅ (keep (F := Ideal) hd hb (piece X g n off) s t) := by
  refine ⟨fun j => ?_, fun j r _ hr => absurd hr (by simp), fun j r hj _ => ?_⟩
  · rw [keep_at]
    split
    · exact .inr rfl
    · exact .inl rfl
  · rw [keep_at, hj, if_pos (ht.trans (hp.ge r))]

theorem rows_at {n : Nat} (h : (Mat 4 n).Iotas .tc 32 [0]) (j : (Mat 4 n).Idx) : iota .tc (Mat 4 n) 32 [0] h j = BitVec.ofNat 32 (j 0).val := by
  rw [iota_apply]; simp
theorem cols_at {n : Nat} (h : (Mat 4 n).Iotas .tc 32 [1]) (j : (Mat 4 n).Idx) : iota .tc (Mat 4 n) 32 [1] h j = BitVec.ofNat 32 (j 1).val := by
  rw [iota_apply]; simp

theorem small_word (w : Nat) (hw : w < 49) : (0 : Int) ≤ (BitVec.ofNat 32 w).toInt := by rw [word_toInt _ (by omega)]; omega

theorem base_word (w : Nat) (hw : w < 48) : (base (BitVec.ofNat 32 w)).toNat = 2048 * w := by
  rw [base_toNat _ (small_word w (by omega)), BitVec.toNat_ofNat, Nat.mod_eq_of_lt (by omega), min_eq_left (by omega)]
  omega

theorem ixC_at (w : Nat) (hw : w < 48) (j : (Mat 4 2048).Idx) : ixC (BitVec.ofNat 32 w) j = flat (spot (2048 * w) j) := by
  have h0 : (j 0).val < 4 := (j 0).isLt
  have h1 : (j 1).val < 2048 := (j 1).isLt
  have hb := base_word w hw
  show (iota .tc (Mat 4 2048) 32 [0] iota_c0 j * 100000#32 + iota .tc (Mat 4 2048) 32 [1] iota_c1 j) + base (BitVec.ofNat 32 w) = BitVec.ofNat 32 ((j 0).val * 100000 + (2048 * w + (j 1).val) % 100000)
  rw [rows_at, cols_at]
  rw [Nat.mod_eq_of_lt (show 2048 * w + (j 1).val < 100000 by omega)]
  apply BitVec.eq_of_toNat_eq
  rw [BitVec.toNat_add, hb]
  simp only [BitVec.toNat_add, BitVec.toNat_mul, BitVec.toNat_ofNat]
  rw [Nat.mod_eq_of_lt (show (j 0).val < 2 ^ 32 by omega), Nat.mod_eq_of_lt (show (j 1).val < 2 ^ 32 by omega)]
  omega

theorem ixT_at (j : (Mat 4 1696).Idx) : ixT j = flat (spot 98304 j) := by
  have h0 : (j 0).val < 4 := (j 0).isLt
  have h1 : (j 1).val < 1696 := (j 1).isLt
  show iota .tc (Mat 4 1696) 32 [0] iota_t0 j * 100000#32 + (iota .tc (Mat 4 1696) 32 [1] iota_t1 j + 98304#32) = BitVec.ofNat 32 ((j 0).val * 100000 + (98304 + (j 1).val) % 100000)
  rw [rows_at, cols_at]
  rw [Nat.mod_eq_of_lt (show 98304 + (j 1).val < 100000 by omega)]
  apply BitVec.eq_of_toNat_eq
  simp only [BitVec.toNat_add, BitVec.toNat_mul, BitVec.toNat_ofNat]
  rw [Nat.mod_eq_of_lt (show (j 0).val < 2 ^ 32 by omega), Nat.mod_eq_of_lt (show (j 1).val < 2 ^ 32 by omega)]
  omega

section
variable {X : Blk.Idx → EReal} {g : Fin 4} {s : (Mat 4 1).Idx → EReal} {p : Fin 4 → Fin 400000}

/-- A visited chunk gives up its best places. -/
theorem visit_spec (hb : Best (score X g s) p) (t : EReal) (ht : t ≤ score X g s (p 3)) (w : Nat) (hw : w < 49) {N : Nat} (hN : N + 6 ≤ 63)
    {H : Finset (Fin 4)} (a : BitVec 32 × FVec Ideal (Mat 1 64) .f32 × IVec (Mat 1 64) 32) (hf : Fine (score X g s) p N H a.1 a.2.1 a.2.2) :
    ∃ H', H ⊆ H' ∧ (∀ r, chunk (p r) = w → r ∈ H') ∧
      Fine (score X g s) p (N + 6) H' (visit (F := Ideal) X g s t (BitVec.ofNat 32 w) a).1 (visit (F := Ideal) X g s t (BitVec.ofNat 32 w) a).2.1
        (visit (F := Ideal) X g s t (BitVec.ofNat 32 w) a).2.2 := by
  unfold visit
  by_cases h48 : w = 48
  · subst h48
    rw [if_pos (by decide)]
    obtain ⟨H', h1, h2, h3⟩ := takes hb side1696 (ix2 (n0 := 4) (n1 := 1696) 0 0) (spot 98304) ixT ixT_at t ht hN
      (a.1, a.2.1, a.2.2, keep down1696 bc1696 (piece X g 1696 98304) s t) hf (keep_part _ _ X g 98304 s t p hb ht)
    refine ⟨H', h1, fun r hr => ?_, h3⟩
    unfold chunk at hr
    have hv := (tok (p r)).isLt
    refine h2 r (ix2 (n0 := 4) (n1 := 1696) (beam (p r)) ⟨(tok (p r)).val - 98304, by omega⟩) ?_
    refine Eq.trans ?_ (place_beam (p r))
    show place (beam (p r)) ⟨(98304 + ((tok (p r)).val - 98304)) % 100000, _⟩ = _
    exact congrArg (place (beam (p r))) (Fin.ext (show (98304 + ((tok (p r)).val - 98304)) % 100000 = (tok (p r)).val by omega))
  · rw [if_neg (by
      rw [word_iff]
      show ¬ BitVec.ofBool (BitVec.ofNat 32 w == 48#32) = 1#1
      rw [ofBool_iff, beq_iff_eq]
      intro h
      have := congrArg BitVec.toNat h
      rw [BitVec.toNat_ofNat] at this
      simp at this
      omega), indexCast_toNat, base_word w (by omega)]
    obtain ⟨H', h1, h2, h3⟩ := takes hb side2048 (ix2 (n0 := 4) (n1 := 2048) 0 0) (spot (2048 * w)) (ixC (BitVec.ofNat 32 w)) (ixC_at w (by omega)) t ht hN
      (a.1, a.2.1, a.2.2, keep down2048 bc2048 (piece X g 2048 (2048 * w)) s t) hf (keep_part _ _ X g (2048 * w) s t p hb ht)
    refine ⟨H', h1, fun r hr => ?_, h3⟩
    unfold chunk at hr
    have hv := (tok (p r)).isLt
    refine h2 r (ix2 (n0 := 4) (n1 := 2048) (beam (p r)) ⟨(tok (p r)).val - 2048 * w, by omega⟩) ?_
    refine Eq.trans ?_ (place_beam (p r))
    show place (beam (p r)) ⟨(2048 * w + ((tok (p r)).val - 2048 * w)) % 100000, _⟩ = _
    exact congrArg (place (beam (p r))) (Fin.ext (show (2048 * w + ((tok (p r)).val - 2048 * w)) % 100000 = (tok (p r)).val by omega))

/-- The window of a column of the window maxima. -/
def wd (j : (Mat 4 6272).Idx) : Nat := (j 1).val / 128

theorem wd_lt (j : (Mat 4 6272).Idx) : wd j < 49 := by
  have hj : (j 1).val < 6272 := (j 1).isLt
  unfold wd; omega

theorem wd_inj {j k : (Mat 4 6272).Idx} (h : windows j = windows k) : wd j = wd k := by
  rw [windows_eq, windows_eq] at h
  have h1 := wd_lt j
  have h2 := wd_lt k
  have := congrArg BitVec.toInt h
  rw [word_toInt _ (by unfold wd at h1; omega), word_toInt _ (by unfold wd at h2; omega)] at this
  exact_mod_cast this

/-- What the window maxima are: each a score of its window, and no less than any score of its window. -/
structure Covers (score : Fin 400000 → EReal) (W : (Mat 4 6272).Idx → EReal) : Prop where
  mem : ∀ j, ∃ q, W j = score q ∧ (wd j = chunk q ∨ wd j = 48)
  ge : ∀ q, ∃ j, wd j = chunk q ∧ score q ≤ W j

/-- The windows that matter: those of the best places, and the last. -/
def hot (p : Fin 4 → Fin 400000) : Finset Nat := insert 48 (Finset.univ.image fun r => chunk (p r))

theorem hot_card (p : Fin 4 → Fin 400000) : (hot p).card ≤ 5 := by
  unfold hot
  refine (Finset.card_insert_le _ _).trans ?_
  have := (Finset.card_image_le (s := (Finset.univ : Finset (Fin 4))) (f := fun r => chunk (p r)))
  simp only [Finset.card_univ, Fintype.card_fin] at this
  omega

/-- The state after some trips: the windows visited, and what is left of the maxima. -/
structure Seen (score : Fin 400000 → EReal) (p : Fin 4 → Fin 400000) (W : (Mat 4 6272).Idx → EReal) (V : Finset Nat) (N : Nat) (a : St Ideal 4 6272) : Prop where
  fine : ∃ H, (∀ r, chunk (p r) ∈ V → r ∈ H) ∧ Fine score p N H a.1 a.2.1 a.2.2.1
  gone : ∀ j, wd j ∈ V → (a.2.2.2 j : EReal) = low
  still : ∀ j, wd j ∉ V → (a.2.2.2 j : EReal) = W j

theorem trip_pos {F : FTy → Type} [FloatOps F] (X : Blk.Idx → F .f32) (g : Fin 4) (s : FVec F (Mat 4 1) .f32) (t : F .f32) (a : St F 4 6272)
    (h : word (Scalar.cmpf .oge (top side6272 a.2.2.2) t) = 1#1) :
    trip X g s t a = ((visit X g s t (hit side6272 a.2.2.2 windows) (a.1, a.2.1, a.2.2.1)).1,
      (visit X g s t (hit side6272 a.2.2.2 windows) (a.1, a.2.1, a.2.2.1)).2.1, (visit X g s t (hit side6272 a.2.2.2 windows) (a.1, a.2.1, a.2.2.1)).2.2,
      clear windows (hit side6272 a.2.2.2 windows) a.2.2.2) := if_pos h

theorem trip_step (hb : Best (score X g s) p) {W : (Mat 4 6272).Idx → EReal} (hW : Covers (score X g s) W) (t : EReal) (ht : t ≤ score X g s (p 3))
    {V : Finset Nat} {N : Nat} (hN : N + 6 ≤ 63) (a : St Ideal 4 6272) (h : Seen (score X g s) p W V N a) :
    ∃ V', V ⊆ V' ∧ Seen (score X g s) p W V' (N + 6) (trip (F := Ideal) X g s t a) ∧
      ((∀ r, chunk (p r) ∈ V) ∨ (V ∩ hot p).card < (V' ∩ hot p).card) := by
  obtain ⟨⟨j1, e1⟩, hall⟩ := top_spec side6272 a.2.2.2 (ix2 (n0 := 4) (n1 := 6272) 0 0)
  have hdone : (top side6272 a.2.2.2 : EReal) < score X g s (p 3) → ∀ r, chunk (p r) ∈ V := fun hlt r => by
    by_contra hr
    obtain ⟨j, h1, h2⟩ := hW.ge (p r)
    have h3 := hall j
    rw [h.still j (by rw [h1]; exact hr)] at h3
    exact absurd (lt_of_le_of_lt ((hb.ge r).trans (h2.trans h3)) hlt) (lt_irrefl _)
  obtain ⟨H, hH, hf⟩ := h.fine
  by_cases hw : t ≤ (top side6272 a.2.2.2 : EReal)
  · rw [trip_pos _ _ _ _ _ ((reach_iff _ _).mpr hw)]
    have hlt : ∀ j, (windows j).toInt < 1073741824 := fun j => by
      have := wd_lt j
      unfold wd at this
      rw [windows_eq, word_toInt _ (by omega)]; omega
    obtain ⟨⟨j2, e2, h2⟩, -⟩ := hit_spec side6272 a.2.2.2 windows (ix2 (n0 := 4) (n1 := 6272) 0 0) (fun j => (hlt j).le) (fun j _ => hlt j)
    have hcl : ∀ j, (clear windows (hit side6272 a.2.2.2 windows) a.2.2.2 j : EReal) = if wd j = wd j2 then low else a.2.2.2 j := fun j => by
      rw [clear_at, h2]
      by_cases hj : wd j = wd j2
      · rw [if_pos (by rw [windows_eq, windows_eq]; exact congrArg _ hj), if_pos hj]
      · rw [if_neg (fun h' => hj (wd_inj h')), if_neg hj]
    obtain ⟨H', g1, g2, g3⟩ := visit_spec hb t ht (wd j2) (wd_lt j2) hN (a.1, a.2.1, a.2.2.1) hf
    rw [show BitVec.ofNat 32 (wd j2) = hit side6272 a.2.2.2 windows from (h2.trans (windows_eq j2)).symm] at g3
    generalize visit (F := Ideal) X g s t (hit side6272 a.2.2.2 windows) (a.1, a.2.1, a.2.2.1) = b at g3 ⊢
    generalize clear windows (hit side6272 a.2.2.2 windows) a.2.2.2 = C at hcl ⊢
    refine ⟨insert (wd j2) V, Finset.subset_insert _ _, ⟨⟨H', fun r hr => ?_, ?_⟩, fun j hj => ?_, fun j hj => ?_⟩, ?_⟩
    · rcases Finset.mem_insert.mp hr with hr | hr
      · exact g2 r hr
      · exact g1 (hH r hr)
    · exact g3
    · refine (hcl j).trans ?_
      rcases Finset.mem_insert.mp hj with hj | hj
      · rw [if_pos hj]
      · split
        · rfl
        · exact h.gone j hj
    · refine (hcl j).trans ?_
      rw [if_neg fun h' => hj (by rw [h']; exact Finset.mem_insert_self _ _)]
      exact h.still j fun h' => hj (Finset.mem_insert_of_mem h')
    · by_cases hg : score X g s (p 3) ≤ (top side6272 a.2.2.2 : EReal)
      · right
        have hV : wd j2 ∉ V := fun hV => by
          have := h.gone j2 hV
          rw [e2] at this
          rw [this] at hg
          exact absurd hb.high (not_lt.mpr hg)
        have hhot : wd j2 ∈ hot p := by
          obtain ⟨q, hq, hqw⟩ := hW.mem j2
          rw [← h.still j2 hV, e2] at hq
          rw [hq] at hg
          obtain ⟨r, rfl⟩ := hb.mem hg
          rcases hqw with hqw | hqw
          · rw [hqw]; exact Finset.mem_insert_of_mem (Finset.mem_image_of_mem (fun r => chunk (p r)) (Finset.mem_univ r))
          · rw [hqw]; exact Finset.mem_insert_self _ _
        rw [Finset.insert_inter_of_mem hhot, Finset.card_insert_of_notMem fun h' => hV (Finset.mem_inter.mp h').1]
        omega
      · exact .inl (hdone (not_le.mp hg))
  · rw [show trip (F := Ideal) X g s t a = a from if_neg (fun h' => hw ((reach_iff _ _).mp h'))]
    exact ⟨V, Finset.Subset.refl _, ⟨⟨H, hH, hf.mono (by omega)⟩, h.gone, h.still⟩, .inl (hdone (lt_of_lt_of_le (not_le.mp hw) ht))⟩

/-- After the six trips the slots hold all four best places. -/
theorem gather_spec (hb : Best (score X g s) p) {W : (Mat 4 6272).Idx → EReal} (hW : Covers (score X g s) W) (t : EReal) (ht : t ≤ score X g s (p 3)) :
    Fine (score X g s) p 36 Finset.univ (gather (F := Ideal) X g s t W).1 (gather (F := Ideal) X g s t W).2.1 (gather (F := Ideal) X g s t W).2.2.1 := by
  have key : ∀ k ≤ 6, ∃ V, Seen (score X g s) p W V (6 * k) ((trip (F := Ideal) X g s t)^[k] (0#32, none64, noix64, W)) ∧
      ((∀ r, chunk (p r) ∈ V) ∨ k ≤ (V ∩ hot p).card) := by
    intro k
    induction k with
    | zero =>
      refine fun _ => ⟨∅, ⟨⟨∅, by simp, ⟨by simp, fun j => ?_, fun j => .inl (le_refl _), by simp⟩⟩, by simp, fun _ _ => rfl⟩, .inr (Nat.zero_le _)⟩
      show (1073741824#32).toInt ≤ 1073741824
      decide
    | succ k ih =>
      intro hk
      obtain ⟨V, h1, h2⟩ := ih (by omega)
      obtain ⟨V', g1, g2, g3⟩ := trip_step hb hW t ht (N := 6 * k) (by omega) _ h1
      rw [Function.iterate_succ_apply']
      refine ⟨V', g2, ?_⟩
      rcases h2 with h2 | h2
      · exact .inl fun r => g1 (h2 r)
      · rcases g3 with g3 | g3
        · exact .inl fun r => g1 (g3 r)
        · exact .inr (by omega)
  obtain ⟨V, ⟨⟨H, hH, hf⟩, -, -⟩, h2⟩ := key 6 (le_refl _)
  rcases h2 with h2 | h2
  · exact ⟨hf.count, hf.small, hf.sound, fun r _ => hf.has r (hH r (h2 r))⟩
  · have h3 := hot_card p
    have h4 := Finset.card_le_card (Finset.inter_subset_right (s₁ := V) (s₂ := hot p))
    omega

theorem lower_at (x : FVec Ideal (Mat 4 6272) .f32) (j : (Mat 4 6272).Idx) : (lower x j : EReal) = if (x j : EReal) = top side6272 x then low else x j := by
  have hm := eqTop_iff side6272 x j
  show (if cmpf .oeq x (broadcast (Mat 4 6272) (top side6272 x)) j = 1#1 then low else (x j : EReal)) = _
  by_cases h : (x j : EReal) = top side6272 x
  · rw [if_pos h, if_pos (hm.mpr h)]
  · rw [if_neg h, if_neg (fun h' => h (hm.mp h'))]

theorem top_lower {y : EReal} (hy : low < y) {x : FVec Ideal (Mat 4 6272) .f32} (hle : y ≤ (top side6272 (lower x) : EReal)) : y ≤ (top side6272 x : EReal) := by
  obtain ⟨-, h1⟩ := top_spec side6272 x (ix2 (n0 := 4) (n1 := 6272) 0 0)
  obtain ⟨⟨j2, e2⟩, -⟩ := top_spec side6272 (lower x) (ix2 (n0 := 4) (n1 := 6272) 0 0)
  rw [← e2, lower_at] at hle
  split at hle
  · exact absurd hy (not_lt.mpr hle)
  · exact hle.trans (h1 j2)

/-- Entries that are the fill or scores with a property: the greatest is such a score, and the lowered entries differ from it too. -/
theorem lower_step {sc : Fin 400000 → EReal} {y : EReal} (hy : low < y) {x : FVec Ideal (Mat 4 6272) .f32} (P : EReal → Prop)
    (hx : ∀ j, (x j : EReal) = low ∨ ((∃ q, (x j : EReal) = sc q) ∧ P (x j))) (hle : y ≤ (top side6272 x : EReal)) :
    ((∃ q, (top side6272 x : EReal) = sc q) ∧ P (top side6272 x)) ∧
      ∀ j, (lower x j : EReal) = low ∨ ((∃ q, (lower x j : EReal) = sc q) ∧ (P (lower x j) ∧ (lower x j : EReal) ≠ top side6272 x)) := by
  obtain ⟨⟨j1, e1⟩, h1⟩ := top_spec side6272 x (ix2 (n0 := 4) (n1 := 6272) 0 0)
  refine ⟨?_, fun j => ?_⟩
  · rcases hx j1 with h | ⟨h, h'⟩
    · rw [e1] at h; rw [h] at hle; exact absurd hy (not_lt.mpr hle)
    · rw [e1] at h h'; exact ⟨h, h'⟩
  · rw [lower_at]
    split
    · exact .inl rfl
    · next hne =>
      rcases hx j with h | ⟨h, h'⟩
      · exact .inl h
      · exact .inr ⟨h, h', hne⟩

/-- The threshold is no higher than the fourth best score: else four different maxima would lie above it, each the score of another place. -/
theorem thr_le (hb : Best (score X g s) p) {W : FVec Ideal (Mat 4 6272) .f32} (hW : Covers (score X g s) W) : (thr (F := Ideal) W : EReal) ≤ score X g s (p 3) := by
  by_contra hn
  rw [not_le] at hn
  have hlow : low < (thr (F := Ideal) W : EReal) := hb.high.trans hn
  have l4 : (thr (F := Ideal) W : EReal) ≤ (top side6272 (lower (lower (lower W))) : EReal) := le_refl _
  have l3 := top_lower hlow l4
  have l2 := top_lower hlow l3
  have l1 := top_lower hlow l2
  obtain ⟨⟨⟨q1, s1⟩, -⟩, k1⟩ := lower_step (sc := score X g s) hlow (fun _ => True) (fun j => .inr ⟨(hW.mem j).imp fun _ h => h.1, trivial⟩) l1
  obtain ⟨⟨⟨q2, s2⟩, -, n21⟩, k2⟩ := lower_step hlow (fun y => True ∧ y ≠ top side6272 W) k1 l2
  obtain ⟨⟨⟨q3, s3⟩, ⟨-, n31⟩, n32⟩, k3⟩ := lower_step hlow (fun y => (True ∧ y ≠ top side6272 W) ∧ y ≠ top side6272 (lower W)) k2 l3
  obtain ⟨⟨⟨q4, s4⟩, ⟨⟨-, n41⟩, n42⟩, n43⟩, -⟩ := lower_step hlow (fun y => ((True ∧ y ≠ top side6272 W) ∧ y ≠ top side6272 (lower W)) ∧ y ≠ top side6272 (lower (lower W))) k3 l4
  have hp : ∀ q, (thr (F := Ideal) W : EReal) ≤ score X g s q → ∃ r : Fin 4, r.val < 3 ∧ q = p r := fun q hq => by
    obtain ⟨r, rfl⟩ := hb.mem (hn.le.trans hq)
    refine ⟨r, ?_, rfl⟩
    by_contra h3
    have : r = 3 := Fin.ext (by have := r.isLt; show r.val = 3; omega)
    rw [this] at hq
    exact absurd hn (not_lt.mpr hq)
  obtain ⟨r1, b1, rfl⟩ := hp q1 (s1 ▸ l1)
  obtain ⟨r2, b2, rfl⟩ := hp q2 (s2 ▸ l2)
  obtain ⟨r3, b3, rfl⟩ := hp q3 (s3 ▸ l3)
  obtain ⟨r4, b4, rfl⟩ := hp q4 (s4 ▸ l4)
  rw [s1, s2] at n21
  rw [s1, s3] at n31
  rw [s2, s3] at n32
  rw [s1, s4] at n41
  rw [s2, s4] at n42
  rw [s3, s4] at n43
  have ne : ∀ {a b : Fin 4}, score X g s (p a) ≠ score X g s (p b) → a.val ≠ b.val := fun h h' => h (by rw [Fin.ext h'])
  have := ne n21; have := ne n31; have := ne n32; have := ne n41; have := ne n42; have := ne n43
  omega

end

end Cert.Proof.Algo

end
-- ==== Proof.Ranks.lean ====
/- The order in which a stable sort, greater first, names the places of a row, and the top of a row read from it. -/
module

public import proofs.«01_k».proof.Proof.Chunks
public import Idealize.ShloMosaic.Lib.SortFacts

@[expose] public section

noncomputable section

namespace Cert.Proof.Algo

open Idealize.ShloMosaic

/-- The place that stands at a position when the greater number stands first and equal numbers keep their order. -/
def rank {n : Nat} (f : Fin n → EReal) : Fin n → Fin n := sortedFrom fun k k' => Ideal.cmp .ogt (f k) (f k') == 1#1

/-- A place stands before another: its number is greater, or equal and it is the lower place. -/
def Beats {n : Nat} (f : Fin n → EReal) (a b : Fin n) : Prop := f b < f a ∨ (f b = f a ∧ a < b)

theorem Beats.le {n : Nat} {f : Fin n → EReal} {a b : Fin n} (h : Beats f a b) : f b ≤ f a := by
  rcases h with h | h
  exacts [h.le, h.1.le]

theorem before_iff (a b : EReal) : (Ideal.cmp .ogt a b == 1#1) = true ↔ b < a := by
  rw [beq_iff_eq]
  show BitVec.ofBool (decide (b < a)) = 1#1 ↔ _
  rw [ofBool_iff, decide_eq_true_iff]

theorem insert_beats {n : Nat} (f : Fin n → EReal) (a : Fin n) (l : List (Fin n)) (hl : l.Pairwise (Beats f)) (ha : ∀ b ∈ l, a < b) :
    (insertBefore (fun k k' => Ideal.cmp .ogt (f k) (f k') == 1#1) a l).Pairwise (Beats f) := by
  induction l with
  | nil => exact List.pairwise_singleton _ _
  | cons b l ih =>
    rw [List.pairwise_cons] at hl
    unfold insertBefore
    split
    · next h =>
      rw [before_iff] at h
      refine List.pairwise_cons.mpr ⟨fun c hc => ?_, ih hl.2 fun c hc => ha c (List.mem_cons_of_mem _ hc)⟩
      rcases List.mem_cons.mp ((perm_insertBefore _ a l).mem_iff.mp hc) with rfl | hc
      · exact .inl h
      · exact hl.1 c hc
    · next h =>
      rw [before_iff, not_lt] at h
      refine List.pairwise_cons.mpr ⟨fun c hc => ?_, List.pairwise_cons.mpr hl⟩
      have hle : f c ≤ f b := by
        rcases List.mem_cons.mp hc with rfl | hc
        · exact le_refl _
        · exact (hl.1 c hc).le
      rcases lt_or_eq_of_le (hle.trans h) with h' | h'
      · exact .inl h'
      · exact .inr ⟨h', ha c hc⟩

theorem sort_beats {n : Nat} (f : Fin n → EReal) (l : List (Fin n)) (hl : l.Pairwise (· < ·)) :
    (stableSort (fun k k' => Ideal.cmp .ogt (f k) (f k') == 1#1) l).Pairwise (Beats f) := by
  induction l with
  | nil => exact List.Pairwise.nil
  | cons a l ih =>
    rw [List.pairwise_cons] at hl
    unfold stableSort
    exact insert_beats f a _ (ih hl.2) fun b hb => hl.1 b ((perm_stableSort _ l).mem_iff.mp hb)

theorem rank_beats {n : Nat} (f : Fin n → EReal) {i j : Fin n} (h : i < j) : Beats f (rank f i) (rank f j) := by
  have hp := List.pairwise_iff_get.mp (sort_beats f (List.finRange n) (List.pairwise_lt_finRange n))
  unfold rank sortedFrom
  exact hp _ _ (show i.val < j.val from h)

theorem rank_inj {n : Nat} (f : Fin n → EReal) : Function.Injective (rank f) := sortedFrom_injective _
theorem rank_surj {n : Nat} (f : Fin n → EReal) : Function.Surjective (rank f) := sortedFrom_surjective _

section top
variable {R n k : Nat} (hk : k ≤ n) (X : (Mat R n).Idx → EReal) (h : (Mat R n).Slices (fun _ => 0) (Mat R k)) (j : (Mat R k).Idx)

/-- The index that the slice from zero reads. -/
def wide : (Mat R n).Idx := fun a => ⟨0 + (j (a.cast h.1.symm)).val, Nat.lt_of_lt_of_le (Nat.add_lt_add_left (j _).isLt _) (h.2 a)⟩

theorem wide_along (q : Fin n) : (wide h j).along (1 : Fin 2) q = (ix2 (j 0) q : (Mat R n).Idx) := by
  funext a
  match a with
  | ⟨0, _⟩ => exact Fin.ext (Nat.zero_add _)
  | ⟨1, _⟩ => rfl

theorem wide_one : wide h j (1 : Fin 2) = (j 1).castLE hk := Fin.ext (Nat.zero_add _)

/-- The place that stands at a position of a row. -/
theorem sorted_wide : sortedFrom (fun k k' => FloatOps.cmpfTotal (F := Ideal) (φ := .f32) .gt (X ((wide h j).along (1 : Fin 2) k)) (X ((wide h j).along (1 : Fin 2) k')) == 1#1)
    (wide h j (1 : Fin 2)) = rank (fun q => X (ix2 (j 0) q)) ((j 1).castLE hk) := by
  rw [wide_one hk]
  refine congrFun (congrArg sortedFrom (funext fun k => funext fun k' => ?_)) _
  exact congrArg₂ (fun a b : EReal => Ideal.cmp .ogt a b == 1#1) (congrArg X (wide_along h j k)) (congrArg X (wide_along h j k'))

include hk in
theorem topK_val : (Host.topK (Mat R k) 1 (FloatOps.cmpfTotal (F := Ideal) (φ := .f32) .gt) X h).1 j
    = X (ix2 (j 0) (rank (fun q => X (ix2 (j 0) q)) ((j 1).castLE hk))) := by
  exact (congrArg X (wide_along h j _)).trans (congrArg (fun q : Fin n => X (ix2 (j 0) q)) (sorted_wide hk X h j))

include hk in
theorem topK_pos : (Host.topK (Mat R k) 1 (FloatOps.cmpfTotal (F := Ideal) (φ := .f32) .gt) X h).2 j
    = BitVec.ofNat 32 (rank (fun q => X (ix2 (j 0) q)) ((j 1).castLE hk)).val := by
  exact (congrArg (fun i : (Mat R n).Idx => BitVec.ofNat 32 (i 1).val) (wide_along h j _)).trans (congrArg (fun q : Fin n => BitVec.ofNat 32 q.val) (sorted_wide hk X h j))

end top

end Cert.Proof.Algo

end
-- ==== Proof.Words2.lean ====
/- The words and numbers both programs compute from a chosen place: its token, its beam, its end mark. -/
module

public import proofs.«01_k».proof.Proof.Ranks
public import proofs.«01_k».proof.Proof.Search
public import Idealize.ShloMosaic.Lib.Routing.Words
public import Idealize.ShloMosaic.Lib.WordCmp

@[expose] public section

noncomputable section

namespace Cert.Proof.Algo

open Idealize.ShloMosaic

theorem andi_one {a b : BitVec 1} : IntOp.andi a b = 1#1 → a = 1#1 ∧ b = 1#1 := by revert a b; decide

theorem rem_flat (u : ArithUnit) (q : Fin 400000) : IntOp.remsi u (flat q) (BitVec.ofNat 32 100000) = BitVec.ofNat 32 (tok q).val :=
  Routing.remsi_word u (by have := q.isLt; omega) (by norm_num) (by norm_num)

theorem div_flat (u : ArithUnit) (q : Fin 400000) : IntOp.divsi u (flat q) (BitVec.ofNat 32 100000) = BitVec.ofNat 32 (beam q).val :=
  Routing.divsi_word u (by have := q.isLt; omega) (by norm_num) (by norm_num)

/-- The penalty of a finished place, minus one times ten to the twentieth. -/
def neg : EReal := Ideal.ofBits .f32 0xE0AD78EC#32

/-- One at the end token, zero elsewhere. -/
def flag (n : Nat) : EReal := if n = 2 then 1 else 0

theorem flag_bit (n : Nat) (hn : n < 2 ^ 32) : IntOp.cmpi .eq (BitVec.ofNat 32 n) 2#32 = BitVec.ofBool (decide (n = 2)) := by
  rw [show (2#32 : BitVec 32) = BitVec.ofNat 32 2 from rfl, WordCmp.cmpi_eq_ofNat hn (by norm_num)]

theorem flag_unsigned (n : Nat) (hn : n < 2 ^ 32) : (((IntOp.cmpi .eq (BitVec.ofNat 32 n) 2#32).toNat : ℝ) : EReal) = flag n := by
  rw [flag_bit n hn]; unfold flag
  by_cases h : n = 2 <;> simp [h]

theorem flag_signed (n : Nat) (hn : n < 2 ^ 32) : ((((IntOp.cmpi .eq (BitVec.ofNat 32 n) 2#32).setWidth 32).toInt : ℝ) : EReal) = flag n := by
  rw [flag_bit n hn]; unfold flag
  by_cases h : n = 2
  · rw [if_pos h, decide_eq_true h, show ((BitVec.ofBool true).setWidth 32).toInt = 1 from by decide]; simp
  · rw [if_neg h, decide_eq_false h, show ((BitVec.ofBool false).setWidth 32).toInt = 0 from by decide]; simp

theorem low_neg : low < neg := by
  show Ideal.ofBits .f32 0xFF61B1E6#32 < Ideal.ofBits .f32 0xE0AD78EC#32
  simp [Ideal.ofBits, Ideal.ieee, -EReal.coe_mul]; norm_num

theorem neg_zero : neg < 0 := by
  show Ideal.ofBits .f32 0xE0AD78EC#32 < 0
  simp [Ideal.ofBits, Ideal.ieee, -EReal.coe_mul]

/-- The four first places of a batch. -/
def firsts (f : Fin 400000 → EReal) (k : Fin 4) : Fin 400000 := rank f (k.castLE (by norm_num))

/-- The four first places are the four best when the fifth score is strictly below the fourth and the penalised fourth stays above the penalty. -/
theorem firsts_best (f : Fin 400000 → EReal) (h5 : f (rank f 4) < f (rank f 3)) (n : Nat) (hm : neg < f (rank f 3) + flag n * neg) : Best f (firsts f) where
  inj := fun a b h => Fin.castLE_injective _ (rank_inj f h)
  order := fun r q hq => by
    obtain ⟨i, rfl⟩ := rank_surj f q
    have hi : r.castLE (by norm_num) < i := by
      by_contra hn
      have hv : i.val ≤ r.val := by have := not_lt.mp hn; exact this
      exact hq ⟨i.val, by have := r.isLt; omega⟩ hv rfl
    exact rank_beats f hi
  strict := fun q hq => by
    obtain ⟨i, rfl⟩ := rank_surj f q
    have h4 : 4 ≤ i.val := by
      by_contra hn
      exact hq ⟨i.val, by omega⟩ rfl
    have hle : f (rank f i) ≤ f (rank f 4) := by
      rcases eq_or_lt_of_le (show (4 : Fin 400000) ≤ i from h4) with h | h
      · rw [h]
      · exact (rank_beats f h).le
    exact lt_of_le_of_lt hle h5
  high := by
    show low < f (rank f 3)
    unfold flag at hm
    by_cases h : n = 2
    · rw [if_pos h, one_mul] at hm
      by_contra hn
      have h0 : f (rank f 3) ≤ 0 := (not_lt.mp hn).trans (low_neg.trans neg_zero).le
      have := add_le_add h0 (le_refl neg)
      rw [zero_add] at this
      exact absurd hm (not_lt.mpr this)
    · rw [if_neg h, zero_mul, add_zero] at hm
      exact low_neg.trans hm

end Cert.Proof.Algo

end
-- ==== Proof.KernelIdeal.Rounds.lean ====
/- The second call's four rounds: each takes a row's greatest score and its least place, and lowers it. -/
module

public import proofs.«01_k».proof.Proof.KernelIdeal.FinVals
public import proofs.«01_k».proof.Proof.Words2
public import Idealize.ShloMosaic.Lib.Pipeline.Value
public import Idealize.ShloMosaic.PureOps.Ideal.Laws

@[expose] public section

noncomputable section

namespace Cert.KernelIdeal.Own

open Cert.KernelIdeal Cert.KernelIdeal.Gen Cert.Proof Cert.Proof.Algo Idealize.ShloMosaic

/-- A column of the four stood along every lane. -/
theorem column_spread {α : Type} {W : Nat} (k : Fin 4) (off : Fin 2 → Nat) (h0 : off 0 = 0) (h1 : off 1 = k.val) (X : (Mat 64 4).Idx → α) (hs : (Mat 64 4).Slices off (Mat 64 1))
    (hc : (Mat 64 1).ShapeCasts (Mat 64 1)) (hb : (Mat 64 1).Broadcasts (Mat 64 W)) (b : Fin 64) (q : Fin W) :
    broadcastTo (Mat 64 W) (shapeCast (Mat 64 1) (extractStridedSlice (Mat 64 1) off X hs) hc) hb (ix2 b q) = X (ix2 b k) := by
  rw [broadcastTo_apply _ hb _ (ix2 b 0 : (Mat 64 1).Idx) (fun a => by fin_cases a <;> rfl), shapeCast_apply _ hc _ (ix2 b 0 : (Mat 64 1).Idx) rfl]
  refine extractStridedSlice_apply off X hs _ _ fun a => ?_
  match a with
  | ⟨0, _⟩ => show b.val = off 0 + b.val; omega
  | ⟨1, _⟩ => show k.val = off 1 + 0; omega

/-- A column stood along every lane. -/
theorem one_spread {α : Type} {W : Nat} (X : (Mat 64 1).Idx → α) (hb : (Mat 64 1).Broadcasts (Mat 64 W)) (b : Fin 64) (q : Fin W) :
    broadcastTo (Mat 64 W) X hb (ix2 b q) = X (ix2 b 0) :=
  broadcastTo_apply _ hb _ _ (fun a => by fin_cases a <;> rfl)

/-- Four blocks joined along the lanes. -/
theorem joined {α : Type} {K W : Nat} (v : Fin 4 → (Mat 64 K).Idx → α)
    (h : Shape.Concatenates [Mat 64 K, Mat 64 K, Mat 64 K, Mat 64 K] (Mat 64 W) 1) (b : Fin 64) (q : Fin W) (j : Fin 4) (l : Fin K) (hq : q.val = j.val * K + l.val) :
    concatenate (Mat 64 W) 1 [⟨Mat 64 K, v 0⟩, ⟨Mat 64 K, v 1⟩, ⟨Mat 64 K, v 2⟩, ⟨Mat 64 K, v 3⟩] h (ix2 b q) = v j (ix2 b l) := by
  have hK : 0 < K := Nat.zero_lt_of_lt l.isLt
  refine concatenate_ofFn_apply (t := Mat 64 W) (s₁ := Mat 64 K) 1 v h rfl K rfl (ix2 b q) j ?_ (ix2 b l) ?_ ?_
  · show q.val / K = j.val
    rw [hq, Nat.mul_comm, Nat.mul_add_div hK, Nat.div_eq_of_lt l.isLt, Nat.add_zero]
  · show l.val = q.val % K
    rw [hq, Nat.mul_comm, Nat.mul_add_mod, Nat.mod_eq_of_lt l.isLt]
  · intro a ha
    match a with
    | ⟨0, _⟩ => rfl
    | ⟨1, _⟩ => exact absurd rfl ha

section rounds
variable (f : FVec Ideal S64x4 .f32)

/-- A row's greatest number, the least of its places, and the row with that place lowered. -/
def mx : FVec Ideal S64x1 .f32 := shapeCast S64x1 (multiReduction .maximumf [1] S64 f 0xFF800000#32 reduces_S64x4_S64 (.inl rfl) rfl) shapeCasts_S64_S64x1
def ps0 : IVec S64 32 :=
  multiReductionI .minsi [1] S64 (select (cmpf .oeq f (broadcastTo S64x4 (mx f) broadcasts_S64x1_S64x4)) lane4 (broadcast S64x4 4#32)) 2147483647#32 reduces_S64x4_S64 rfl
def ps : IVec S64x1 32 := shapeCast S64x1 (ps0 f) shapeCasts_S64_S64x1
def nx : FVec Ideal S64x4 .f32 :=
  select (cmpi .eq lane4 (broadcastTo S64x4 (ps f) broadcasts_S64x1_S64x4)) (broadcast S64x4 (Scalar.ofBits (F := Ideal) .f32 0xE0AD78EC#32)) f

theorem lift_row (b : Fin 64) (k : Fin 4) : (reduces_S64x4_S64 : S64x4.Reduces [1] S64).lift (ix1 b) k = (ix2 b k : S64x4.Idx) := by
  funext a; fin_cases a <;> rfl

theorem mx_at (b : Fin 64) (a : Fin 4) (h : ∀ k, (f (ix2 b k) : EReal) ≤ f (ix2 b a)) : (mx f (ix2 b 0) : EReal) = f (ix2 b a) := by
  unfold mx
  rw [shapeCast_apply _ shapeCasts_S64_S64x1 (ix2 b 0 : S64x1.Idx) (ix1 b : S64.Idx) (by rw [Shape.rowMajor_val_one, Shape.rowMajor_val_two]; show b.val = b.val * 1 + 0; omega)]
  refine (Ideal.multiReduction_maximumf_single f 0xFF800000#32 reduces_S64x4_S64 (.inl rfl) rfl (ix1 b)).trans ?_
  have e : (f ∘ (reduces_S64x4_S64 : S64x4.Reduces [1] S64).lift (ix1 b)) = fun k : Fin 4 => (f (ix2 b k) : EReal) := funext fun k => congrArg f (lift_row b k)
  rw [e]
  have hb : (FloatOps.ofBits (F := Ideal) .f32 0xFF800000#32 : EReal) = ⊥ := by
    show Ideal.ofBits .f32 0xFF800000#32 = ⊥
    simp [Ideal.ofBits, Ideal.ieee]
  rw [hb]
  refine le_antisymm ?_ ?_
  · exact (Finset.fold_max_le _).mpr ⟨bot_le, fun k _ => h k⟩
  · exact (Finset.le_fold_max _).mpr (.inr ⟨a, Finset.mem_univ _, le_rfl⟩)

theorem least_of (c : Fin 4 → Bool) (a : Fin 4) (h : c a = true) (hl : ∀ k < a, c k = false) :
    (Finset.univ : Finset (Fin 4)).fold IKind.minsi.op 2147483647#32 (fun k => if c k then BitVec.ofNat 32 k.val else 4#32) = BitVec.ofNat 32 a.val := by
  revert c a
  decide +kernel

theorem lane4_at (b : Fin 64) (k : Fin 4) : lane4 (ix2 b k) = BitVec.ofNat 32 k.val := by
  unfold lane4
  rw [WordCmp.iota_at]
  simp only [List.foldl_cons, List.foldl_nil, Nat.zero_mul, Nat.zero_add]
  rfl

theorem ps_at (b : Fin 64) (a : Fin 4) (h : ∀ k, (f (ix2 b k) : EReal) ≤ f (ix2 b a)) (hl : ∀ k < a, (f (ix2 b k) : EReal) ≠ f (ix2 b a)) :
    ps f (ix2 b 0) = BitVec.ofNat 32 a.val := by
  unfold ps ps0
  rw [shapeCast_apply _ shapeCasts_S64_S64x1 (ix2 b 0 : S64x1.Idx) (ix1 b : S64.Idx) (by rw [Shape.rowMajor_val_one, Shape.rowMajor_val_two]; show b.val = b.val * 1 + 0; omega)]
  refine (multiReductionI_eq_fold .minsi _ _ reduces_S64x4_S64 rfl (ix1 b)).trans ?_
  refine (Shape.Reduces.fold_filter_drop_single (reduces_S64x4_S64 : S64x4.Reduces [1] S64) IKind.minsi.op 2147483647#32 _ (ix1 b)).trans ?_
  have slot_at : ∀ k : Fin 4, select (cmpf .oeq f (broadcastTo S64x4 (mx f) broadcasts_S64x1_S64x4)) lane4 (broadcast S64x4 4#32) (ix2 b k)
      = if decide ((f (ix2 b k) : EReal) = f (ix2 b a)) then BitVec.ofNat 32 k.val else 4#32 := by
    intro k
    show Scalar.select (BitVec.ofBool (decide ((f (ix2 b k) : EReal) = broadcastTo S64x4 (mx f) broadcasts_S64x1_S64x4 (ix2 b k)))) (lane4 (ix2 b k)) 4#32 = _
    rw [one_spread, mx_at f b a h, lane4_at, WordCmp.select_decide]
    simp only [decide_eq_true_eq]
  have e : (select (cmpf .oeq f (broadcastTo S64x4 (mx f) broadcasts_S64x1_S64x4)) lane4 (broadcast S64x4 4#32) ∘ (reduces_S64x4_S64 : S64x4.Reduces [1] S64).lift (ix1 b))
      = fun k : Fin 4 => if decide ((f (ix2 b k) : EReal) = f (ix2 b a)) then BitVec.ofNat 32 k.val else 4#32 := by
    funext k
    refine (congrArg (select (cmpf .oeq f (broadcastTo S64x4 (mx f) broadcasts_S64x1_S64x4)) lane4 (broadcast S64x4 4#32)) (lift_row b k)).trans ?_
    exact slot_at k
  rw [e]
  exact least_of (fun k => decide ((f (ix2 b k) : EReal) = f (ix2 b a))) a (decide_eq_true rfl) fun k hk => decide_eq_false (hl k hk)

theorem nx_at (b : Fin 64) (a : Fin 4) (hp : ps f (ix2 b 0) = BitVec.ofNat 32 a.val) (k : Fin 4) : (nx f (ix2 b k) : EReal) = if k = a then neg else f (ix2 b k) := by
  unfold nx
  show Scalar.select (IntOp.cmpi .eq (lane4 (ix2 b k)) (broadcastTo S64x4 (ps f) broadcasts_S64x1_S64x4 (ix2 b k))) neg (f (ix2 b k)) = _
  rw [one_spread, hp, lane4_at, WordCmp.cmpi_eq_ofNat (by omega) (by omega), WordCmp.select_decide]
  simp only [Fin.ext_iff]

/-- A row after some rounds: the first ranks lowered, the rest as they were. -/
def After (M : Fin 4 → EReal) (r : Nat) (f : FVec Ideal S64x4 .f32) (b : Fin 64) : Prop :=
  ∀ k, (f (ix2 b k) : EReal) = if (∃ i : Fin 4, i.val < r ∧ rank M i = k) then neg else M k

theorem after_step (M : Fin 4 → EReal) (hM : ∀ k, neg < M k) (r : Fin 4) (f : FVec Ideal S64x4 .f32) (b : Fin 64) (h : After M r.val f b) :
    (mx f (ix2 b 0) : EReal) = M (rank M r) ∧ ps f (ix2 b 0) = BitVec.ofNat 32 (rank M r).val ∧ After M (r.val + 1) (nx f) b := by
  have ha : (f (ix2 b (rank M r)) : EReal) = M (rank M r) := by
    rw [h, if_neg]
    rintro ⟨i, hi, e⟩
    have := rank_inj M e
    subst this
    omega
  have hcase : ∀ k, (f (ix2 b k) : EReal) = neg ∨ k = rank M r ∨ (Beats M (rank M r) k ∧ (f (ix2 b k) : EReal) = M k) := fun k => by
    obtain ⟨i, rfl⟩ := rank_surj M k
    rcases lt_trichotomy i r with hi | rfl | hi
    · exact .inl (by rw [h, if_pos ⟨i, hi, rfl⟩])
    · exact .inr (.inl rfl)
    · refine .inr (.inr ⟨rank_beats M hi, ?_⟩)
      rw [h, if_neg]
      rintro ⟨i', hi', e⟩
      have := rank_inj M e
      subst this
      exact absurd hi' (not_lt.mpr (le_of_lt hi))
  have hle : ∀ k, (f (ix2 b k) : EReal) ≤ f (ix2 b (rank M r)) := fun k => by
    rw [ha]
    rcases hcase k with e | rfl | ⟨e, e'⟩
    · rw [e]; exact (hM _).le
    · exact ha.le
    · rw [e']; exact e.le
  have hne : ∀ k < rank M r, (f (ix2 b k) : EReal) ≠ f (ix2 b (rank M r)) := fun k hk => by
    rw [ha]
    rcases hcase k with e | rfl | ⟨e, e'⟩
    · rw [e]; exact (hM _).ne
    · exact absurd hk (lt_irrefl _)
    · rw [e']
      rcases e with e | ⟨_, e⟩
      · exact e.ne
      · exact absurd hk (not_lt.mpr e.le)
  have hps := ps_at f b (rank M r) hle hne
  refine ⟨(mx_at f b _ hle).trans ha, hps, fun k => ?_⟩
  rw [nx_at f b _ hps k]
  by_cases hk : k = rank M r
  · rw [if_pos hk, if_pos ⟨r, Nat.lt_succ_self _, hk.symm⟩]
  · rw [if_neg hk, h]
    refine if_congr ⟨fun ⟨i, hi, e⟩ => ⟨i, Nat.lt_succ_of_lt hi, e⟩, fun ⟨i, hi, e⟩ => ⟨i, ?_, e⟩⟩ rfl rfl
    rcases Nat.lt_succ_iff_lt_or_eq.mp hi with h' | h'
    · exact h'
    · exact absurd (by rw [← e, Fin.ext h']) hk

theorem after_all (M : Fin 4 → EReal) (hM : ∀ k, neg < M k) (f : FVec Ideal S64x4 .f32) (b : Fin 64) (h : ∀ k, (f (ix2 b k) : EReal) = M k) :
    ∀ r : Nat, r ≤ 4 → After M r (nx^[r] f) b := by
  intro r
  induction r with
  | zero => exact fun _ k => by rw [if_neg (by rintro ⟨i, hi, _⟩; exact absurd hi (Nat.not_lt_zero _))]; exact h k
  | succ r ih =>
    intro hr
    rw [Function.iterate_succ_apply']
    exact (after_step M hM ⟨r, by omega⟩ _ b (ih (by omega))).2.2

end rounds

/-- The four rounds' numbers and places, side by side. -/
theorem alive_rounds (x : S64x1x4.Idx → Ideal .f32) (y : S64x1x4.Idx → BitVec 32) :
    fAlive (F := Ideal) x y = concatenate S64x4 1 [⟨S64x1, mx (nx^[0] (fMask x y))⟩, ⟨S64x1, mx (nx^[1] (fMask x y))⟩, ⟨S64x1, mx (nx^[2] (fMask x y))⟩, ⟨S64x1, mx (nx^[3] (fMask x y))⟩]
      concatenates_S64x1_S64x1_S64x1_S64x1_S64x4_d1 := rfl
theorem pick_rounds (x : S64x1x4.Idx → Ideal .f32) (y : S64x1x4.Idx → BitVec 32) :
    fPick (F := Ideal) x y = concatenate S64x4 1 [⟨S64x1, ps (nx^[0] (fMask x y))⟩, ⟨S64x1, ps (nx^[1] (fMask x y))⟩, ⟨S64x1, ps (nx^[2] (fMask x y))⟩, ⟨S64x1, ps (nx^[3] (fMask x y))⟩]
      concatenates_S64x1_S64x1_S64x1_S64x1_S64x4_d1 := rfl

section
variable (x : S64x1x4.Idx → Ideal .f32) (y : S64x1x4.Idx → BitVec 32) (b : Fin 64) (M : Fin 4 → EReal) (hM : ∀ k, neg < M k)
  (h : ∀ k, (fMask (F := Ideal) x y (ix2 b k) : EReal) = M k) (j : Fin 4)

include hM h in
theorem alive_at : (fAlive (F := Ideal) x y (ix2 b j) : EReal) = M (rank M j) := by
  rw [alive_rounds]
  refine (joined (K := 1) (W := 4) (fun n : Fin 4 => mx (nx^[n.val] (fMask (F := Ideal) x y))) concatenates_S64x1_S64x1_S64x1_S64x1_S64x4_d1 b j j 0 (by omega)).trans ?_
  exact (after_step M hM j _ b (after_all M hM _ b h j.val (by omega))).1

include hM h in
theorem pick_at : fPick (F := Ideal) x y (ix2 b j) = BitVec.ofNat 32 (rank M j).val := by
  rw [pick_rounds]
  refine (joined (K := 1) (W := 4) (fun n : Fin 4 => ps (nx^[n.val] (fMask (F := Ideal) x y))) concatenates_S64x1_S64x1_S64x1_S64x1_S64x4_d1 b j j 0 (by omega)).trans ?_
  exact (after_step M hM j _ b (after_all M hM _ b h j.val (by omega))).2.1
end

end Cert.KernelIdeal.Own

end
-- ==== Proof.Choose.lean ====
/- The window maxima and the four final choices, over the extended reals: each member's four choices are its four best places. -/
module

public import proofs.«01_k».proof.Proof.Chunks

@[expose] public section

noncomputable section

namespace Cert.Proof.Algo

open Idealize.ShloMosaic

theorem runmax_spec {m n : Nat} (x : Nat → FVec Ideal (Mat m n) .f32) (i : (Mat m n).Idx) (k : Nat) :
    (∃ t ≤ k, (runmax x k i : EReal) = x t i) ∧ ∀ t ≤ k, (x t i : EReal) ≤ runmax x k i := by
  induction k with
  | zero => exact ⟨⟨0, le_refl _, rfl⟩, fun t ht => by rw [Nat.le_zero.mp ht]; exact le_refl _⟩
  | succ k ih =>
    obtain ⟨⟨t, ht, e⟩, h⟩ := ih
    have hm : (runmax x (k + 1) i : EReal) = max (runmax x k i : EReal) (x (k + 1) i) := rfl
    rw [hm]
    refine ⟨?_, fun t' ht' => ?_⟩
    · rcases max_choice (runmax x k i : EReal) (x (k + 1) i) with hc | hc
      · exact ⟨t, by omega, hc.trans e⟩
      · exact ⟨k + 1, le_refl _, hc⟩
    · rcases Nat.lt_or_ge k t' with h' | h'
      · rw [show t' = k + 1 by omega]; exact le_max_right _ _
      · exact (h t' h').trans (le_max_left _ _)

/-- Blocks of 128 columns side by side, read at a column. -/
theorem join_at (L : Nat → FVec Ideal (Mat 4 128) .f32) (j : (Mat 4 6272).Idx) :
    concatenate (Mat 4 6272) 1 ((List.range 49).map fun w => (⟨Mat 4 128, L w⟩ : (s : Shape) × (s.Idx → EReal))) joins j =
      L (wd j) (ix2 (j 0) ⟨(j 1).val % 128, Nat.mod_lt _ (by norm_num)⟩) := by
  have hw := wd_lt j
  refine concatenate_apply_piece (t := Mat 4 6272) 1 ((List.range 49).map fun w => (⟨Mat 4 128, L w⟩ : (s : Shape) × (s.Idx → EReal))) joins j (wd j) (by simpa using hw) (Mat 4 128) (L (wd j)) (by simp) rfl (128 * wd j) ?_ _ ?_ ?_
  · rw [← List.map_take, List.take_range, min_eq_left hw.le]
    simp only [List.map_map]
    rw [show ((fun s : Shape => if h : s.rank = (Mat 4 6272).rank then s.size ((1 : Fin (Mat 4 6272).rank).cast h.symm) else 0) ∘ (fun p : (s : Shape) × (s.Idx → EReal) => p.1) ∘
      fun w => (⟨Mat 4 128, L w⟩ : (s : Shape) × (s.Idx → EReal))) = fun _ => 128 from rfl]
    simp [Nat.mul_comm]
  · intro b hb
    have hb' : b.val = 0 := by
      have h2 : b.val < 2 := b.isLt
      have : b.val ≠ 1 := fun h => hb (Fin.ext h)
      omega
    obtain rfl : b = (0 : Fin 2) := Fin.ext hb'
    rfl
  · show 128 * ((j 1).val / 128) + (j 1).val % 128 = (j 1).val
    omega

theorem maxima_at (X : Blk.Idx → EReal) (g : Fin 4) (s : (Mat 4 1).Idx → EReal) (j : (Mat 4 6272).Idx) :
    (maxima (F := Ideal) X g s j : EReal) =
      (runmax (F := Ideal) (fun t => shapeCast (Mat 4 128) (piece X g 128 (start (wd j) + 128 * t)) down128) 15
        (ix2 (j 0) ⟨(j 1).val % 128, Nat.mod_lt _ (by norm_num)⟩) : EReal) + s (ix2 (j 0) 0) := by
  have h1 := join_at (fun w => lanemax (F := Ideal) (fun o => shapeCast (Mat 4 128) (piece X g 128 o) down128) w) j
  have h2 := spread_at bc6272 s j
  exact congrArg₂ (fun a b : EReal => a + b) h1 h2

theorem piece_at (X : Blk.Idx → EReal) (g : Fin 4) (off : Nat) (a : Fin 4) (l : Fin 128) :
    shapeCast (Mat 4 128) (piece X g 128 off) down128 (ix2 a l) = X (ix3 g a ⟨(off + l.val) % 100000, Nat.mod_lt _ (by norm_num)⟩) :=
  (down_at down128 (piece X g 128 off) (ix2 a l)).trans rfl

theorem maxima_covers (X : Blk.Idx → EReal) (g : Fin 4) (s : (Mat 4 1).Idx → EReal) : Covers (score X g s) (maxima (F := Ideal) X g s) := by
  refine ⟨fun j => ?_, fun q => ?_⟩
  · have hw := wd_lt j
    have hl : (j 1).val % 128 < 128 := Nat.mod_lt _ (by norm_num)
    obtain ⟨⟨t, ht, e⟩, -⟩ := runmax_spec (fun t => shapeCast (Mat 4 128) (piece X g 128 (start (wd j) + 128 * t)) down128)
      (ix2 (j 0) ⟨(j 1).val % 128, hl⟩) 15
    refine ⟨place (j 0) ⟨(start (wd j) + 128 * t + (j 1).val % 128) % 100000, Nat.mod_lt _ (by norm_num)⟩, ?_, ?_⟩
    · refine (maxima_at X g s j).trans ?_
      rw [e]
      refine Eq.trans ?_ (score_place X g s (j 0) _).symm
      exact congrArg (fun y : EReal => y + s (ix2 (j 0) 0)) (piece_at X g _ (j 0) ⟨(j 1).val % 128, hl⟩)
    · by_cases h48 : wd j = 48
      · exact .inr h48
      · left
        unfold chunk
        rw [show tok (place (j 0) ⟨(start (wd j) + 128 * t + (j 1).val % 128) % 100000, Nat.mod_lt _ (by norm_num)⟩) = _ from tok_place _ _]
        have hs : start (wd j) = 2048 * wd j := min_eq_left (by omega)
        show wd j = (start (wd j) + 128 * t + (j 1).val % 128) % 100000 / 2048
        have hm : 128 * t + (j 1).val % 128 < 2048 := by omega
        have hw' : wd j < 48 := by omega
        rw [hs, Nat.add_assoc]
        generalize 128 * t + (j 1).val % 128 = m at hm ⊢
        rw [Nat.mod_eq_of_lt (by omega)]
        omega
  · have hv := (tok q).isLt
    have hc : chunk q < 49 := by unfold chunk; omega
    have hd : start (chunk q) ≤ (tok q).val ∧ (tok q).val - start (chunk q) < 2048 := by
      unfold start chunk
      omega
    obtain ⟨d, hd'⟩ : ∃ d, (tok q).val = start (chunk q) + d := ⟨(tok q).val - start (chunk q), by omega⟩
    have hd2 : d < 2048 := by omega
    have hcol : 128 * chunk q + d % 128 < 6272 := by omega
    have hw : wd (ix2 (n0 := 4) (n1 := 6272) (beam q) ⟨128 * chunk q + d % 128, hcol⟩) = chunk q := by
      show (128 * chunk q + d % 128) / 128 = chunk q
      omega
    refine ⟨ix2 (n0 := 4) (n1 := 6272) (beam q) ⟨128 * chunk q + d % 128, hcol⟩, hw, ?_⟩
    refine le_trans ?_ (maxima_at X g s _).symm.le
    rw [hw]
    obtain ⟨-, h⟩ := runmax_spec (fun t => shapeCast (Mat 4 128) (piece X g 128 (start (chunk q) + 128 * t)) down128)
      (ix2 (beam q) ⟨d % 128, Nat.mod_lt _ (by norm_num)⟩) 15
    have h1 := h (d / 128) (by omega)
    have h2 := (piece_at X g (start (chunk q) + 128 * (d / 128)) (beam q) ⟨d % 128, Nat.mod_lt _ (by norm_num)⟩)
    have h3 : (⟨(start (chunk q) + 128 * (d / 128) + d % 128) % 100000, Nat.mod_lt _ (by norm_num)⟩ : Fin 100000) = tok q := Fin.ext (by
      show (start (chunk q) + 128 * (d / 128) + d % 128) % 100000 = (tok q).val
      omega)
    have h4 : (ix2 (n0 := 4) (n1 := 128) (beam q) ⟨(128 * chunk q + d % 128) % 128, Nat.mod_lt _ (by norm_num)⟩) = ix2 (beam q) ⟨d % 128, Nat.mod_lt _ (by norm_num)⟩ :=
      congrArg (ix2 (n0 := 4) (n1 := 128) (beam q)) (Fin.ext (by show (128 * chunk q + d % 128) % 128 = d % 128; omega))
    show X (ix3 g (beam q) (tok q)) + s (ix2 (beam q) 0) ≤ (runmax (F := Ideal) _ 15 (ix2 (n0 := 4) (n1 := 128) (beam q) ⟨(128 * chunk q + d % 128) % 128, _⟩) : EReal) + s (ix2 (beam q) 0)
    rw [h4]
    refine add_le_add ?_ (le_refl _)
    refine le_trans (le_of_eq ?_) h1
    rw [← h3]
    exact h2.symm

section
variable {score : Fin 400000 → EReal} {p : Fin 4 → Fin 400000}

/-- The slots' values after some choices: those of the places chosen are cleared. -/
theorem left_at (v : FVec Ideal (Mat 1 64) .f32) (ix : IVec (Mat 1 64) 32) (f : Nat → BitVec 32) (k : Nat)
    (hf : ∀ r < k, hit side64 ((fun v => rest v ix)^[r] v) ix = f r) (j : (Mat 1 64).Idx) :
    ((fun v => rest v ix)^[k] v j : EReal) = low ∧ (∃ r < k, ix j = f r) ∨ ((fun v => rest v ix)^[k] v j : EReal) = v j ∧ ∀ r < k, ix j ≠ f r := by
  induction k with
  | zero => exact .inr ⟨rfl, fun r hr => absurd hr (Nat.not_lt_zero _)⟩
  | succ k ih =>
    have hk := ih fun r hr => hf r (by omega)
    rw [Function.iterate_succ_apply']
    have hc : (rest ((fun v => rest v ix)^[k] v) ix j : EReal) = if ix j = f k then low else ((fun v => rest v ix)^[k] v) j := by
      refine (clear_at ix (hit side64 ((fun v => rest v ix)^[k] v) ix) _ j).trans ?_
      rw [hf k (by omega)]
    rw [hc]
    by_cases hj : ix j = f k
    · rw [if_pos hj]
      exact .inl ⟨rfl, k, by omega, hj⟩
    · rw [if_neg hj]
      rcases hk with ⟨h1, r, hr, h2⟩ | ⟨h1, h2⟩
      · exact .inl ⟨h1, r, by omega, h2⟩
      · refine .inr ⟨h1, fun r hr => ?_⟩
        rcases Nat.lt_or_ge r k with h | h
        · exact h2 r h
        · rw [show r = k by omega]; exact hj

/-- The four choices are the four best places. -/
theorem chosen_spec (hb : Best score p) (a : St Ideal 4 6272) {N : Nat} (h : Fine score p N Finset.univ a.1 a.2.1 a.2.2.1) (r : Fin 4) :
    (chosenV (F := Ideal) a r.val : EReal) = score (p r) ∧ chosenI (F := Ideal) a r.val = flat (p r) := by
  have key : ∀ k (hk : k < 4), (∀ r (hr : r < k), chosenI (F := Ideal) a r = flat (p ⟨r, by omega⟩)) →
      (chosenV (F := Ideal) a k : EReal) = score (p ⟨k, hk⟩) ∧ chosenI (F := Ideal) a k = flat (p ⟨k, hk⟩) := by
    intro k hk hprev
    obtain ⟨f, hf⟩ : ∃ f : Nat → BitVec 32, ∀ r (hr : r < k), f r = flat (p ⟨r, by omega⟩) :=
      ⟨fun r => if hr : r < 4 then flat (p ⟨r, hr⟩) else 0#32, fun r hr => dif_pos (by omega)⟩
    have hl := left_at a.2.1 a.2.2.1 f k fun r hr => by rw [hf r hr]; exact hprev r hr
    have hval : ∀ j, (left a k j : EReal) ≤ low ∨ ∃ q, (left a k j : EReal) = score q ∧ a.2.2.1 j = flat q ∧ ∀ r (hr : r < k), q ≠ p ⟨r, by omega⟩ := fun j => by
      rcases hl j with ⟨h1, -⟩ | ⟨h1, h2⟩
      · exact .inl h1.le
      · rcases h.sound j with h3 | ⟨q, h3, h4⟩
        · exact .inl (h1.le.trans h3)
        · exact .inr ⟨q, h1.trans h3, h4, fun r hr e => h2 r hr (by rw [hf r hr, h4, e])⟩
    obtain ⟨j0, -, g1, g2⟩ := h.has ⟨k, hk⟩ (Finset.mem_univ _)
    have hj0 : (left a k j0 : EReal) = score (p ⟨k, hk⟩) := by
      rcases hl j0 with ⟨-, r, hr, h2⟩ | ⟨h1, -⟩
      · rw [hf r hr, g2] at h2
        have := congrArg Fin.val (hb.inj (flat_inj h2))
        change k = r at this
        omega
      · exact h1.trans g1
    have hcmp : ∀ q, (∀ r (hr : r < k), q ≠ p ⟨r, by omega⟩) → q = p ⟨k, hk⟩ ∨ score q < score (p ⟨k, hk⟩) ∨ (score q = score (p ⟨k, hk⟩) ∧ p ⟨k, hk⟩ < q) := fun q hq => by
      by_cases he : q = p ⟨k, hk⟩
      · exact .inl he
      · refine .inr (hb.order ⟨k, hk⟩ q fun r' hr' e => ?_)
        have hr' : r'.val ≤ k := hr'
        rcases Nat.lt_or_ge r'.val k with h' | h'
        · exact hq r'.val h' e
        · exact he (e.trans (congrArg p (Fin.ext (by show r'.val = k; omega))))
    obtain ⟨⟨j1, e1⟩, hall⟩ := top_spec side64 (left a k) j0
    have htop : (top side64 (left a k) : EReal) = score (p ⟨k, hk⟩) := by
      refine le_antisymm ?_ (hj0 ▸ hall j0)
      rw [← e1]
      rcases hval j1 with h' | ⟨q, h', -, hq⟩
      · exact h'.trans (hb.low_lt _).le
      · rw [h']
        rcases hcmp q hq with rfl | h'' | h''
        · exact le_refl _
        · exact h''.le
        · exact h''.1.le
    refine ⟨htop, ?_⟩
    have hat : ∀ j, (left a k j : EReal) = top side64 (left a k) → ∃ q, a.2.2.1 j = flat q ∧ (q = p ⟨k, hk⟩ ∨ p ⟨k, hk⟩ < q) := fun j hj => by
      rw [htop] at hj
      rcases hval j with h' | ⟨q, h', h2, hq⟩
      · rw [hj] at h'; exact absurd (hb.low_lt _) (not_lt.mpr h')
      · refine ⟨q, h2, ?_⟩
        rw [hj] at h'
        rcases hcmp q hq with h'' | h'' | h''
        · exact .inl h''
        · exact absurd h' h''.ne'
        · exact .inr h''.2
    obtain ⟨⟨j2, e2, i2⟩, hle⟩ := hit_spec side64 (left a k) a.2.2.1 j0 h.small fun j hj => by
      obtain ⟨q, hq, -⟩ := hat j hj
      rw [hq]; exact flat_lt q
    obtain ⟨q, hq, hq'⟩ := hat j2 e2
    have h3 := hle j0 (hj0.trans htop.symm)
    rw [i2, hq, g2, flat_toInt, flat_toInt] at h3
    have h3' : q.val ≤ (p ⟨k, hk⟩).val := by exact_mod_cast h3
    rcases hq' with hq' | hq'
    · show hit side64 (left a k) a.2.2.1 = _
      rw [i2, hq, hq']
    · exact absurd h3' (not_le.mpr hq')
  have all : ∀ n, ∀ k (hk : k < 4), k ≤ n → (chosenV (F := Ideal) a k : EReal) = score (p ⟨k, hk⟩) ∧ chosenI (F := Ideal) a k = flat (p ⟨k, hk⟩) := by
    intro n
    induction n with
    | zero => exact fun k hk hn => key k hk fun r hr => absurd hr (by omega)
    | succ n ih => exact fun k hk hn => key k hk fun r hr => (ih r (by omega) (by omega)).2
  exact all 4 r.val r.isLt (by have := r.isLt; omega)

end

/-- A member's four choices are its four best places. -/
theorem slots_spec (X : Blk.Idx → EReal) (g : Fin 4) (s : (Mat 4 1).Idx → EReal) (p : Fin 4 → Fin 400000) (hb : Best (score X g s) p) (r : Fin 4) :
    (chosenV (F := Ideal) (slots (F := Ideal) X g s) r.val : EReal) = score X g s (p r) ∧ chosenI (F := Ideal) (slots (F := Ideal) X g s) r.val = flat (p r) :=
  chosen_spec hb _ (gather_spec hb (maxima_covers X g s) _ (thr_le hb (maxima_covers X g s))) r

end Cert.Proof.Algo

end
-- ==== Proof.KernelIdeal.First.lean ====
/- The arrays the first call leaves, over the extended reals: every batch's four best scores and their places. -/
module

public import proofs.«01_k».proof.Proof.KernelIdeal.Final
public import proofs.«01_k».proof.Proof.Choose

@[expose] public section

noncomputable section

namespace Cert.KernelIdeal.Own

open Cert.KernelIdeal Cert.KernelIdeal.Gen Cert.Proof

open Idealize.ShloMosaic
open Idealize.ShloMosaic.TcCoe

/-- A batch's scores. -/
def batch (x : S64x4x100000.Idx → EReal) (A : S64x4.Idx → EReal) (b : Fin 64) (q : Fin 400000) : EReal :=
  x (ix3 b (Algo.beam q) (Algo.tok q)) + A (ix2 b (Algo.beam q))

/-- The four numbers of a column. -/
theorem column_at (a : Fin 4 → EReal) (k : Fin 4) : (Algo.column (F := Ideal) (a 0) (a 1) (a 2) (a 3) (ix2 k 0) : EReal) = a k := by
  unfold Algo.column
  fin_cases k <;> rfl

theorem idx0_0 : ∀ t : Fin cfg0.N, (win0_0.index t (0 : Fin 3) = t.val ∧ win0_0.index t (1 : Fin 3) = 0) ∧ win0_0.index t (2 : Fin 3) = 0 := by decide +kernel
theorem idx0_1 : ∀ t : Fin cfg0.N, win0_1.index t (0 : Fin 2) = 0 ∧ win0_1.index t (1 : Fin 2) = 0 := by decide +kernel
theorem idx0_2 : ∀ t : Fin cfg0.N, (win0_2.index t (0 : Fin 3) = t.val ∧ win0_2.index t (1 : Fin 3) = 0) ∧ win0_2.index t (2 : Fin 3) = 0 := by decide +kernel
theorem idx0_3 : ∀ t : Fin cfg0.N, (win0_3.index t (0 : Fin 3) = t.val ∧ win0_3.index t (1 : Fin 3) = 0) ∧ win0_3.index t (2 : Fin 3) = 0 := by decide +kernel
theorem at0 : ∀ t : Fin cfg0.N, ((grid0.coords t) 0).val = t.val := by decide +kernel

theorem emb0_0 (t : Fin cfg0.N) (g : Fin 4) (a : Fin 4) (v : Fin 100000) :
    ((cfg0.win 0).blk t).view.emb (ix3 (n0 := 4) (n1 := 4) (n2 := 100000) g a v) = (ix3 (row (grid0.coords t) g) a v : S64x4x100000.Idx) := by
  obtain ⟨⟨e0, e1⟩, e2⟩ := idx0_0 t
  have e3 := at0 t
  funext k; apply Fin.ext
  match k with
  | ⟨0, _⟩ => show win0_0.index t (0 : Fin 3) * 4 + 1 * g.val = ((grid0.coords t) 0).val * 4 + g.val; omega
  | ⟨1, _⟩ => show win0_0.index t (1 : Fin 3) * 4 + 1 * a.val = a.val; omega
  | ⟨2, _⟩ => show win0_0.index t (2 : Fin 3) * 100000 + 1 * v.val = v.val; omega

theorem emb0_1 (t : Fin cfg0.N) (j : S64x4.Idx) : ((cfg0.win 1).blk t).view.emb j = j := by
  obtain ⟨e0, e1⟩ := idx0_1 t
  funext k; apply Fin.ext
  match k with
  | ⟨0, _⟩ => show win0_1.index t (0 : Fin 2) * 64 + 1 * (j 0).val = (j 0).val; omega
  | ⟨1, _⟩ => show win0_1.index t (1 : Fin 2) * 4 + 1 * (j 1).val = (j 1).val; omega

theorem emb0_2 (t : Fin cfg0.N) (y : S4x1x4.Idx) :
    ((cfg0.win 2).blk t).view.emb y = (ix3 (row (grid0.coords t) (y 0)) (y 1) (y 2) : S64x1x4.Idx) := by
  obtain ⟨⟨e0, e1⟩, e2⟩ := idx0_2 t
  have e3 := at0 t
  funext k; apply Fin.ext
  match k with
  | ⟨0, _⟩ => show win0_2.index t (0 : Fin 3) * 4 + 1 * (y 0).val = ((grid0.coords t) 0).val * 4 + (y 0).val; omega
  | ⟨1, _⟩ => show win0_2.index t (1 : Fin 3) * 1 + 1 * (y 1).val = (y 1).val; omega
  | ⟨2, _⟩ => show win0_2.index t (2 : Fin 3) * 4 + 1 * (y 2).val = (y 2).val; omega

theorem emb0_3 (t : Fin cfg0.N) (y : S4x1x4.Idx) :
    ((cfg0.win 3).blk t).view.emb y = (ix3 (row (grid0.coords t) (y 0)) (y 1) (y 2) : S64x1x4.Idx) := by
  obtain ⟨⟨e0, e1⟩, e2⟩ := idx0_3 t
  have e3 := at0 t
  funext k; apply Fin.ext
  match k with
  | ⟨0, _⟩ => show win0_3.index t (0 : Fin 3) * 4 + 1 * (y 0).val = ((grid0.coords t) 0).val * 4 + (y 0).val; omega
  | ⟨1, _⟩ => show win0_3.index t (1 : Fin 3) * 1 + 1 * (y 1).val = (y 1).val; omega
  | ⟨2, _⟩ => show win0_3.index t (2 : Fin 3) * 4 + 1 * (y 2).val = (y 2).val; omega

/-- Every index of the results is in some point's block. -/
theorem point_of (i : S64x1x4.Idx) : ∃ (t : Fin cfg0.N) (y : S4x1x4.Idx), (ix3 (row (grid0.coords t) (y 0)) (y 1) (y 2) : S64x1x4.Idx) = i := by
  have h0 : (i 0).val < 64 := (i 0).isLt
  have hN : cfg0.N = 16 := N_0
  refine ⟨⟨(i 0).val / 4, by omega⟩, ix3 (n0 := 4) (n1 := 1) (n2 := 4) ⟨(i 0).val % 4, Nat.mod_lt _ (by norm_num)⟩ (i 1) (i 2), ?_⟩
  have e3 := at0 ⟨(i 0).val / 4, by omega⟩
  funext k; apply Fin.ext
  match k with
  | ⟨0, _⟩ =>
    show ((grid0.coords ⟨(i 0).val / 4, _⟩) 0).val * 4 + (i 0).val % 4 = (i 0).val
    rw [e3]
    show (i 0).val / 4 * 4 + (i 0).val % 4 = (i 0).val
    omega
  | ⟨1, _⟩ => rfl
  | ⟨2, _⟩ => rfl

section
variable (V : (c : Dev nD) → (b : Ref sig .tc) → Buf (Elt Ideal) ((c : Thread nD τ).loc b)) (c : Dev nD)

/-- A member's scores in its block are its batch's. -/
theorem score_eq (t : Fin cfg0.N) (g : Fin 4) :
    Algo.score (inX V c t) g (scores (F := Ideal) (inA V c t) (row (grid0.coords t) g)) = batch (V c main_arg0) (V c main_arg1) (row (grid0.coords t) g) := by
  funext q
  have h1 : inX V c t (ix3 (n0 := 4) (n1 := 4) (n2 := 100000) g (Algo.beam q) (Algo.tok q)) = V c main_arg0 (ix3 (row (grid0.coords t) g) (Algo.beam q) (Algo.tok q)) :=
    congrArg (V c main_arg0) (emb0_0 t g (Algo.beam q) (Algo.tok q))
  have h2 : ∀ j, inA V c t j = V c main_arg1 j := fun j => congrArg (V c main_arg1) (emb0_1 t j)
  have h3 := column_at (fun k => inA V c t (ix2 (row (grid0.coords t) g) k)) (Algo.beam q)
  exact congrArg₂ (fun a b : EReal => a + b) h1 (h3.trans (h2 _))

variable (p : Fin 64 → Fin 4 → Fin 400000) (hp : ∀ b, Algo.Best (batch (V c main_arg0) (V c main_arg1) b) (p b))

/-- The four best scores of every batch, and their places. -/
def bestV (x : S64x4x100000.Idx → EReal) (A : S64x4.Idx → EReal) (p : Fin 64 → Fin 4 → Fin 400000) : S64x1x4.Idx → EReal := fun i => batch x A (i 0) (p (i 0) (i 2))
def bestI (p : Fin 64 → Fin 4 → Fin 400000) : S64x1x4.Idx → BitVec 32 := fun i => Algo.flat (p (i 0) (i 2))

include hp in
theorem chosen_eq (t : Fin cfg0.N) (y : S4x1x4.Idx) :
    (outV (F := Ideal) (inX V c t) (inA V c t) (grid0.coords t) y : EReal) = bestV (V c main_arg0) (V c main_arg1) p (ix3 (row (grid0.coords t) (y 0)) (y 1) (y 2)) ∧
    outI (F := Ideal) (inX V c t) (inA V c t) (grid0.coords t) y = bestI p (ix3 (row (grid0.coords t) (y 0)) (y 1) (y 2)) := by
  have hs := score_eq V c t (y 0)
  have hb := hp (row (grid0.coords t) (y 0))
  rw [← hs] at hb
  obtain ⟨h1, h2⟩ := Algo.slots_spec (inX V c t) (y 0) (scores (F := Ideal) (inA V c t) (row (grid0.coords t) (y 0))) (p (row (grid0.coords t) (y 0))) hb (y 2)
  exact ⟨h1.trans (congrFun hs _), h2⟩

include hp in
theorem first_vals : (dat0 (F := Ideal) V c).arrAt 2 cfg0.N = bestV (V c main_arg0) (V c main_arg1) p := by
  refine (dat0 (F := Ideal) V c).arrAt_eq_of_cover 2 _ (fun t _ => ?_) fun i => ?_
  · funext y
    have h1 := (chosen_eq V c p hp t y).1
    have h2 := congrArg (bestV (V c main_arg0) (V c main_arg1) p) (emb0_2 t y)
    exact h1.trans h2.symm
  · obtain ⟨t, y, h⟩ := point_of i
    refine ⟨t, flush0_2 t, ?_⟩
    have := ((cfg0.win 2).blk t).view.emb_mem_set y
    rwa [emb0_2, h] at this

attribute [local irreducible] outI in
include hp in
theorem first_places : (dat0 (F := Ideal) V c).arrAt 3 cfg0.N = bestI p := by
  refine (dat0 (F := Ideal) V c).arrAt_eq_of_cover 3 _ (fun t _ => ?_) fun i => ?_
  · funext y
    have h1 := (chosen_eq V c p hp t y).2
    generalize bestI p = G at h1 ⊢
    have h2 := congrArg G (emb0_3 t y)
    have h3 : (dat0 (F := Ideal) V c).flushed 3 t = outI (F := Ideal) (inX V c t) (inA V c t) (grid0.coords t) := rfl
    rw [h3]
    exact h1.trans h2.symm
  · obtain ⟨t, y, h⟩ := point_of i
    refine ⟨t, flush0_3 t, ?_⟩
    have := ((cfg0.win 3).blk t).view.emb_mem_set y
    rwa [emb0_3, h] at this

end

end Cert.KernelIdeal.Own

end
-- ==== Proof.Premise.lean ====
/- What the condition on the arguments says of every batch. -/
module

public import proofs.«01_k».proof.Pre_separated
public import proofs.«01_k».proof.Proof.Words2
public import proofs.«01_k».proof.Proof.KernelIdeal.First
public import Idealize.ShloMosaic.Lib.ReduceAll
public import Idealize.ShloMosaic.Lib.Routing.Words

@[expose] public section

noncomputable section

namespace Cert.Proof

open Idealize.ShloMosaic Cert.Pre_separated Cert.Proof.Algo
open Cert.KernelIdeal.Own (batch)

theorem premise_facts : Cert.Pre_separated.Facts :=
  ⟨by decide, by decide, by decide, by decide, by decide, by decide, by decide, by decide, by decide, by decide, by decide, by decide⟩

/-- The scores in one row per batch, as the programs that sort them lay them out. -/
theorem row_at (h1 : S64x4.BroadcastsInDim S64x4x1 (![0, 1] : Fin 2 → Fin S64x4x1.rank)) (h2 : S64x4x1.BroadcastsInDim S64x4x100000 (![0, 1, 2] : Fin 3 → Fin S64x4x100000.rank))
    (h3 : S64x4x100000.ShapeCasts S64x400000) (x : FVec Ideal S64x4x100000 .f32) (A : FVec Ideal S64x4 .f32) (b : Fin 64) (q : Fin 400000) :
    (shapeCast S64x400000 (addf (broadcastInDim S64x4x100000 ![0, 1, 2] h2 (broadcastInDim S64x4x1 ![0, 1] h1 A)) x) h3 (ix2 b q) : EReal) = batch x A b q := by
  rw [shapeCast_apply _ h3 (ix2 b q) (ix3 b (beam q) (tok q) : S64x4x100000.Idx) (by
    rw [Shape.rowMajor_val_three, Shape.rowMajor_val_two]
    show (b.val * 4 + q.val / 100000) * 100000 + q.val % 100000 = b.val * 400000 + q.val
    omega)]
  have e : (broadcastInDim S64x4x100000 ![0, 1, 2] h2 (broadcastInDim S64x4x1 ![0, 1] h1 A) (ix3 b (beam q) (tok q)) : EReal) = A (ix2 b (beam q)) := by
    rw [broadcastInDim_apply _ h2 _ _ (ix3 b (beam q) 0 : S64x4x1.Idx) (fun k => by fin_cases k <;> rfl),
      broadcastInDim_apply _ h1 _ _ (ix2 b (beam q) : S64x4.Idx) (fun k => by fin_cases k <;> rfl)]
  show (broadcastInDim S64x4x100000 ![0, 1, 2] h2 (broadcastInDim S64x4x1 ![0, 1] h1 A) (ix3 b (beam q) (tok q)) : EReal) + x (ix3 b (beam q) (tok q)) = _
  rw [e, add_comm]
  rfl

variable [Cert.Pre_separated.Facts] (x : FVec Ideal S64x4x100000 .f32) (A : FVec Ideal S64x4 .f32) (H : IVec S256x8 32)
open Cert.Pre_separated.Facts

/-- The condition's row of scores. -/
abbrev rows : FVec Ideal S64x400000 .f32 :=
  shapeCast S64x400000 (addf (broadcastInDim S64x4x100000 ![0, 1, 2] bcast_S64x4x1_S64x4x100000_0_1_2 (broadcastInDim S64x4x1 ![0, 1] bcast_S64x4_S64x4x1_0_1 A)) x) shapeCasts_S64x4x100000_S64x400000

theorem rows_eq (b : Fin 64) : (fun q => rows x A (ix2 b q)) = batch x A b := funext fun q => row_at _ _ _ x A b q

abbrev five := Host.topK S64x5 1 (FloatOps.cmpfTotal (F := Ideal) (φ := .f32) .gt) (rows x A) sliceFits_S64x400000_S64x5

theorem five_val (b : Fin 64) (k : Fin 5) : ((five x A).1 (ix2 b k) : EReal) = batch x A b (rank (batch x A b) (k.castLE (by norm_num))) := by
  have h := topK_val (R := 64) (n := 400000) (k := 5) (by norm_num) (rows x A) sliceFits_S64x400000_S64x5 (ix2 b k)
  have e := rows_eq x A b
  refine h.trans ?_
  show (fun q => rows x A (ix2 b q)) (rank (fun q => rows x A (ix2 b q)) (k.castLE _)) = _
  rw [e]

theorem five_pos (b : Fin 64) (k : Fin 5) : (five x A).2 (ix2 b k) = flat (rank (batch x A b) (k.castLE (by norm_num))) := by
  have h := topK_pos (R := 64) (n := 400000) (k := 5) (by norm_num) (rows x A) sliceFits_S64x400000_S64x5 (ix2 b k)
  have e := rows_eq x A b
  refine h.trans ?_
  show BitVec.ofNat 32 (rank (fun q => rows x A (ix2 b q)) (k.castLE _)).val = _
  rw [e]
  rfl

instance : Subsingleton S_.Idx := ⟨fun a b => funext fun k => k.elim0⟩

/-- The condition's token word of each of the four first places. -/
theorem premise_tok (b : Fin 64) (k : Fin 4) :
    fn_remainder (F := Ideal) (extractStridedSlice S64x4 ![0, 0] (five x A).2 slices_S64x5_S64x4_0_0) (constantI S_ 32 100000#32) (ix2 b k)
      = BitVec.ofNat 32 (tok (firsts (batch x A b) k)).val := by
  have e : extractStridedSlice S64x4 ![0, 0] (five x A).2 slices_S64x5_S64x4_0_0 (ix2 b k) = BitVec.ofNat 32 (firsts (batch x A b) k).val := by
    rw [extractStridedSlice_apply _ _ slices_S64x5_S64x4_0_0 _ (ix2 b (k.castLE (by norm_num) : Fin 5) : S64x5.Idx) (fun a => by fin_cases a <;> exact (Nat.zero_add _).symm)]
    exact five_pos x A b _
  exact Routing.pyRem_ap (s := S64x4) bcast_S_S64x4 _ _ (ix2 b k) e (b := 100000) rfl (by have := (firsts (batch x A b) k).isLt; omega) (by norm_num) (by norm_num)

/-- The condition, read: every batch's first four places are its best. -/
theorem premise_best (h : fn (F := Ideal) x A H = fun _ => 1#1) (b : Fin 64) : Best (batch x A b) (firsts (batch x A b)) ∧
    ∀ k, neg < batch x A b (firsts (batch x A b) k) + flag (tok (firsts (batch x A b) k)).val * neg := by
  obtain ⟨h1, h2⟩ := andi_one (congrFun h ix0)
  have g1 := Host.reduce_andi_all _ _ reducesTo_S64_S_d0 h_S_ ix0 h1 (ix1 b)
  have g2 := fun k : Fin 4 => Host.reduce_andi_all _ _ reducesTo_S64x4_S_d0_1 h_S_ ix0 h2 (ix2 b k)
  have v4 : ∀ k : Fin 4, (extractStridedSlice S64x4 ![0, 0] (five x A).1 slices_S64x5_S64x4_0_0 (ix2 b k) : EReal) = batch x A b (firsts (batch x A b) k) := fun k => by
    rw [extractStridedSlice_apply _ _ slices_S64x5_S64x4_0_0 _ (ix2 b (k.castLE (by norm_num) : Fin 5) : S64x5.Idx) (fun a => by fin_cases a <;> exact (Nat.zero_add _).symm)]
    exact five_val x A b _
  have hm : ∀ k, neg < batch x A b (firsts (batch x A b) k) + flag (tok (firsts (batch x A b) k)).val * neg := fun k => by
    have e := (before_iff _ _).mp (beq_iff_eq.mpr (g2 k))
    have w := flag_unsigned (tok (firsts (batch x A b) k)).val (by have := (tok (firsts (batch x A b) k)).isLt; omega)
    rw [← premise_tok x A b k] at w
    rw [← v4 k, ← w]
    exact e
  refine ⟨firsts_best _ ?_ _ (hm 3), hm⟩
  have l : (shapeCast S64 (extractStridedSlice S64x1 ![0, 3] (extractStridedSlice S64x4 ![0, 0] (five x A).1 slices_S64x5_S64x4_0_0) slices_S64x4_S64x1_0_3) shapeCasts_S64x1_S64 (ix1 b) : EReal)
      = batch x A b (rank (batch x A b) 3) := by
    rw [shapeCast_apply _ shapeCasts_S64x1_S64 (ix1 b) (ix2 b 0 : S64x1.Idx) (by rw [Shape.rowMajor_val_two, Shape.rowMajor_val_one]; show b.val * 1 + 0 = b.val; omega),
      extractStridedSlice_apply _ _ slices_S64x4_S64x1_0_3 _ (ix2 b 3 : S64x4.Idx) (fun a => by fin_cases a; exacts [(Nat.zero_add _).symm, rfl])]
    exact v4 3
  have r : (shapeCast S64 (extractStridedSlice S64x1 ![0, 4] (five x A).1 slices_S64x5_S64x1_0_4) shapeCasts_S64x1_S64 (ix1 b) : EReal)
      = batch x A b (rank (batch x A b) 4) := by
    rw [shapeCast_apply _ shapeCasts_S64x1_S64 (ix1 b) (ix2 b 0 : S64x1.Idx) (by rw [Shape.rowMajor_val_two, Shape.rowMajor_val_one]; show b.val * 1 + 0 = b.val; omega),
      extractStridedSlice_apply _ _ slices_S64x5_S64x1_0_4 _ (ix2 b 4 : S64x5.Idx) (fun a => by fin_cases a; exacts [(Nat.zero_add _).symm, rfl])]
    exact five_val x A b 4
  rw [← l, ← r]
  exact (before_iff _ _).mp (beq_iff_eq.mpr g1)

end Cert.Proof

end
-- ==== Proof.Spec.lean ====
/- The five results, stated on the arguments: what both programs compute. -/
module

public import proofs.«01_k».proof.Proof.Premise

@[expose] public section

noncomputable section

namespace Cert.Proof

open Idealize.ShloMosaic Cert.Proof.Algo
open Cert.KernelIdeal.Own (batch)

abbrev Scores : Type := (⟨3, ![64, 4, 100000]⟩ : Shape).Idx → EReal
abbrev Sums : Type := (Mat 64 4).Idx → EReal

variable (x : Scores) (A : Sums) (H : (Mat 256 8).Idx → BitVec 32)

/-- The four first places of a batch. -/
def place (b : Fin 64) (k : Fin 4) : Fin 400000 := firsts (batch x A b) k

def topOf (b : Fin 64) (k : Fin 4) : EReal := batch x A b (place x A b k)
def tokOf (b : Fin 64) (k : Fin 4) : Fin 100000 := tok (place x A b k)
def beamOf (b : Fin 64) (k : Fin 4) : Fin 4 := beam (place x A b k)
def maskOf (b : Fin 64) (k : Fin 4) : EReal := topOf x A b k + flag (tokOf x A b k).val * neg
def finOf (b : Fin 64) (k : Fin 4) : EReal := topOf x A b k + (Ideal.ofBits .f32 0x3F800000#32 - flag (tokOf x A b k).val) * neg

/-- The order of the four once the finished ones are penalised. -/
def pick (b : Fin 64) (j : Fin 4) : Fin 4 := rank (maskOf x A b) j
def aliveOf (b : Fin 64) (j : Fin 4) : EReal := maskOf x A b (pick x A b j)

/-- A row of the hypotheses, of the batch and the member. -/
def rowOf (b : Fin 64) (a : Fin 4) : Fin 256 := ⟨4 * b.val + a.val, by have := b.isLt; have := a.isLt; omega⟩
def batchOf (i : Fin 256) : Fin 64 := ⟨i.val / 4, by have := i.isLt; omega⟩
def memberOf (i : Fin 256) : Fin 4 := ⟨i.val % 4, Nat.mod_lt _ (by norm_num)⟩

/-- The candidate hypothesis of a place: its beam's tokens, then its own. -/
def candOf (b : Fin 64) (k : Fin 4) (l : Fin 9) : BitVec 32 :=
  if h : l.val < 8 then H (ix2 (rowOf b (beamOf x A b k)) ⟨l.val, h⟩) else BitVec.ofNat 32 (tokOf x A b k).val
def hypOf (i : Fin 256) (l : Fin 9) : BitVec 32 := candOf x A H (batchOf i) (pick x A (batchOf i) (memberOf i)) l

/-- The results as arrays. -/
def topArr : (Mat 64 4).Idx → EReal := fun i => topOf x A (i 0) (i 1)
def aliveArr : (Mat 64 4).Idx → EReal := fun i => aliveOf x A (i 0) (i 1)
def finArr : (Mat 64 4).Idx → EReal := fun i => finOf x A (i 0) (i 1)
def tokArr : (Mat 64 4).Idx → BitVec 32 := fun i => BitVec.ofNat 32 (tokOf x A (i 0) (i 1)).val
def hypArr : (Mat 256 9).Idx → BitVec 32 := fun i => hypOf x A H (i 0) (i 1)

end Cert.Proof

end
-- ==== Proof.KernelIdeal.Table.lean ====
/- The second call's results, read on the chosen places. -/
module

public import proofs.«01_k».proof.Proof.KernelIdeal.Rounds
public import proofs.«01_k».proof.Proof.Spec

@[expose] public section

noncomputable section

namespace Cert.KernelIdeal.Own

open Cert.KernelIdeal Cert.KernelIdeal.Gen Cert.Proof Cert.Proof.Algo Idealize.ShloMosaic

theorem zero_word_and (b : BitVec 1) : IntOp.andi 0#1 b = 0#1 := by revert b; decide
theorem and_zero_word (b : BitVec 1) : IntOp.andi b 0#1 = 0#1 := by revert b; decide

/-- The first of four that the word names. -/
theorem chain {α : Type} (a : Fin 4) (v : Fin 4 → α) (d : α) :
    Scalar.select (IntOp.cmpi .eq (BitVec.ofNat 32 a.val) 3#32) (v 3) (Scalar.select (IntOp.cmpi .eq (BitVec.ofNat 32 a.val) 2#32) (v 2)
      (Scalar.select (IntOp.cmpi .eq (BitVec.ofNat 32 a.val) 1#32) (v 1) (Scalar.select (IntOp.cmpi .eq (BitVec.ofNat 32 a.val) 0#32) (v 0) d))) = v a := by
  fin_cases a <;> rfl

/-- The lane's group of eight. -/
theorem group_at (b : Fin 64) (q : Fin 32) : k1_pay9 (ix2 b q) = BitVec.ofNat 32 (q.val / 8) := by
  have e : iota Kind.tc S64x32 32 [1] iota_S64x32_d1_w32 (ix2 b q) = BitVec.ofNat 32 q.val := by
    rw [WordCmp.iota_at]
    simp only [List.foldl_cons, List.foldl_nil, Nat.zero_mul, Nat.zero_add]
    rfl
  unfold k1_pay9
  simp only [select, andi, cmpi, subi, divsi, remsi, extui, broadcast, e]
  clear e
  revert q
  decide +kernel

/-- The four columns of `X`, each stood over its group of lanes. -/
def spread (X : IVec S64x4 32) : IVec S64x32 32 :=
  select (cmpi .eq k1_pay9 (broadcast S64x32 3#32)) (broadcastTo S64x32 (shapeCast S64x1 (extractStridedSlice S64x1 ![0, 3] X slices_S64x4_o0_3_S64x1) shapeCasts_S64x1_S64x1) broadcasts_S64x1_S64x32)
  (select (cmpi .eq k1_pay9 (broadcast S64x32 2#32)) (broadcastTo S64x32 (shapeCast S64x1 (extractStridedSlice S64x1 ![0, 2] X slices_S64x4_o0_2_S64x1) shapeCasts_S64x1_S64x1) broadcasts_S64x1_S64x32)
  (select (cmpi .eq k1_pay9 (broadcast S64x32 1#32)) (broadcastTo S64x32 (shapeCast S64x1 (extractStridedSlice S64x1 ![0, 1] X slices_S64x4_o0_1_S64x1) shapeCasts_S64x1_S64x1) broadcasts_S64x1_S64x32)
  (select (cmpi .eq k1_pay9 (broadcast S64x32 0#32)) (broadcastTo S64x32 (shapeCast S64x1 (extractStridedSlice S64x1 ![0, 0] X slices_S64x4_o0_0_S64x1) shapeCasts_S64x1_S64x1) broadcasts_S64x1_S64x32) k1_pay10)))

theorem spread_at (X : IVec S64x4 32) (b : Fin 64) (q : Fin 32) (k : Fin 4) (hk : q.val / 8 = k.val) : spread X (ix2 b q) = X (ix2 b k) := by
  unfold spread
  simp only [WordCmp.select_at, WordCmp.cmpi_at]
  rw [group_at, hk, column_spread 3 ![0, 3] rfl rfl X, column_spread 2 ![0, 2] rfl rfl X, column_spread 1 ![0, 1] rfl rfl X, column_spread 0 ![0, 0] rfl rfl X]
  exact chain k (fun k => X (ix2 b k)) _

/-- The group of `h` that `E` names, lane by lane. -/
def tile (E h : IVec S64x32 32) : IVec S64x32 32 :=
  let g3 := extractStridedSlice S64x8 ![0, 24] h slices_S64x32_o0_24_S64x8
  let g2 := extractStridedSlice S64x8 ![0, 16] h slices_S64x32_o0_16_S64x8
  let g1 := extractStridedSlice S64x8 ![0, 8] h slices_S64x32_o0_8_S64x8
  let g0 := extractStridedSlice S64x8 ![0, 0] h slices_S64x32_o0_0_S64x8
  select (cmpi .eq E (broadcast S64x32 3#32)) (concatenate S64x32 1 [⟨S64x8, g3⟩, ⟨S64x8, g3⟩, ⟨S64x8, g3⟩, ⟨S64x8, g3⟩] concatenates_S64x8_S64x8_S64x8_S64x8_S64x32_d1)
  (select (cmpi .eq E (broadcast S64x32 2#32)) (concatenate S64x32 1 [⟨S64x8, g2⟩, ⟨S64x8, g2⟩, ⟨S64x8, g2⟩, ⟨S64x8, g2⟩] concatenates_S64x8_S64x8_S64x8_S64x8_S64x32_d1)
  (select (cmpi .eq E (broadcast S64x32 1#32)) (concatenate S64x32 1 [⟨S64x8, g1⟩, ⟨S64x8, g1⟩, ⟨S64x8, g1⟩, ⟨S64x8, g1⟩] concatenates_S64x8_S64x8_S64x8_S64x8_S64x32_d1)
  (select (cmpi .eq E (broadcast S64x32 0#32)) (concatenate S64x32 1 [⟨S64x8, g0⟩, ⟨S64x8, g0⟩, ⟨S64x8, g0⟩, ⟨S64x8, g0⟩] concatenates_S64x8_S64x8_S64x8_S64x8_S64x32_d1) k1_pay10)))

/-- Lane `l` of group `k`. -/
def lane (k : Fin 4) (l : Fin 8) : Fin 32 := ⟨k.val * 8 + l.val, by have := k.isLt; have := l.isLt; omega⟩

theorem group_slice (a : Fin 4) (off : Fin 2 → Nat) (h0 : off 0 = 0) (h1 : off 1 = a.val * 8) (h : IVec S64x32 32) (hs : S64x32.Slices off S64x8) (b : Fin 64) (k : Fin 4) (l : Fin 8) :
    concatenate S64x32 1 [⟨S64x8, extractStridedSlice S64x8 off h hs⟩, ⟨S64x8, extractStridedSlice S64x8 off h hs⟩, ⟨S64x8, extractStridedSlice S64x8 off h hs⟩, ⟨S64x8, extractStridedSlice S64x8 off h hs⟩]
      concatenates_S64x8_S64x8_S64x8_S64x8_S64x32_d1 (ix2 b (lane k l)) = h (ix2 b (lane a l)) := by
  refine (joined (K := 8) (W := 32) (fun _ => extractStridedSlice S64x8 off h hs) concatenates_S64x8_S64x8_S64x8_S64x8_S64x32_d1 b (lane k l) k l rfl).trans ?_
  refine extractStridedSlice_apply off h hs _ _ fun d => ?_
  match d with
  | ⟨0, _⟩ => show b.val = off 0 + b.val; omega
  | ⟨1, _⟩ => show a.val * 8 + l.val = off 1 + l.val; omega

theorem tile_at (E h : IVec S64x32 32) (b : Fin 64) (k : Fin 4) (l : Fin 8) (a : Fin 4) (hE : E (ix2 b (lane k l)) = BitVec.ofNat 32 a.val) :
    tile E h (ix2 b (lane k l)) = h (ix2 b (lane a l)) := by
  unfold tile
  simp only [WordCmp.select_at, WordCmp.cmpi_at]
  rw [hE, group_slice 3 ![0, 24] rfl rfl h, group_slice 2 ![0, 16] rfl rfl h, group_slice 1 ![0, 8] rfl rfl h, group_slice 0 ![0, 0] rfl rfl h]
  exact chain a (fun a => h (ix2 b (lane a l))) _

/-- The column of `T` that `P` names. -/
def choose (P T : IVec S64x4 32) : IVec S64x4 32 :=
  select (cmpi .eq P (broadcast S64x4 3#32)) (broadcastTo S64x4 (shapeCast S64x1 (extractStridedSlice S64x1 ![0, 3] T slices_S64x4_o0_3_S64x1) shapeCasts_S64x1_S64x1) broadcasts_S64x1_S64x4)
  (select (cmpi .eq P (broadcast S64x4 2#32)) (broadcastTo S64x4 (shapeCast S64x1 (extractStridedSlice S64x1 ![0, 2] T slices_S64x4_o0_2_S64x1) shapeCasts_S64x1_S64x1) broadcasts_S64x1_S64x4)
  (select (cmpi .eq P (broadcast S64x4 1#32)) (broadcastTo S64x4 (shapeCast S64x1 (extractStridedSlice S64x1 ![0, 1] T slices_S64x4_o0_1_S64x1) shapeCasts_S64x1_S64x1) broadcasts_S64x1_S64x4)
  (select (cmpi .eq P (broadcast S64x4 0#32)) (broadcastTo S64x4 (shapeCast S64x1 (extractStridedSlice S64x1 ![0, 0] T slices_S64x4_o0_0_S64x1) shapeCasts_S64x1_S64x1) broadcasts_S64x1_S64x4) (broadcast S64x4 0#32))))

theorem choose_at (P T : IVec S64x4 32) (b : Fin 64) (j a : Fin 4) (hP : P (ix2 b j) = BitVec.ofNat 32 a.val) : choose P T (ix2 b j) = T (ix2 b a) := by
  unfold choose
  simp only [WordCmp.select_at, WordCmp.cmpi_at]
  rw [hP, column_spread 3 ![0, 3] rfl rfl T, column_spread 2 ![0, 2] rfl rfl T, column_spread 1 ![0, 1] rfl rfl T, column_spread 0 ![0, 0] rfl rfl T]
  exact chain a (fun k => T (ix2 b k)) _

/-- Each group of eight with its own column after it, the four side by side. -/
def paste (j : Fin 4) (o8 o1 : Fin 2 → Nat) (N : IVec S64x32 32) (T : IVec S64x4 32) (h8 : S64x32.Slices o8 S64x8) (h1 : S64x4.Slices o1 S64x1) : IVec S64x9 32 :=
  concatenate S64x9 1 [⟨S64x8, extractStridedSlice S64x8 o8 N h8⟩, ⟨S64x1, extractStridedSlice S64x1 o1 T h1⟩] concatenates_S64x8_S64x1_S64x9_d1

theorem paste_at (j : Fin 4) (o8 o1 : Fin 2 → Nat) (e0 : o8 0 = 0) (e1 : o8 1 = j.val * 8) (d0 : o1 0 = 0) (d1 : o1 1 = j.val) (N : IVec S64x32 32) (T : IVec S64x4 32)
    (h8 : S64x32.Slices o8 S64x8) (h1 : S64x4.Slices o1 S64x1) (b : Fin 64) (l : Fin 9) :
    paste j o8 o1 N T h8 h1 (ix2 b l) = if h : l.val < 8 then N (ix2 b (lane j ⟨l.val, h⟩)) else T (ix2 b j) := by
  unfold paste
  by_cases h : l.val < 8
  · rw [dif_pos h]
    refine (concatenate_pair_apply_left (s₁ := S64x8) (s₂ := S64x1) (t := S64x9) 1 _ _ concatenates_S64x8_S64x1_S64x9_d1 (ix2 b l) rfl (ix2 b ⟨l.val, h⟩ : S64x8.Idx) (fun k => by fin_cases k <;> rfl)).trans ?_
    refine extractStridedSlice_apply o8 N h8 _ _ fun d => ?_
    match d with
    | ⟨0, _⟩ => show b.val = o8 0 + b.val; omega
    | ⟨1, _⟩ => show j.val * 8 + l.val = o8 1 + l.val; omega
  · rw [dif_neg h]
    refine (concatenate_pair_apply_right (s₁ := S64x8) (s₂ := S64x1) (t := S64x9) 1 _ _ concatenates_S64x8_S64x1_S64x9_d1 (ix2 b l) rfl rfl (ix2 b 0 : S64x1.Idx)
      (fun k hk => by fin_cases k; exacts [rfl, absurd rfl hk]) (by show 0 + 8 = l.val; have := l.isLt; omega)).trans ?_
    refine extractStridedSlice_apply o1 T h1 _ _ fun d => ?_
    match d with
    | ⟨0, _⟩ => show b.val = o1 0 + b.val; omega
    | ⟨1, _⟩ => show j.val = o1 1 + 0; omega

def pasted (N : IVec S64x32 32) (T : IVec S64x4 32) : Fin 4 → IVec S64x9 32
  | 0 => paste 0 ![0, 0] ![0, 0] N T slices_S64x32_o0_0_S64x8 slices_S64x4_o0_0_S64x1
  | 1 => paste 1 ![0, 8] ![0, 1] N T slices_S64x32_o0_8_S64x8 slices_S64x4_o0_1_S64x1
  | 2 => paste 2 ![0, 16] ![0, 2] N T slices_S64x32_o0_16_S64x8 slices_S64x4_o0_2_S64x1
  | 3 => paste 3 ![0, 24] ![0, 3] N T slices_S64x32_o0_24_S64x8 slices_S64x4_o0_3_S64x1

theorem pasted_at (N : IVec S64x32 32) (T : IVec S64x4 32) (j : Fin 4) (b : Fin 64) (l : Fin 9) :
    pasted N T j (ix2 b l) = if h : l.val < 8 then N (ix2 b (lane j ⟨l.val, h⟩)) else T (ix2 b j) := by
  match j with
  | 0 => exact paste_at 0 _ _ rfl rfl rfl rfl N T _ _ b l
  | 1 => exact paste_at 1 _ _ rfl rfl rfl rfl N T _ _ b l
  | 2 => exact paste_at 2 _ _ rfl rfl rfl rfl N T _ _ b l
  | 3 => exact paste_at 3 _ _ rfl rfl rfl rfl N T _ _ b l

/-- The beams of the chosen places. -/
def origin (y : S64x1x4.Idx → BitVec 32) : IVec S64x4 32 := k1_pay7 (k1_pay5 (F := Ideal) y) (k1_pay6 (F := Ideal) y) 1#32

theorem cand_tiles (y : S64x1x4.Idx → BitVec 32) (h : S64x32.Idx → BitVec 32) : fCand (F := Ideal) y h = tile (spread (origin y)) (shapeCast S64x32 h shapeCasts_S64x32_S64x32) := rfl

theorem hyp_tiles (x : S64x1x4.Idx → Ideal .f32) (y : S64x1x4.Idx → BitVec 32) (h : S64x32.Idx → BitVec 32) :
    fHyp (F := Ideal) x y h = concatenate S64x36 1
      [⟨S64x9, pasted (tile (spread (fPick x y)) (fCand (F := Ideal) y h)) (choose (fPick x y) (fTok (F := Ideal) y)) 0⟩,
       ⟨S64x9, pasted (tile (spread (fPick x y)) (fCand (F := Ideal) y h)) (choose (fPick x y) (fTok (F := Ideal) y)) 1⟩,
       ⟨S64x9, pasted (tile (spread (fPick x y)) (fCand (F := Ideal) y h)) (choose (fPick x y) (fTok (F := Ideal) y)) 2⟩,
       ⟨S64x9, pasted (tile (spread (fPick x y)) (fCand (F := Ideal) y h)) (choose (fPick x y) (fTok (F := Ideal) y)) 3⟩] concatenates_S64x9_S64x9_S64x9_S64x9_S64x36_d1 := rfl

end Cert.KernelIdeal.Own

end
-- ==== Proof.KernelIdeal.Second.lean ====
/- The arrays the second call leaves, and the program's results as functions of its arguments, over the extended reals. -/
module

public import proofs.«01_k».proof.Proof.KernelIdeal.First

@[expose] public section

noncomputable section

namespace Cert.KernelIdeal.Own

open Cert.KernelIdeal Cert.KernelIdeal.Gen Cert.Proof

open Idealize.ShloMosaic
open Idealize.ShloMosaic.TcCoe

section
variable {F : FTy → Type} [FloatOps F] (V : (c : Dev nD) → (b : Ref sig .tc) → Buf (Elt F) ((c : Thread nD τ).loc b)) (c : Dev nD)

theorem idx1_0 : ∀ t : Fin cfg1.N, win1_0.index t (0 : Fin 3) = 0 ∧ win1_0.index t (1 : Fin 3) = 0 ∧ win1_0.index t (2 : Fin 3) = 0 := by decide +kernel
theorem emb1_0 (t : Fin cfg1.N) (j : S64x1x4.Idx) : ((cfg1.win 0).blk t).view.emb j = j := by
  obtain ⟨e0, e1, e2⟩ := idx1_0 t
  funext k; apply Fin.ext
  match k with
  | ⟨0, _⟩ => show win1_0.index t (0 : Fin 3) * 64 + 1 * (j 0).val = (j 0).val; omega
  | ⟨1, _⟩ => show win1_0.index t (1 : Fin 3) * 1 + 1 * (j 1).val = (j 1).val; omega
  | ⟨2, _⟩ => show win1_0.index t (2 : Fin 3) * 4 + 1 * (j 2).val = (j 2).val; omega

theorem idx1_1 : ∀ t : Fin cfg1.N, win1_1.index t (0 : Fin 3) = 0 ∧ win1_1.index t (1 : Fin 3) = 0 ∧ win1_1.index t (2 : Fin 3) = 0 := by decide +kernel
theorem emb1_1 (t : Fin cfg1.N) (j : S64x1x4.Idx) : ((cfg1.win 1).blk t).view.emb j = j := by
  obtain ⟨e0, e1, e2⟩ := idx1_1 t
  funext k; apply Fin.ext
  match k with
  | ⟨0, _⟩ => show win1_1.index t (0 : Fin 3) * 64 + 1 * (j 0).val = (j 0).val; omega
  | ⟨1, _⟩ => show win1_1.index t (1 : Fin 3) * 1 + 1 * (j 1).val = (j 1).val; omega
  | ⟨2, _⟩ => show win1_1.index t (2 : Fin 3) * 4 + 1 * (j 2).val = (j 2).val; omega

theorem idx1_2 : ∀ t : Fin cfg1.N, win1_2.index t (0 : Fin 2) = 0 ∧ win1_2.index t (1 : Fin 2) = 0 := by decide +kernel
theorem emb1_2 (t : Fin cfg1.N) (j : S64x32.Idx) : ((cfg1.win 2).blk t).view.emb j = j := by
  obtain ⟨e0, e1⟩ := idx1_2 t
  funext k; apply Fin.ext
  match k with
  | ⟨0, _⟩ => show win1_2.index t (0 : Fin 2) * 64 + 1 * (j 0).val = (j 0).val; omega
  | ⟨1, _⟩ => show win1_2.index t (1 : Fin 2) * 32 + 1 * (j 1).val = (j 1).val; omega

theorem idx1_3 : ∀ t : Fin cfg1.N, win1_3.index t (0 : Fin 2) = 0 ∧ win1_3.index t (1 : Fin 2) = 0 := by decide +kernel
theorem emb1_3 (t : Fin cfg1.N) (j : S64x4.Idx) : ((cfg1.win 3).blk t).view.emb j = j := by
  obtain ⟨e0, e1⟩ := idx1_3 t
  funext k; apply Fin.ext
  match k with
  | ⟨0, _⟩ => show win1_3.index t (0 : Fin 2) * 64 + 1 * (j 0).val = (j 0).val; omega
  | ⟨1, _⟩ => show win1_3.index t (1 : Fin 2) * 4 + 1 * (j 1).val = (j 1).val; omega

theorem idx1_4 : ∀ t : Fin cfg1.N, win1_4.index t (0 : Fin 2) = 0 ∧ win1_4.index t (1 : Fin 2) = 0 := by decide +kernel
theorem emb1_4 (t : Fin cfg1.N) (j : S64x4.Idx) : ((cfg1.win 4).blk t).view.emb j = j := by
  obtain ⟨e0, e1⟩ := idx1_4 t
  funext k; apply Fin.ext
  match k with
  | ⟨0, _⟩ => show win1_4.index t (0 : Fin 2) * 64 + 1 * (j 0).val = (j 0).val; omega
  | ⟨1, _⟩ => show win1_4.index t (1 : Fin 2) * 4 + 1 * (j 1).val = (j 1).val; omega

theorem idx1_5 : ∀ t : Fin cfg1.N, win1_5.index t (0 : Fin 2) = 0 ∧ win1_5.index t (1 : Fin 2) = 0 := by decide +kernel
theorem emb1_5 (t : Fin cfg1.N) (j : S64x4.Idx) : ((cfg1.win 5).blk t).view.emb j = j := by
  obtain ⟨e0, e1⟩ := idx1_5 t
  funext k; apply Fin.ext
  match k with
  | ⟨0, _⟩ => show win1_5.index t (0 : Fin 2) * 64 + 1 * (j 0).val = (j 0).val; omega
  | ⟨1, _⟩ => show win1_5.index t (1 : Fin 2) * 4 + 1 * (j 1).val = (j 1).val; omega

theorem idx1_6 : ∀ t : Fin cfg1.N, win1_6.index t (0 : Fin 2) = 0 ∧ win1_6.index t (1 : Fin 2) = 0 := by decide +kernel
theorem emb1_6 (t : Fin cfg1.N) (j : S64x4.Idx) : ((cfg1.win 6).blk t).view.emb j = j := by
  obtain ⟨e0, e1⟩ := idx1_6 t
  funext k; apply Fin.ext
  match k with
  | ⟨0, _⟩ => show win1_6.index t (0 : Fin 2) * 64 + 1 * (j 0).val = (j 0).val; omega
  | ⟨1, _⟩ => show win1_6.index t (1 : Fin 2) * 4 + 1 * (j 1).val = (j 1).val; omega

theorem idx1_7 : ∀ t : Fin cfg1.N, win1_7.index t (0 : Fin 2) = 0 ∧ win1_7.index t (1 : Fin 2) = 0 := by decide +kernel
theorem emb1_7 (t : Fin cfg1.N) (j : S64x36.Idx) : ((cfg1.win 7).blk t).view.emb j = j := by
  obtain ⟨e0, e1⟩ := idx1_7 t
  funext k; apply Fin.ext
  match k with
  | ⟨0, _⟩ => show win1_7.index t (0 : Fin 2) * 64 + 1 * (j 0).val = (j 0).val; omega
  | ⟨1, _⟩ => show win1_7.index t (1 : Fin 2) * 36 + 1 * (j 1).val = (j 1).val; omega

theorem inV_eq (t : Fin cfg1.N) : inV V c t = V c main_v0_0 := funext fun j => congrArg (V c main_v0_0) (emb1_0 t j)
theorem inI_eq (t : Fin cfg1.N) : inI V c t = V c main_v0_1 := funext fun j => congrArg (V c main_v0_1) (emb1_1 t j)
theorem inH_eq (t : Fin cfg1.N) : inH V c t = V c main_v1 := funext fun j => congrArg (V c main_v1) (emb1_2 t j)

attribute [local irreducible] fTop in
theorem second_top : (dat1 V c).arrAt 3 cfg1.N = fTop (V c main_v0_0) := by
  refine (dat1 V c).arrAt_eq_of_cover 3 _ (fun t _ => ?_) fun i => ⟨(⟨0, by decide⟩ : Fin cfg1.N), flush1_3 _, ?_⟩
  · rw [← inV_eq V c t]
    funext y
    exact (congrArg (fTop (inV V c t)) (emb1_3 t y)).symm
  · have h := ((cfg1.win 3).blk (⟨0, by decide⟩ : Fin cfg1.N)).view.emb_mem_set i
    rwa [emb1_3] at h

attribute [local irreducible] fAlive in
theorem second_alive : (dat1 V c).arrAt 4 cfg1.N = fAlive (V c main_v0_0) (V c main_v0_1) := by
  refine (dat1 V c).arrAt_eq_of_cover 4 _ (fun t _ => ?_) fun i => ⟨(⟨0, by decide⟩ : Fin cfg1.N), flush1_4 _, ?_⟩
  · rw [← inV_eq V c t, ← inI_eq V c t]
    funext y
    exact (congrArg (fAlive (inV V c t) (inI V c t)) (emb1_4 t y)).symm
  · have h := ((cfg1.win 4).blk (⟨0, by decide⟩ : Fin cfg1.N)).view.emb_mem_set i
    rwa [emb1_4] at h

attribute [local irreducible] fFin in
theorem second_fin : (dat1 V c).arrAt 5 cfg1.N = fFin (V c main_v0_0) (V c main_v0_1) := by
  refine (dat1 V c).arrAt_eq_of_cover 5 _ (fun t _ => ?_) fun i => ⟨(⟨0, by decide⟩ : Fin cfg1.N), flush1_5 _, ?_⟩
  · rw [← inV_eq V c t, ← inI_eq V c t]
    funext y
    exact (congrArg (fFin (inV V c t) (inI V c t)) (emb1_5 t y)).symm
  · have h := ((cfg1.win 5).blk (⟨0, by decide⟩ : Fin cfg1.N)).view.emb_mem_set i
    rwa [emb1_5] at h

attribute [local irreducible] fTok in
theorem second_tok : (dat1 V c).arrAt 6 cfg1.N = fTok (F := F) (V c main_v0_1) := by
  refine (dat1 V c).arrAt_eq_of_cover 6 _ (fun t _ => ?_) fun i => ⟨(⟨0, by decide⟩ : Fin cfg1.N), flush1_6 _, ?_⟩
  · rw [← inI_eq V c t]
    funext y
    exact (congrArg (fTok (F := F) (inI V c t)) (emb1_6 t y)).symm
  · have h := ((cfg1.win 6).blk (⟨0, by decide⟩ : Fin cfg1.N)).view.emb_mem_set i
    rwa [emb1_6] at h

attribute [local irreducible] fHyp in
theorem second_hyp : (dat1 V c).arrAt 7 cfg1.N = fHyp (V c main_v0_0) (V c main_v0_1) (V c main_v1) := by
  refine (dat1 V c).arrAt_eq_of_cover 7 _ (fun t _ => ?_) fun i => ⟨(⟨0, by decide⟩ : Fin cfg1.N), flush1_7 _, ?_⟩
  · rw [← inV_eq V c t, ← inI_eq V c t, ← inH_eq V c t]
    funext y
    exact (congrArg (fHyp (inV V c t) (inI V c t) (inH V c t)) (emb1_7 t y)).symm
  · have h := ((cfg1.win 7).blk (⟨0, by decide⟩ : Fin cfg1.N)).view.emb_mem_set i
    rwa [emb1_7] at h

end

section
variable (m : (ℓ : Loc nD τ sig) → Buf (Elt Ideal) ℓ) (c : Dev nD)

theorem mid_x : Mid m c main_v0_0 = (dat0 (asBufs (V0 m)) c).arrAt 2 cfg0.N := rfl
theorem mid_i : Mid m c main_v0_1 = (dat0 (asBufs (V0 m)) c).arrAt 3 cfg0.N := rfl
theorem mid_h : Mid m c main_v1 = shapeCast S64x32 (m ((c.tc : Thread nD τ).loc main_arg2)) shapeCasts_S256x8_S64x32 := rfl

theorem res_top : V4 m (outs m) c main_v2_0 = (dat1 (Mid m) c).arrAt 3 cfg1.N := (V4_of m (outs m) c main_v2_0 (by decide)).trans (last0 m (outs m) c)
theorem res_alive : V4 m (outs m) c main_v2_1 = (dat1 (Mid m) c).arrAt 4 cfg1.N := (V4_of m (outs m) c main_v2_1 (by decide)).trans (last1 m (outs m) c)
theorem res_fin : V4 m (outs m) c main_v2_2 = (dat1 (Mid m) c).arrAt 5 cfg1.N := (V4_of m (outs m) c main_v2_2 (by decide)).trans (last2 m (outs m) c)
theorem res_tok : V4 m (outs m) c main_v2_3 = (dat1 (Mid m) c).arrAt 6 cfg1.N := (V4_of m (outs m) c main_v2_3 (by decide)).trans (last3 m (outs m) c)
theorem res_hyp : V4 m (outs m) c main_v3 = shapeCast S256x9 ((dat1 (Mid m) c).arrAt 7 cfg1.N : S64x36.Idx → BitVec 32) shapeCasts_S64x36_S256x9 :=
  (show V4 m (outs m) c main_v3 = shapeCast S256x9 (V3 m (outs m) c main_v2_4 : S64x36.Idx → BitVec 32) shapeCasts_S64x36_S256x9 from rfl).trans
    (congrArg (fun y : S64x36.Idx → BitVec 32 => shapeCast S256x9 y shapeCasts_S64x36_S256x9) (last4 m (outs m) c))

end

end Cert.KernelIdeal.Own

end
-- ==== Proof.KernelIdeal.Result.lean ====
/- The kernel's results under the condition, named on the arguments. -/
module

public import proofs.«01_k».proof.Proof.KernelIdeal.Table
public import proofs.«01_k».proof.Proof.KernelIdeal.Second

@[expose] public section

noncomputable section

namespace Cert.KernelIdeal.Own

open Cert.KernelIdeal Cert.KernelIdeal.Gen Cert.Proof Cert.Proof.Algo Idealize.ShloMosaic Idealize.ShloMosaic.TcCoe

section
variable (x : Scores) (A : Sums)

abbrev chosenV : S64x1x4.Idx → EReal := bestV x A (place x A)
abbrev chosenI : S64x1x4.Idx → BitVec 32 := bestI (place x A)

theorem drop_axis {α : Type} (v : S64x1x4.Idx → α) (b : Fin 64) (k : Fin 4) : shapeCast S64x4 v shapeCasts_S64x1x4_S64x4 (ix2 b k) = v (ix3 b 0 k) :=
  shapeCast_apply _ shapeCasts_S64x1x4_S64x4 (ix2 b k : S64x4.Idx) (ix3 b 0 k : S64x1x4.Idx)
    (by rw [Shape.rowMajor_val_three, Shape.rowMajor_val_two]; show (b.val * 1 + 0) * 4 + k.val = b.val * 4 + k.val; omega)

theorem kTop_at (b : Fin 64) (k : Fin 4) : (fTop (F := Ideal) (chosenV x A) (ix2 b k) : EReal) = topOf x A b k := drop_axis (chosenV x A) b k
theorem kPos_at (b : Fin 64) (k : Fin 4) : k1_pay3 (F := Ideal) (chosenI x A) (ix2 b k) = flat (place x A b k) := drop_axis (chosenI x A) b k

theorem zero_slt (a : Nat) (ha : a < 2 ^ 31) : IntOp.cmpi .slt (BitVec.ofNat 32 a) 0#32 = 0#1 := by
  rw [show (0#32 : BitVec 32) = BitVec.ofNat 32 0 from rfl, WordCmp.cmpi_slt_ofNat ha (by norm_num), decide_eq_false (Nat.not_lt_zero a)]
  rfl

theorem zero_sgt (a : Nat) (h0 : 0 < a) (ha : a < 2 ^ 31) : IntOp.cmpi .sgt (BitVec.ofNat 32 a) 0#32 = 1#1 := by
  show IntOp.cmpi .slt (BitVec.ofNat 32 0) (BitVec.ofNat 32 a) = 1#1
  rw [WordCmp.cmpi_slt_ofNat (by norm_num) ha, decide_eq_true h0]
  rfl

theorem kTok_at (b : Fin 64) (k : Fin 4) : fTok (F := Ideal) (chosenI x A) (ix2 b k) = BitVec.ofNat 32 (tokOf x A b k).val := by
  have hd : Scalar.select (Scalar.cmpi .eq 100000#32 0#32) 1#32 100000#32 = BitVec.ofNat 32 100000 := by decide
  have hr : ∀ u, IntOp.remsi u (k1_pay3 (F := Ideal) (chosenI x A) (ix2 b k)) (BitVec.ofNat 32 100000) = BitVec.ofNat 32 (tokOf x A b k).val := fun u => by
    rw [kPos_at]; exact rem_flat u _
  unfold fTok k1_pay4
  rw [hd]
  simp only [select, andi, xori, cmpi, addi, remsi, broadcast, broadcastTo, hr]
  rw [zero_slt _ (by have := (tokOf x A b k).isLt; omega), show IntOp.xori 0#1 (Scalar.cmpi .slt (BitVec.ofNat 32 100000) 0#32) = 0#1 from by decide, zero_word_and]
  rfl

theorem kOrg_at (b : Fin 64) (k : Fin 4) : origin (chosenI x A) (ix2 b k) = BitVec.ofNat 32 (beamOf x A b k).val := by
  have hr : ∀ u, IntOp.remsi u (flat (place x A b k)) 100000#32 = BitVec.ofNat 32 (tokOf x A b k).val := fun u => rem_flat u _
  have hq : ∀ u, IntOp.divsi u (flat (place x A b k)) 100000#32 = BitVec.ofNat 32 (beamOf x A b k).val := fun u => div_flat u _
  unfold origin k1_pay7 k1_pay6 k1_pay5
  simp only [select, andi, subi, cmpi, divsi, remsi, extui, broadcast, kPos_at, hr, hq]
  refine WordCmp.select_of_eq_zero ?_ _ _
  by_cases hz : (place x A b k).val = 0
  · have ht : (tokOf x A b k).val = 0 := by show (place x A b k).val % 100000 = 0; rw [hz]
    rw [ht, show IntOp.cmpi .ne (BitVec.ofNat 32 0) 0#32 = 0#1 from by decide, and_zero_word]
  · have hlt := (place x A b k).isLt
    have hs : IntOp.cmpi .slt (flat (place x A b k)) 0#32 = 0#1 := zero_slt _ (by omega)
    have hg : IntOp.cmpi .sgt (flat (place x A b k)) 0#32 = 1#1 := zero_sgt _ (Nat.pos_of_ne_zero hz) (by omega)
    rw [hs, hg]
    generalize IntOp.cmpi .ne (BitVec.ofNat 32 (tokOf x A b k).val) 0#32 = w
    revert w
    decide

theorem kFlag_at (b : Fin 64) (k : Fin 4) : (k1_pay15 (F := Ideal) (fTok (F := Ideal) (chosenI x A)) (ix2 b k) : EReal) = flag (tokOf x A b k).val := by
  have w := flag_signed (tokOf x A b k).val (by have := (tokOf x A b k).isLt; omega)
  rw [← kTok_at x A b k] at w
  exact w

theorem kMask_at (b : Fin 64) (k : Fin 4) : (fMask (F := Ideal) (chosenV x A) (chosenI x A) (ix2 b k) : EReal) = maskOf x A b k :=
  congrArg₂ (fun u v : EReal => u + v * neg) (kTop_at x A b k) (kFlag_at x A b k)
theorem kFin_at (b : Fin 64) (k : Fin 4) : (fFin (F := Ideal) (chosenV x A) (chosenI x A) (ix2 b k) : EReal) = finOf x A b k :=
  congrArg₂ (fun u v : EReal => u + (Ideal.ofBits .f32 0x3F800000#32 - v) * neg) (kTop_at x A b k) (kFlag_at x A b k)

variable (hM : ∀ b k, neg < maskOf x A b k) (H : (Mat 256 8).Idx → BitVec 32)

include hM in
theorem kAlive_at (b : Fin 64) (j : Fin 4) : (fAlive (F := Ideal) (chosenV x A) (chosenI x A) (ix2 b j) : EReal) = aliveOf x A b j :=
  alive_at _ _ b (maskOf x A b) (hM b) (kMask_at x A b) j
include hM in
theorem kPick_at (b : Fin 64) (j : Fin 4) : fPick (F := Ideal) (chosenV x A) (chosenI x A) (ix2 b j) = BitVec.ofNat 32 (pick x A b j).val :=
  pick_at _ _ b (maskOf x A b) (hM b) (kMask_at x A b) j

/-- The hypotheses, a batch's four in one row. -/
abbrev rowsOf : S64x32.Idx → BitVec 32 := shapeCast S64x32 H shapeCasts_S256x8_S64x32

theorem rowsOf_at (b : Fin 64) (a : Fin 4) (l : Fin 8) : shapeCast S64x32 (rowsOf H) shapeCasts_S64x32_S64x32 (ix2 b (lane a l)) = H (ix2 (rowOf b a) l) := by
  rw [shapeCast_apply _ shapeCasts_S64x32_S64x32 _ (ix2 b (lane a l) : S64x32.Idx) rfl]
  refine shapeCast_apply _ shapeCasts_S256x8_S64x32 _ _ ?_
  rw [Shape.rowMajor_val_two, Shape.rowMajor_val_two]
  show (4 * b.val + a.val) * 8 + l.val = b.val * 32 + (a.val * 8 + l.val)
  omega

theorem kCand_at (b : Fin 64) (k : Fin 4) (l : Fin 8) : fCand (F := Ideal) (chosenI x A) (rowsOf H) (ix2 b (lane k l)) = H (ix2 (rowOf b (beamOf x A b k)) l) := by
  rw [cand_tiles]
  refine (tile_at _ _ b k l (beamOf x A b k) ?_).trans (rowsOf_at H b _ l)
  rw [spread_at _ b _ k (by show (k.val * 8 + l.val) / 8 = k.val; have := l.isLt; omega)]
  exact kOrg_at x A b k

include hM in
theorem kHyp_at (b : Fin 64) (j : Fin 4) (l : Fin 9) (q : Fin 36) (hq : q.val = j.val * 9 + l.val) :
    fHyp (F := Ideal) (chosenV x A) (chosenI x A) (rowsOf H) (ix2 b q) = candOf x A H b (pick x A b j) l := by
  rw [hyp_tiles]
  refine (joined (K := 9) (W := 36) (pasted _ _) concatenates_S64x9_S64x9_S64x9_S64x9_S64x36_d1 b q j l hq).trans ?_
  rw [pasted_at]
  unfold candOf
  by_cases h : l.val < 8
  · rw [dif_pos h, dif_pos h]
    refine (tile_at _ _ b j ⟨l.val, h⟩ (pick x A b j) ?_).trans (kCand_at x A H b _ _)
    rw [spread_at _ b _ j (by show (j.val * 8 + l.val) / 8 = j.val; omega)]
    exact kPick_at x A hM b j
  · rw [dif_neg h, dif_neg h]
    exact (choose_at _ _ b j (pick x A b j) (kPick_at x A hM b j)).trans (kTok_at x A b _)

theorem ix2_eta {a b : Nat} (i : (Mat a b).Idx) : i = ix2 (i 0) (i 1) := funext fun k => by fin_cases k <;> rfl

theorem top_arr : fTop (F := Ideal) (chosenV x A) = topArr x A := funext fun i => by rw [ix2_eta i]; exact kTop_at x A _ _
theorem fin_arr : fFin (F := Ideal) (chosenV x A) (chosenI x A) = finArr x A := funext fun i => by rw [ix2_eta i]; exact kFin_at x A _ _
theorem tok_arr : fTok (F := Ideal) (chosenI x A) = tokArr x A := funext fun i => by rw [ix2_eta i]; exact kTok_at x A _ _
include hM in
theorem alive_arr : fAlive (F := Ideal) (chosenV x A) (chosenI x A) = aliveArr x A := funext fun i => by rw [ix2_eta i]; exact kAlive_at x A hM _ _
include hM in
theorem hyp_arr : shapeCast S256x9 (fHyp (F := Ideal) (chosenV x A) (chosenI x A) (rowsOf H)) shapeCasts_S64x36_S256x9 = hypArr x A H := by
  suffices key : ∀ (r : Fin 256) (l : Fin 9), shapeCast S256x9 (fHyp (F := Ideal) (chosenV x A) (chosenI x A) (rowsOf H)) shapeCasts_S64x36_S256x9 (ix2 r l) = hypOf x A H r l by
    funext i
    rw [ix2_eta i]
    exact key (i 0) (i 1)
  intro r l
  rw [shapeCast_apply _ shapeCasts_S64x36_S256x9 (ix2 r l : S256x9.Idx)
    (ix2 (batchOf r) (⟨(memberOf r).val * 9 + l.val, by have := (memberOf r).isLt; omega⟩ : Fin 36) : S64x36.Idx) (by
      rw [Shape.rowMajor_val_two, Shape.rowMajor_val_two]
      show r.val / 4 * 36 + (r.val % 4 * 9 + l.val) = r.val * 9 + l.val
      omega)]
  exact kHyp_at x A hM H (batchOf r) (memberOf r) l _ rfl

end

section
variable (m : (ℓ : Loc nD τ sig) → Buf (Elt Ideal) ℓ) (c : Dev nD)

abbrev argX : Scores := m ((c.tc : Thread nD τ).loc main_arg0)
abbrev argA : Sums := m ((c.tc : Thread nD τ).loc main_arg1)
abbrev argH : (Mat 256 8).Idx → BitVec 32 := m ((c.tc : Thread nD τ).loc main_arg2)

variable (hB : ∀ b, Best (batch (argX m c) (argA m c) b) (place (argX m c) (argA m c) b))

include hB in
theorem mid_chosenV : Mid m c main_v0_0 = chosenV (argX m c) (argA m c) := (mid_x m c).trans (first_vals _ c _ hB)
include hB in
theorem mid_chosenI : Mid m c main_v0_1 = chosenI (argX m c) (argA m c) := (mid_i m c).trans (first_places _ c _ hB)

variable (hM : ∀ b k, neg < maskOf (argX m c) (argA m c) b k)

include hB in
theorem out_top : V4 m (outs m) c main_v2_0 = topArr (argX m c) (argA m c) := by
  refine (res_top m c).trans ((second_top _ c).trans ?_)
  rw [mid_chosenV m c hB]; exact top_arr _ _
include hB hM in
theorem out_alive : V4 m (outs m) c main_v2_1 = aliveArr (argX m c) (argA m c) := by
  refine (res_alive m c).trans ((second_alive _ c).trans ?_)
  rw [mid_chosenV m c hB, mid_chosenI m c hB]; exact alive_arr _ _ hM
include hB in
theorem out_fin : V4 m (outs m) c main_v2_2 = finArr (argX m c) (argA m c) := by
  refine (res_fin m c).trans ((second_fin _ c).trans ?_)
  rw [mid_chosenV m c hB, mid_chosenI m c hB]; exact fin_arr _ _
include hB in
theorem out_tok : V4 m (outs m) c main_v2_3 = tokArr (argX m c) (argA m c) := by
  refine (res_tok m c).trans ((second_tok _ c).trans ?_)
  rw [mid_chosenI m c hB]; exact tok_arr _ _
include hB hM in
theorem out_hyp : V4 m (outs m) c main_v3 = hypArr (argX m c) (argA m c) (argH m c) := by
  refine (res_hyp m c).trans ?_
  rw [second_hyp, mid_chosenV m c hB, mid_chosenI m c hB, mid_h m c]
  exact hyp_arr _ _ hM _
end

end Cert.KernelIdeal.Own

end
-- ==== Proof.KernelIdeal.Whole.lean ====
/- The kernel's run, its results named on the arguments. -/
module

public import proofs.«01_k».proof.Proof.KernelIdeal.Final
public import proofs.«01_k».proof.Proof.KernelIdeal.Result

@[expose] public section

noncomputable section

namespace Cert.KernelIdeal.Own

open Cert.KernelIdeal Cert.KernelIdeal.Gen Cert.Proof Cert.Proof.Algo Idealize.ShloMosaic Idealize.ShloMosaic.TcCoe Idealize.SL.Sem

variable (m : (ℓ : Loc nD τ sig) → Buf (Elt Ideal) ℓ)

theorem seen (r : Ref sig .tc) (h : ((Proc.devRef (τ := τ) .tc r)).isScoped = false := by decide) :
    (Proc.devRef (τ := τ) .tc r) ∈ Pipeline.ucRefs τ sig :=
  Finset.mem_filter.mpr ⟨StableHlo.devRef_mem_tcRefs r, by simpa using h⟩

/-- With the best places distinct and ordered, every run ends at the step's results. -/
theorem run (ρ : Dev nD → PrngReg) (hB : ∀ c b, Best (batch (argX m c) (argA m c) b) (place (argX m c) (argA m c) b))
    (hM : ∀ c b k, neg < maskOf (argX m c) (argA m c) b k) :
    θ_run defs (onTc (τ := τ) (main (F := Ideal))) ⟨m, fun _ => 0, ρ⟩ fun r => ∀ c : Dev nD,
      r.2.mem ((c.tc : Thread nD τ).loc main_v2_0) = topArr (argX m c) (argA m c)
      ∧ r.2.mem ((c.tc : Thread nD τ).loc main_v2_1) = aliveArr (argX m c) (argA m c)
      ∧ r.2.mem ((c.tc : Thread nD τ).loc main_v2_2) = finArr (argX m c) (argA m c)
      ∧ r.2.mem ((c.tc : Thread nD τ).loc main_v2_3) = tokArr (argX m c) (argA m c)
      ∧ r.2.mem ((c.tc : Thread nD τ).loc main_v3) = hypArr (argX m c) (argA m c) (argH m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(end_at m c r.2 (h c) main_v2_0 (seen _)).trans (out_top m c (hB c)),
     (end_at m c r.2 (h c) main_v2_1 (seen _)).trans (out_alive m c (hB c) (hM c)),
     (end_at m c r.2 (h c) main_v2_2 (seen _)).trans (out_fin m c (hB c)),
     (end_at m c r.2 (h c) main_v2_3 (seen _)).trans (out_tok m c (hB c)),
     (end_at m c r.2 (h c) main_v3 (seen _)).trans (out_hyp m c (hB c) (hM c)),
     (end_at m c r.2 (h c) main_arg0 (seen _)).trans (V4_main_arg0 m (outs m) c),
     (end_at m c r.2 (h c) main_arg1 (seen _)).trans (V4_main_arg1 m (outs m) c),
     (end_at m c r.2 (h c) main_arg2 (seen _)).trans (V4_main_arg2 m (outs m) c)⟩) (finals m ρ)

end Cert.KernelIdeal.Own

end
-- ==== Proof.ReferenceIdeal.Read.lean ====
/- The reference's results, read on the arguments. -/
module

public import proofs.«01_k».proof.Proof.Gen.ReferenceIdeal.Run
public import proofs.«01_k».proof.Proof.Spec
public import Idealize.ShloMosaic.Lib.Routing.Ops
public import Idealize.ShloMosaic.Lib.Pipeline.Value

@[expose] public section

noncomputable section

namespace Cert.ReferenceIdeal.Read

open Cert.ReferenceIdeal Cert.ReferenceIdeal.Gen Cert.Proof Cert.Proof.Algo Idealize.ShloMosaic
open Cert.KernelIdeal.Own (batch)

section take
variable (J : IVec S256 32)

/-- The first index of each row taken, as the reference bounds it. -/
def start : IVec S256x1 32 :=
  broadcastInDim S256x1 ![0] bcast_S256_S256x1_0 (select (cmpi .slt J (broadcastInDim S256 ![] bcast_S_S256 (constantI S_ 32 0#32)))
    (addi J (broadcastInDim S256 ![] bcast_S_S256 (constantI S_ 32 256#32))) J)

/-- Whether each row taken exists. -/
def inside : IVec S256 1 :=
  Host.reduce IntOp.andi (andi (cmpi .sge (start J) (broadcastInDim S256x1 ![] bcast_S_S256x1 (constantI S_ 32 0#32)))
    (cmpi .sle (start J) (broadcastInDim S256x1 ![0, 1] bcast_S1x1_S256x1_0_1 (broadcastInDim S1x1 ![1] bcast_S1_S1x1_1 (constantI S1 32 255#32)))))
    (constantI S_ 1 1#1) reducesTo_S256x1_S256_d1 h_S_

def take8 (T : IVec S256x8 32) : IVec S256x8 32 :=
  select (broadcastInDim S256x8 ![0] bcast_S256_S256x8_0 (inside J)) (Host.gather gather_S256x8_S256x1_S256x8_1_0_n_n_0_1_18 T (start J))
    (broadcastInDim S256x8 ![] bcast_S_S256x8 (constantI S_ 32 2147483648#32))
def take9 (T : IVec S256x9 32) : IVec S256x9 32 :=
  select (broadcastInDim S256x9 ![0] bcast_S256_S256x9_0 (inside J)) (Host.gather gather_S256x9_S256x1_S256x9_1_0_n_n_0_1_19 T (start J))
    (broadcastInDim S256x9 ![] bcast_S_S256x9 (constantI S_ 32 2147483648#32))

variable (g : Fin 256 → Fin 256) (hg : ∀ i, J (ix1 i) = BitVec.ofNat 32 (g i).val)

include hg in
theorem start_at (i : Fin 256) (z : Fin 1) : start J (ix2 i z) = BitVec.ofNat 32 (g i).val := by
  unfold start
  rw [broadcastInDim_apply _ bcast_S256_S256x1_0 _ (ix2 i z : S256x1.Idx) (ix1 i : S256.Idx) (fun k => by fin_cases k; rfl)]
  show Scalar.select (IntOp.cmpi .slt (J (ix1 i)) (0#32)) (IntOp.addi (J (ix1 i)) 256#32) (J (ix1 i)) = _
  rw [hg, show (0#32 : BitVec 32) = BitVec.ofNat 32 0 from rfl, WordCmp.cmpi_slt_ofNat (by have := (g i).isLt; omega) (by norm_num), WordCmp.select_decide, if_neg (by omega)]

include hg in
theorem inside_at (i : S256.Idx) : inside J i = 1#1 := by
  unfold inside
  refine Host.reduce_andi_one _ _ _ _ _ rfl fun j => ?_
  obtain ⟨r, z, rfl⟩ : ∃ (r : Fin 256) (z : Fin 1), j = ix2 r z := ⟨j 0, j 1, by funext k; fin_cases k <;> rfl⟩
  show IntOp.andi (IntOp.cmpi .sge (start J (ix2 r z)) 0#32) (IntOp.cmpi .sle (start J (ix2 r z)) 255#32) = 1#1
  rw [start_at J g hg]
  generalize g r = w
  revert w
  decide +kernel

include hg in
theorem take8_at (T : IVec S256x8 32) (i : Fin 256) (l : Fin 8) : take8 J T (ix2 i l) = T (ix2 (g i) l) := by
  unfold take8
  rw [WordCmp.select_at, broadcastInDim_apply _ bcast_S256_S256x8_0 _ (ix2 i l : S256x8.Idx) (ix1 i : S256.Idx) (fun k => by fin_cases k; rfl), inside_at J g hg,
    WordCmp.select_of_eq_one rfl]
  exact Routing.gather_row gather_S256x8_S256x1_S256x8_1_0_n_n_0_1_18 rfl rfl rfl rfl rfl T (start J) i l (g i) (start_at J g hg i 0) (by norm_num)

include hg in
theorem take9_at (T : IVec S256x9 32) (i : Fin 256) (l : Fin 9) : take9 J T (ix2 i l) = T (ix2 (g i) l) := by
  unfold take9
  rw [WordCmp.select_at, broadcastInDim_apply _ bcast_S256_S256x9_0 _ (ix2 i l : S256x9.Idx) (ix1 i : S256.Idx) (fun k => by fin_cases k; rfl), inside_at J g hg,
    WordCmp.select_of_eq_one rfl]
  exact Routing.gather_row gather_S256x9_S256x1_S256x9_1_0_n_n_0_1_19 rfl rfl rfl rfl rfl T (start J) i l (g i) (start_at J g hg i 0) (by norm_num)

end take

/-- Rows of a batch's members, of the members' numbers. -/
def across (K : IVec S64x4 32) : IVec S256 32 :=
  shapeCast S256 (addi K (broadcastInDim S64x4 ![0, 1] bcast_S64x1_S64x4_0_1 (broadcastInDim S64x1 ![0] bcast_S64_S64x1_0
    (muli (iotaInDim S64 32 0) (broadcastInDim S64 ![] bcast_S_S64 (constantI S_ 32 4#32)))))) shapeCasts_S64x4_S256

theorem across_at (K : IVec S64x4 32) (k : Fin 64 → Fin 4 → Fin 4) (hk : ∀ b j, K (ix2 b j) = BitVec.ofNat 32 (k b j).val) (i : Fin 256) :
    across K (ix1 i) = BitVec.ofNat 32 (rowOf (batchOf i) (k (batchOf i) (memberOf i))).val := by
  unfold across
  rw [shapeCast_apply _ shapeCasts_S64x4_S256 (ix1 i) (ix2 (batchOf i) (memberOf i) : S64x4.Idx) (by
    rw [Shape.rowMajor_val_two, Shape.rowMajor_val_one]
    show i.val / 4 * 4 + i.val % 4 = i.val
    omega)]
  show IntOp.addi (K (ix2 (batchOf i) (memberOf i))) _ = _
  rw [hk, broadcastInDim_apply _ bcast_S64x1_S64x4_0_1 _ (ix2 (batchOf i) (memberOf i) : S64x4.Idx) (ix2 (batchOf i) 0 : S64x1.Idx) (fun k => by fin_cases k <;> rfl),
    broadcastInDim_apply _ bcast_S64_S64x1_0 _ (ix2 (batchOf i) 0 : S64x1.Idx) (ix1 (batchOf i) : S64.Idx) (fun k => by fin_cases k; rfl)]
  show IntOp.addi (BitVec.ofNat 32 (k (batchOf i) (memberOf i)).val) (IntOp.muli (BitVec.ofNat 32 (batchOf i).val) (BitVec.ofNat 32 4)) = _
  rw [WordCmp.muli_ofNat, WordCmp.addi_ofNat]
  show BitVec.ofNat 32 _ = BitVec.ofNat 32 (4 * (batchOf i).val + _)
  congr 1
  omega

variable (x : FVec Ideal S64x4x100000 .f32) (A : FVec Ideal S64x4 .f32) (H : IVec S256x8 32)

/-- The reference's rows of scores and the terms of its results. -/
abbrev rRows : FVec Ideal S64x400000 .f32 :=
  shapeCast S64x400000 (addf (broadcastInDim S64x4x100000 ![0, 1, 2] bcast_S64x4x1_S64x4x100000_0_1_2 (broadcastInDim S64x4x1 ![0, 1] bcast_S64x4_S64x4x1_0_1 A)) x) shapeCasts_S64x4x100000_S64x400000
def rTop : FVec Ideal S64x4 .f32 := (Host.topK S64x4 1 (FloatOps.cmpfTotal (F := Ideal) (φ := .f32) .gt) (rRows x A) sliceFits_S64x400000_S64x4).1
def rPos : IVec S64x4 32 := (Host.topK S64x4 1 (FloatOps.cmpfTotal (F := Ideal) (φ := .f32) .gt) (rRows x A) sliceFits_S64x400000_S64x4).2
def rTok : IVec S64x4 32 := Routing.pyRem bcast_S_S64x4 (rPos x A) (id (constantI S_ 32 100000#32))
def rOrg : IVec S64x4 32 := Routing.pyDiv bcast_S_S64x4 (rPos x A) (id (constantI S_ 32 100000#32))
def rFlag : FVec Ideal S64x4 .f32 := uitofp .f32 (cmpi .eq (rTok x A) (broadcastInDim S64x4 ![] bcast_S_S64x4 (constantI S_ 32 2#32)))
def rMask : FVec Ideal S64x4 .f32 := addf (rTop x A) (mulf (rFlag x A) (broadcastInDim S64x4 ![] bcast_S_S64x4 (constant S_ .f32 0xE0AD78EC#32)))
def rFin : FVec Ideal S64x4 .f32 :=
  addf (rTop x A) (mulf (subf (broadcastInDim S64x4 ![] bcast_S_S64x4 (constant S_ .f32 0x3F800000#32)) (rFlag x A)) (broadcastInDim S64x4 ![] bcast_S_S64x4 (constant S_ .f32 0xE0AD78EC#32)))
def rAlive : FVec Ideal S64x4 .f32 := (Host.topK S64x4 1 (FloatOps.cmpfTotal (F := Ideal) (φ := .f32) .gt) (rMask x A) sliceFits_S64x4_S64x4).1
def rPick : IVec S64x4 32 := (Host.topK S64x4 1 (FloatOps.cmpfTotal (F := Ideal) (φ := .f32) .gt) (rMask x A) sliceFits_S64x4_S64x4).2
def rHyp : IVec S256x9 32 :=
  take9 (across (rPick x A)) (Value.fn_main_v15 (F := Ideal) (take8 (across (rOrg x A)) H) (shapeCast S256x1 (rTok x A) shapeCasts_S64x4_S256x1))

theorem rRows_eq (b : Fin 64) : (fun q => rRows x A (ix2 b q)) = batch x A b := funext fun q => row_at _ _ _ x A b q

theorem rTop_at (b : Fin 64) (k : Fin 4) : (rTop x A (ix2 b k) : EReal) = topOf x A b k := by
  refine (topK_val (R := 64) (n := 400000) (k := 4) (by norm_num) (rRows x A) sliceFits_S64x400000_S64x4 (ix2 b k)).trans ?_
  show (fun q => rRows x A (ix2 b q)) (rank (fun q => rRows x A (ix2 b q)) (k.castLE _)) = _
  rw [rRows_eq x A b]
  rfl

theorem rPos_at (b : Fin 64) (k : Fin 4) : rPos x A (ix2 b k) = BitVec.ofNat 32 (place x A b k).val := by
  refine (topK_pos (R := 64) (n := 400000) (k := 4) (by norm_num) (rRows x A) sliceFits_S64x400000_S64x4 (ix2 b k)).trans ?_
  show BitVec.ofNat 32 (rank (fun q => rRows x A (ix2 b q)) (k.castLE _)).val = _
  rw [rRows_eq x A b]
  rfl

theorem rTok_at (b : Fin 64) (k : Fin 4) : rTok x A (ix2 b k) = BitVec.ofNat 32 (tokOf x A b k).val :=
  Routing.pyRem_ap (s := S64x4) bcast_S_S64x4 _ _ (ix2 b k) (rPos_at x A b k) (b := 100000) rfl (by have := (place x A b k).isLt; omega) (by norm_num) (by norm_num)
theorem rOrg_at (b : Fin 64) (k : Fin 4) : rOrg x A (ix2 b k) = BitVec.ofNat 32 (beamOf x A b k).val :=
  Routing.pyDiv_ap (s := S64x4) bcast_S_S64x4 _ _ (ix2 b k) (rPos_at x A b k) (b := 100000) rfl (by have := (place x A b k).isLt; omega) (by norm_num) (by norm_num)

theorem rFlag_at (b : Fin 64) (k : Fin 4) : (rFlag x A (ix2 b k) : EReal) = flag (tokOf x A b k).val := by
  have w := flag_unsigned (tokOf x A b k).val (by have := (tokOf x A b k).isLt; omega)
  rw [← rTok_at x A b k] at w
  exact w

theorem rMask_at (b : Fin 64) (k : Fin 4) : (rMask x A (ix2 b k) : EReal) = maskOf x A b k :=
  congrArg₂ (fun u v : EReal => u + v * neg) (rTop_at x A b k) (rFlag_at x A b k)
theorem rFin_at (b : Fin 64) (k : Fin 4) : (rFin x A (ix2 b k) : EReal) = finOf x A b k :=
  congrArg₂ (fun u v : EReal => u + (Ideal.ofBits .f32 0x3F800000#32 - v) * neg) (rTop_at x A b k) (rFlag_at x A b k)

theorem rMask_eq (b : Fin 64) : (fun q => (rMask x A (ix2 b q) : EReal)) = maskOf x A b := funext fun q => rMask_at x A b q

theorem rAlive_at (b : Fin 64) (j : Fin 4) : (rAlive x A (ix2 b j) : EReal) = aliveOf x A b j := by
  refine (topK_val (R := 64) (n := 4) (k := 4) le_rfl (rMask x A) sliceFits_S64x4_S64x4 (ix2 b j)).trans ?_
  show (fun q => (rMask x A (ix2 b q) : EReal)) (rank (fun q => rMask x A (ix2 b q)) (j.castLE _)) = _
  rw [rMask_eq x A b]
  rfl

theorem rPick_at (b : Fin 64) (j : Fin 4) : rPick x A (ix2 b j) = BitVec.ofNat 32 (pick x A b j).val := by
  refine (topK_pos (R := 64) (n := 4) (k := 4) le_rfl (rMask x A) sliceFits_S64x4_S64x4 (ix2 b j)).trans ?_
  show BitVec.ofNat 32 (rank (fun q => (rMask x A (ix2 b q) : EReal)) (j.castLE _)).val = _
  rw [rMask_eq x A b]
  rfl

theorem batchOf_rowOf (b : Fin 64) (a : Fin 4) : batchOf (rowOf b a) = b := Fin.ext (by show (4 * b.val + a.val) / 4 = b.val; have := a.isLt; omega)
theorem memberOf_rowOf (b : Fin 64) (a : Fin 4) : memberOf (rowOf b a) = a := Fin.ext (by show (4 * b.val + a.val) % 4 = a.val; have := a.isLt; omega)

/-- The rows of the candidates. -/
theorem cand_at (r : Fin 256) (l : Fin 9) :
    Value.fn_main_v15 (F := Ideal) (take8 (across (rOrg x A)) H) (shapeCast S256x1 (rTok x A) shapeCasts_S64x4_S256x1) (ix2 r l) = candOf x A H (batchOf r) (memberOf r) l := by
  unfold Value.fn_main_v15 candOf
  by_cases h : l.val < 8
  · rw [dif_pos h]
    refine (concatenate_pair_apply_left (s₁ := S256x8) (s₂ := S256x1) (t := S256x9) 1 _ _ concatenates_S256x8_S256x1_S256x9_d1 (ix2 r l) rfl (ix2 r ⟨l.val, h⟩ : S256x8.Idx) (fun k => by fin_cases k <;> rfl)).trans ?_
    exact take8_at _ _ (across_at _ (beamOf x A) (rOrg_at x A)) H r ⟨l.val, h⟩
  · rw [dif_neg h]
    refine (concatenate_pair_apply_right (s₁ := S256x8) (s₂ := S256x1) (t := S256x9) 1 _ _ concatenates_S256x8_S256x1_S256x9_d1 (ix2 r l) rfl rfl (ix2 r 0 : S256x1.Idx)
      (fun k hk => by fin_cases k; exacts [rfl, absurd rfl hk]) (by show 0 + 8 = l.val; have := l.isLt; omega)).trans ?_
    rw [shapeCast_apply _ shapeCasts_S64x4_S256x1 (ix2 r 0 : S256x1.Idx) (ix2 (batchOf r) (memberOf r) : S64x4.Idx) (by
      rw [Shape.rowMajor_val_two, Shape.rowMajor_val_two]
      show r.val / 4 * 4 + r.val % 4 = r.val * 1 + 0
      omega)]
    exact rTok_at x A _ _

theorem rHyp_at (i : Fin 256) (l : Fin 9) : rHyp x A H (ix2 i l) = hypOf x A H i l := by
  refine (take9_at _ _ (across_at _ (pick x A) (rPick_at x A)) _ i l).trans ?_
  rw [cand_at, batchOf_rowOf, memberOf_rowOf]
  rfl

end Cert.ReferenceIdeal.Read

end
-- ==== Proof.ReferenceIdeal.Result.lean ====
/- The reference's run, its results named on the arguments. -/
module

public import proofs.«01_k».proof.Proof.ReferenceIdeal.Read

@[expose] public section

noncomputable section

namespace Cert.ReferenceIdeal.Read

open Cert.ReferenceIdeal Cert.ReferenceIdeal.Gen Cert.Proof Cert.Proof.Algo Idealize.ShloMosaic Idealize.ShloMosaic.TcCoe Idealize.SL.Sem

variable (m : (ℓ : Loc nD τ sig) → Buf (Elt Ideal) ℓ) (c : Dev nD)

abbrev argX : Scores := m ((c.tc : Thread nD τ).loc main_arg0)
abbrev argA : Sums := m ((c.tc : Thread nD τ).loc main_arg1)
abbrev argH : (Mat 256 8).Idx → BitVec 32 := m ((c.tc : Thread nD τ).loc main_arg2)

theorem ix2_eta {a b : Nat} (i : (Mat a b).Idx) : i = ix2 (i 0) (i 1) := funext fun k => by fin_cases k <;> rfl

theorem top_eq : rTop (argX m c) (argA m c) = topArr (argX m c) (argA m c) :=
  funext fun i => by rw [ix2_eta i]; exact rTop_at _ _ _ _
theorem alive_eq : rAlive (argX m c) (argA m c) = aliveArr (argX m c) (argA m c) :=
  funext fun i => by rw [ix2_eta i]; exact rAlive_at _ _ _ _
theorem fin_eq : rFin (argX m c) (argA m c) = finArr (argX m c) (argA m c) :=
  funext fun i => by rw [ix2_eta i]; exact rFin_at _ _ _ _
theorem tok_eq : rTok (argX m c) (argA m c) = tokArr (argX m c) (argA m c) :=
  funext fun i => by rw [ix2_eta i]; exact rTok_at _ _ _ _
theorem hyp_eq : rHyp (argX m c) (argA m c) (argH m c) = hypArr (argX m c) (argA m c) (argH m c) :=
  funext fun i => by rw [ix2_eta i]; exact rHyp_at _ _ _ _ _

set_option maxRecDepth 8192 in
theorem res_hyp : (Value.res_main_v30 (F := Ideal) m c : IVec S256x9 32) = rHyp (argX m c) (argA m c) (argH m c) := by
  unfold Value.res_main_v30
  rfl

set_option maxRecDepth 8192 in
theorem run (ρ : Dev nD → PrngReg) :
    θ_run defs (onTc (τ := τ) (main (F := Ideal))) ⟨m, fun _ => 0, ρ⟩ fun r => ∀ c : Dev nD,
      r.2.mem ((c.tc : Thread nD τ).loc main_values) = topArr (argX m c) (argA m c)
      ∧ r.2.mem ((c.tc : Thread nD τ).loc main_values_5) = aliveArr (argX m c) (argA m c)
      ∧ r.2.mem ((c.tc : Thread nD τ).loc main_v26) = finArr (argX m c) (argA m c)
      ∧ r.2.mem ((c.tc : Thread nD τ).loc main_v5) = tokArr (argX m c) (argA m c)
      ∧ r.2.mem ((c.tc : Thread nD τ).loc main_v30) = hypArr (argX m c) (argA m c) (argH m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (top_eq m c), (h c).2.1.trans (alive_eq m c), (h c).2.2.1.trans (fin_eq m c), (h c).2.2.2.1.trans (tok_eq m c),
    (h c).2.2.2.2.1.trans ((res_hyp m c).trans (hyp_eq m c)), (h c).2.2.2.2.2⟩) (Value.run (F := Ideal) m ρ)

end Cert.ReferenceIdeal.Read

end
-- ==== Proof.lean ====
/- The claims: every program runs to its end, and the kernel's results are the reference's. -/
module

public import proofs.«01_k».proof.Defs
public import proofs.«01_k».proof.Proof.Kernel.Run
public import proofs.«01_k».proof.Proof.KernelIdeal.Run
public import proofs.«01_k».proof.Proof.KernelIdeal.Whole
public import proofs.«01_k».proof.Proof.ReferenceIdeal.Result
public import proofs.«01_k».proof.Proof.Premise
public import proofs.«01_k».proof.Proof.Gen.ReferenceIdeal
public import proofs.«01_k».proof.Proof.Gen.ReferenceIdeal.Run

@[expose] public section

noncomputable section

namespace Cert.Proof

open Idealize.ShloMosaic Cert.Proof.Algo

/-- The reference runs to its end and leaves its arguments. -/
theorem reference_frame : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- Under the condition the kernel and the reference end with the same five results. -/
theorem same_results : Cert.algebraic_KernelIdeal_ReferenceIdeal_pre_separated (hPre_separated := premise_facts) := by
  intro m g m' g' hp ha
  haveI := premise_facts
  have hq := fun c b => premise_best (Cert.KernelIdeal.Own.argX m c) (Cert.KernelIdeal.Own.argA m c) (Cert.KernelIdeal.Own.argH m c) (hp c) b
  have hX : ∀ c, Cert.ReferenceIdeal.Read.argX m' c = Cert.KernelIdeal.Own.argX m c := fun c => (ha c).1
  have hA : ∀ c, Cert.ReferenceIdeal.Read.argA m' c = Cert.KernelIdeal.Own.argA m c := fun c => (ha c).2.1
  have hH : ∀ c, Cert.ReferenceIdeal.Read.argH m' c = Cert.KernelIdeal.Own.argH m c := fun c => (ha c).2.2
  exact ⟨fun c => topArr (Cert.KernelIdeal.Own.argX m c) (Cert.KernelIdeal.Own.argA m c),
    fun c => aliveArr (Cert.KernelIdeal.Own.argX m c) (Cert.KernelIdeal.Own.argA m c),
    fun c => finArr (Cert.KernelIdeal.Own.argX m c) (Cert.KernelIdeal.Own.argA m c),
    fun c => tokArr (Cert.KernelIdeal.Own.argX m c) (Cert.KernelIdeal.Own.argA m c),
    fun c => hypArr (Cert.KernelIdeal.Own.argX m c) (Cert.KernelIdeal.Own.argA m c) (Cert.KernelIdeal.Own.argH m c),
    Cert.KernelIdeal.Own.run m g (fun c b => (hq c b).1) (fun c b k => (hq c b).2 k),
    (θ_run Cert.ReferenceIdeal.defs _ _).mono (fun r h c =>
      ⟨(h c).1.trans (by rw [hX, hA]), (h c).2.1.trans (by rw [hX, hA]), (h c).2.2.1.trans (by rw [hX, hA]),
        (h c).2.2.2.1.trans (by rw [hX, hA]), (h c).2.2.2.2.1.trans (by rw [hX, hA, hH]), (h c).2.2.2.2.2⟩) (Cert.ReferenceIdeal.Read.run m' g')⟩

theorem claim : Cert.Claim := ⟨Cert.Kernel.Gen.facts, Cert.KernelIdeal.Gen.facts, Cert.ReferenceIdeal.Gen.facts, premise_facts,
  fun m g _ => Cert.Kernel.Own.frame m g, fun m g _ => Cert.KernelIdeal.Own.frame m g, fun m g _ => Cert.KernelIdeal.Own.frame m g,
  reference_frame, fun m g _ => reference_frame m g trivial, trivial, same_results⟩

end Cert.Proof

end
